-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S64x128x128x64 : Shape := ⟨4, ![64, 128, 128, 64]⟩
abbrev S256x512 : Shape := ⟨2, ![256, 512]⟩
abbrev S32 : Shape := ⟨1, ![32]⟩
abbrev S_ : Shape := ⟨0, ![]⟩
abbrev S512x512 : Shape := ⟨2, ![512, 512]⟩
abbrev S2x128x128x64 : Shape := ⟨4, ![2, 128, 128, 64]⟩
abbrev S256x128x64 : Shape := ⟨3, ![256, 128, 64]⟩
abbrev S1 : Shape := ⟨1, ![1]⟩
abbrev S17 : Shape := ⟨1, ![17]⟩
abbrev S17x1 : Shape := ⟨2, ![17, 1]⟩
abbrev S16 : Shape := ⟨1, ![16]⟩
abbrev S16x1 : Shape := ⟨2, ![16, 1]⟩
abbrev S35 : Shape := ⟨1, ![35]⟩
abbrev S4x512x512 : Shape := ⟨3, ![4, 512, 512]⟩
abbrev S1024x128 : Shape := ⟨2, ![1024, 128]⟩
abbrev S256x256 : Shape := ⟨2, ![256, 256]⟩
abbrev S4 : Shape := ⟨1, ![4]⟩
abbrev S1x512x512 : Shape := ⟨3, ![1, 512, 512]⟩
abbrev S1x256x512 : Shape := ⟨3, ![1, 256, 512]⟩
abbrev S128x64 : Shape := ⟨2, ![128, 64]⟩
abbrev S1x128x64 : Shape := ⟨3, ![1, 128, 64]⟩
abbrev S128x128 : Shape := ⟨2, ![128, 128]⟩
abbrev S1024 : Shape := ⟨1, ![1024]⟩
abbrev S1024x1 : Shape := ⟨2, ![1024, 1]⟩

abbrev nBuf : Space → Nat
  | .hbm => 172
  | .vmem => 10
  | .smem => 1
  | _ => 0

abbrev hbmTy0_0 (i : Nat) : BufTy := match i % 128 with
  | 0 => ⟨S2x128x512, .bf16⟩
  | 1 => ⟨S512x256, .bf16⟩
  | 2 => ⟨S64x128x128x64, .bf16⟩
  | 3 => ⟨S64x128x128x64, .bf16⟩
  | 4 => ⟨S256x512, .bf16⟩
  | 5 => ⟨S32, .i32⟩
  | 6 => ⟨S32, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S256x512, .bf16⟩
  | 14 => ⟨S256x512, .bf16⟩
  | 15 => ⟨S512x512, .bf16⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S2x128x128x64, .bf16⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S2x128x128x64, .bf16⟩
  | 36 => ⟨S2x128x128x64, .bf16⟩
  | 37 => ⟨S256x128x64, .bf16⟩
  | 38 => ⟨S2x128x128x64, .bf16⟩
  | 39 => ⟨S256x128x64, .bf16⟩
  | 40 => ⟨S_, .i32⟩
  | 41 => ⟨S_, .i1⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i1⟩
  | 60 => ⟨S_, .i32⟩
  | 61 => ⟨S_, .i1⟩
  | 62 => ⟨S_, .i1⟩
  | 63 => ⟨S_, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S1, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i1⟩
  | 86 => ⟨S_, .i32⟩
  | 87 => ⟨S_, .i1⟩
  | 88 => ⟨S_, .i1⟩
  | 89 => ⟨S_, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S1, .i32⟩
  | 98 => ⟨S_, .i32⟩
  | 99 => ⟨S17, .i32⟩
  | 100 => ⟨S17, .i32⟩
  | 101 => ⟨S17, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S17, .i32⟩
  | 109 => ⟨S17, .i32⟩
  | 110 => ⟨S_, .i32⟩
  | 111 => ⟨S17, .i32⟩
  | 112 => ⟨S17, .i1⟩
  | 113 => ⟨S_, .i32⟩
  | 114 => ⟨S17, .i32⟩
  | 115 => ⟨S17, .i1⟩
  | 116 => ⟨S_, .i32⟩
  | 117 => ⟨S_, .i1⟩
  | 118 => ⟨S17, .i1⟩
  | 119 => ⟨S17, .i1⟩
  | 120 => ⟨S17, .i1⟩
  | 121 => ⟨S17, .i32⟩
  | 122 => ⟨S17, .i32⟩
  | 123 => ⟨S17, .i32⟩
  | 124 => ⟨S_, .i32⟩
  | 125 => ⟨S17, .i32⟩
  | 126 => ⟨S17, .i1⟩
  | 127 => ⟨S_, .i32⟩
  | _ => ⟨S2x128x512, .bf16⟩

abbrev hbmTy0_1 (i : Nat) : BufTy := match i % 128 with
  | 0 => ⟨S17, .i32⟩
  | 1 => ⟨S17, .i32⟩
  | 2 => ⟨S17, .i32⟩
  | 3 => ⟨S17x1, .i32⟩
  | 4 => ⟨S17, .i32⟩
  | 5 => ⟨S16, .i32⟩
  | 6 => ⟨S16, .i32⟩
  | 7 => ⟨S16, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S16, .i32⟩
  | 15 => ⟨S16, .i32⟩
  | 16 => ⟨S_, .i32⟩
  | 17 => ⟨S16, .i32⟩
  | 18 => ⟨S16, .i1⟩
  | 19 => ⟨S_, .i32⟩
  | 20 => ⟨S16, .i32⟩
  | 21 => ⟨S16, .i1⟩
  | 22 => ⟨S_, .i32⟩
  | 23 => ⟨S_, .i1⟩
  | 24 => ⟨S16, .i1⟩
  | 25 => ⟨S16, .i1⟩
  | 26 => ⟨S16, .i1⟩
  | 27 => ⟨S16, .i32⟩
  | 28 => ⟨S16, .i32⟩
  | 29 => ⟨S16, .i32⟩
  | 30 => ⟨S_, .i32⟩
  | 31 => ⟨S16, .i32⟩
  | 32 => ⟨S16, .i1⟩
  | 33 => ⟨S_, .i32⟩
  | 34 => ⟨S16, .i32⟩
  | 35 => ⟨S16, .i32⟩
  | 36 => ⟨S16, .i32⟩
  | 37 => ⟨S16x1, .i32⟩
  | 38 => ⟨S16, .i32⟩
  | 39 => ⟨S1, .i32⟩
  | 40 => ⟨S1, .i32⟩
  | 41 => ⟨S35, .i32⟩
  | 42 => ⟨S256x512, .f32⟩
  | 43 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S512x512, .bf16⟩
  | .local _ .vmem, ⟨2, _⟩ => ⟨S256x128x64, .bf16⟩
  | .local _ .vmem, ⟨3, _⟩ => ⟨S256x128x64, .bf16⟩
  | .local _ .vmem, ⟨4, _⟩ => ⟨S256x512, .f32⟩
  | .local _ .vmem, ⟨5, _⟩ => ⟨S4x512x512, .bf16⟩
  | .local _ .vmem, ⟨6, _⟩ => ⟨S4x512x512, .bf16⟩
  | .local _ .vmem, ⟨7, _⟩ => ⟨S1024x128, .f32⟩
  | .local _ .vmem, ⟨8, _⟩ => ⟨S1024x128, .bf16⟩
  | .local _ .vmem, ⟨9, _⟩ => ⟨S256x256, .bf16⟩
  | .local _ .smem, ⟨0, _⟩ => ⟨S35, .i32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_c_7 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_c_10 : Ref sig .tc := ⟨.hbm, 29, rfl⟩
abbrev main_v14 : Ref sig .tc := ⟨.hbm, 30, rfl⟩
abbrev main_v15 : Ref sig .tc := ⟨.hbm, 31, rfl⟩
abbrev main_c_11 : Ref sig .tc := ⟨.hbm, 32, rfl⟩
abbrev main_c_12 : Ref sig .tc := ⟨.hbm, 33, rfl⟩
abbrev main_c_13 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_14 : Ref sig .tc := ⟨.hbm, 40, rfl⟩
abbrev main_v21 : Ref sig .tc := ⟨.hbm, 41, rfl⟩
abbrev main_c_15 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_16 : Ref sig .tc := ⟨.hbm, 47, rfl⟩
abbrev main_v26 : Ref sig .tc := ⟨.hbm, 48, rfl⟩
abbrev main_c_17 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_c_1 : Ref sig .tc := ⟨.hbm, 56, rfl⟩
abbrev main_call0_v4 : Ref sig .tc := ⟨.hbm, 57, rfl⟩
abbrev main_call0_c_2 : Ref sig .tc := ⟨.hbm, 58, rfl⟩
abbrev main_call0_v5 : Ref sig .tc := ⟨.hbm, 59, rfl⟩
abbrev main_call0_c_3 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_v27 : Ref sig .tc := ⟨.hbm, 65, rfl⟩
abbrev main_c_18 : Ref sig .tc := ⟨.hbm, 66, rfl⟩
abbrev main_v28 : Ref sig .tc := ⟨.hbm, 67, rfl⟩
abbrev main_c_19 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_20 : Ref sig .tc := ⟨.hbm, 73, rfl⟩
abbrev main_v33 : Ref sig .tc := ⟨.hbm, 74, rfl⟩
abbrev main_c_21 : Ref sig .tc := ⟨.hbm, 75, rfl⟩
abbrev main_call1_v0 : Ref sig .tc := ⟨.hbm, 76, rfl⟩
abbrev main_call1_c : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_c_1 : Ref sig .tc := ⟨.hbm, 82, rfl⟩
abbrev main_call1_v4 : Ref sig .tc := ⟨.hbm, 83, rfl⟩
abbrev main_call1_c_2 : Ref sig .tc := ⟨.hbm, 84, rfl⟩
abbrev main_call1_v5 : Ref sig .tc := ⟨.hbm, 85, rfl⟩
abbrev main_call1_c_3 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_v34 : Ref sig .tc := ⟨.hbm, 91, rfl⟩
abbrev main_c_22 : Ref sig .tc := ⟨.hbm, 92, rfl⟩
abbrev main_v35 : Ref sig .tc := ⟨.hbm, 93, rfl⟩
abbrev main_c_23 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_c_24 : Ref sig .tc := ⟨.hbm, 102, rfl⟩
abbrev main_call2_v0 : Ref sig .tc := ⟨.hbm, 103, rfl⟩
abbrev main_call2_c : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_c_1 : Ref sig .tc := ⟨.hbm, 110, rfl⟩
abbrev main_call2_v5 : Ref sig .tc := ⟨.hbm, 111, rfl⟩
abbrev main_call2_v6 : Ref sig .tc := ⟨.hbm, 112, rfl⟩
abbrev main_call2_c_2 : Ref sig .tc := ⟨.hbm, 113, rfl⟩
abbrev main_call2_v7 : Ref sig .tc := ⟨.hbm, 114, rfl⟩
abbrev main_call2_v8 : Ref sig .tc := ⟨.hbm, 115, rfl⟩
abbrev main_call2_c_3 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_v43 : Ref sig .tc := ⟨.hbm, 123, rfl⟩
abbrev main_c_25 : Ref sig .tc := ⟨.hbm, 124, rfl⟩
abbrev main_v44 : Ref sig .tc := ⟨.hbm, 125, rfl⟩
abbrev main_v45 : Ref sig .tc := ⟨.hbm, 126, rfl⟩
abbrev main_c_26 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_c_27 : Ref sig .tc := ⟨.hbm, 136, rfl⟩
abbrev main_call3_v0 : Ref sig .tc := ⟨.hbm, 137, rfl⟩
abbrev main_call3_c : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_c_1 : Ref sig .tc := ⟨.hbm, 144, rfl⟩
abbrev main_call3_v5 : Ref sig .tc := ⟨.hbm, 145, rfl⟩
abbrev main_call3_v6 : Ref sig .tc := ⟨.hbm, 146, rfl⟩
abbrev main_call3_c_2 : Ref sig .tc := ⟨.hbm, 147, rfl⟩
abbrev main_call3_v7 : Ref sig .tc := ⟨.hbm, 148, rfl⟩
abbrev main_call3_v8 : Ref sig .tc := ⟨.hbm, 149, rfl⟩
abbrev main_call3_c_3 : Ref sig .tc := ⟨.hbm, 150, rfl⟩
abbrev main_call3_v9 : Ref sig .tc := ⟨.hbm, 151, rfl⟩
abbrev main_call3_v10 : Ref sig .tc := ⟨.hbm, 152, rfl⟩
abbrev main_call3_v11 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_v54 : Ref sig .tc := ⟨.hbm, 157, rfl⟩
abbrev main_c_28 : Ref sig .tc := ⟨.hbm, 158, rfl⟩
abbrev main_v55 : Ref sig .tc := ⟨.hbm, 159, rfl⟩
abbrev main_v56 : Ref sig .tc := ⟨.hbm, 160, rfl⟩
abbrev main_c_29 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

@[reducible] def k0_t1_loop : Scf.Loop 32 :=
  let c0_i32_16 : BitVec 32 := 0#32
  let c16_i32 : BitVec 32 := 16#32
  let v19 : BitVec 32 := Scalar.addi c0_i32_16 c16_i32
  let c1_i32_17 : BitVec 32 := 1#32
  ⟨c0_i32_16, v19, c1_i32_17⟩
def k0_cond3 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c1_i32_200 : BitVec 32 := 1#32
  let v278 : BitVec 1 := Scalar.cmpi .sge arg21 c1_i32_200
  let v279 : BitVec 32 := Scalar.extui v278
  let c0_i32_201 : BitVec 32 := 0#32
  let v280 : BitVec 1 := Scalar.cmpi .ne v279 c0_i32_201
  v280

def k0_off1 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off2 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_408 : BitVec 32 := 0#32
  let c0_i32_409 : BitVec 32 := 0#32
  ![v269.toNat, 0, 0]
def k0_off3 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_410 : BitVec 32 := 0#32
  let c0_i32_411 : BitVec 32 := 0#32
  ![v267.toNat, 0, 0]
def k0_off4 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off5 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  ![v269.toNat]
def k0_off6 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_204 : BitVec 32 := 0#32
  let c0_i32_205 : BitVec 32 := 0#32
  ![v269.toNat, 0, 0]
def k0_off7 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_206 : BitVec 32 := 0#32
  let c0_i32_207 : BitVec 32 := 0#32
  ![v267.toNat, 0, 0]
def k0_dev3 (v0 : BitVec 32) : Nat :=
  let c0_i32_203 : BitVec 32 := 0#32
  let c1_i32_202 : BitVec 32 := 1#32
  let v281 : BitVec 32 := Scalar.muli v0 c1_i32_202
  let v282 : BitVec 32 := Scalar.addi c0_i32_203 v281
  v282.toNat
def k0_cond4 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c1_i32_208 : BitVec 32 := 1#32
  let v291 : BitVec 1 := Scalar.cmpi .sge arg21 c1_i32_208
  let v292 : BitVec 32 := Scalar.extui v291
  let c0_i32_209 : BitVec 32 := 0#32
  let v293 : BitVec 1 := Scalar.cmpi .ne v292 c0_i32_209
  v293

def k0_off8 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off9 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_408 : BitVec 32 := 256#32
  let c0_i32_409 : BitVec 32 := 0#32
  ![v269.toNat, 256, 0]
def k0_off10 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_410 : BitVec 32 := 256#32
  let c0_i32_411 : BitVec 32 := 0#32
  ![v267.toNat, 256, 0]
def k0_off11 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_212 : BitVec 32 := 256#32
  let c0_i32_213 : BitVec 32 := 0#32
  ![v269.toNat, 256, 0]
def k0_off12 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_214 : BitVec 32 := 256#32
  let c0_i32_215 : BitVec 32 := 0#32
  ![v267.toNat, 256, 0]
def k0_dev4 (v0 : BitVec 32) : Nat :=
  let c0_i32_211 : BitVec 32 := 0#32
  let c1_i32_210 : BitVec 32 := 1#32
  let v294 : BitVec 32 := Scalar.muli v0 c1_i32_210
  let v295 : BitVec 32 := Scalar.addi c0_i32_211 v294
  v295.toNat
def k0_cond5 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c1_i32_216 : BitVec 32 := 1#32
  let v304 : BitVec 1 := Scalar.cmpi .sge arg21 c1_i32_216
  let v305 : BitVec 32 := Scalar.extui v304
  let c0_i32_217 : BitVec 32 := 0#32
  let v306 : BitVec 1 := Scalar.cmpi .ne v305 c0_i32_217
  v306

def k0_off13 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off14 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_408 : BitVec 32 := 0#32
  let c0_i32_409 : BitVec 32 := 0#32
  ![v269.toNat, 0, 0]
def k0_off15 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_410 : BitVec 32 := 0#32
  let c0_i32_411 : BitVec 32 := 0#32
  ![v267.toNat, 0, 0]
def k0_cond6 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c14_i32_218 : BitVec 32 := 14#32
  let v307 : BitVec 1 := Scalar.cmpi .sle arg21 c14_i32_218
  let v308 : BitVec 32 := Scalar.extui v307
  let c0_i32_219 : BitVec 32 := 0#32
  let v309 : BitVec 1 := Scalar.cmpi .ne v308 c0_i32_219
  v309

def k0_off16 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off17 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  ![v269.toNat]
def k0_off18 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_408 : BitVec 32 := 0#32
  let c0_i32_409 : BitVec 32 := 0#32
  ![v269.toNat, 0, 0]
def k0_off19 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_410 : BitVec 32 := 0#32
  let c0_i32_411 : BitVec 32 := 0#32
  ![v267.toNat, 0, 0]
def k0_dev5 (v1 : BitVec 32) : Nat :=
  let c0_i32_407 : BitVec 32 := 0#32
  let c1_i32_406 : BitVec 32 := 1#32
  let v575 : BitVec 32 := Scalar.muli v1 c1_i32_406
  let v576 : BitVec 32 := Scalar.addi c0_i32_407 v575
  v576.toNat
def k0_cond7 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c1_i32_220 : BitVec 32 := 1#32
  let v310 : BitVec 1 := Scalar.cmpi .sge arg21 c1_i32_220
  let v311 : BitVec 32 := Scalar.extui v310
  let c0_i32_221 : BitVec 32 := 0#32
  let v312 : BitVec 1 := Scalar.cmpi .ne v311 c0_i32_221
  v312

def k0_off20 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off21 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_408 : BitVec 32 := 256#32
  let c0_i32_409 : BitVec 32 := 0#32
  ![v269.toNat, 256, 0]
def k0_off22 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_410 : BitVec 32 := 256#32
  let c0_i32_411 : BitVec 32 := 0#32
  ![v267.toNat, 256, 0]
def k0_cond8 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c14_i32_222 : BitVec 32 := 14#32
  let v313 : BitVec 1 := Scalar.cmpi .sle arg21 c14_i32_222
  let v314 : BitVec 32 := Scalar.extui v313
  let c0_i32_223 : BitVec 32 := 0#32
  let v315 : BitVec 1 := Scalar.cmpi .ne v314 c0_i32_223
  v315

def k0_off23 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off24 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  ![v269.toNat]
def k0_off25 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_408 : BitVec 32 := 256#32
  let c0_i32_409 : BitVec 32 := 0#32
  ![v269.toNat, 256, 0]
def k0_off26 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_410 : BitVec 32 := 256#32
  let c0_i32_411 : BitVec 32 := 0#32
  ![v267.toNat, 256, 0]
def k0_dev6 (v1 : BitVec 32) : Nat :=
  let c0_i32_407 : BitVec 32 := 0#32
  let c1_i32_406 : BitVec 32 := 1#32
  let v575 : BitVec 32 := Scalar.muli v1 c1_i32_406
  let v576 : BitVec 32 := Scalar.addi c0_i32_407 v575
  v576.toNat
def k0_off27 (k0_t1 : Fin k0_t1_loop.trips) : Fin 1 → Nat :=
  let c2_i32_224 : BitVec 32 := 2#32
  let c0_i32_16 : BitVec 32 := 0#32
  let c1_i32_17 : BitVec 32 := 1#32
  let arg21 : BitVec 32 := Scf.iv c0_i32_16 c1_i32_17 k0_t1
  let v316 : BitVec 32 := Scalar.addi c2_i32_224 arg21
  let v317 : Index := Scalar.indexCast v316
  ![v317.toNat]
def k0_off28 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let v319 : Index := Scalar.indexCast v267
  let c0_225 : Index := 0#32
  let c0_226 : Index := 0#32
  ![v319.toNat, 0, 0]
def k0_off29 (v318 : BitVec 32) (c0_i32_232 : BitVec 32) (c0_i32_233 : BitVec 32) : Fin 3 → Nat :=
  let c4_i32_231 : BitVec 32 := 4#32
  let v329 : BitVec 32 := Scalar.muli v318 c4_i32_231
  let v330 : BitVec 32 := Scalar.addi c0_i32_232 v329
  let v331 : BitVec 32 := Scalar.addi v330 c0_i32_233
  let v332 : Index := Scalar.indexCast v331
  let c0_234 : Index := 0#32
  let c0_235 : Index := 0#32
  ![v332.toNat, 0, 0]

def k0_chk3 (v318 : BitVec 32) : Prop :=
  (∀ (r₁ : Fin 2) (r₂ : Fin 4), ∀ a, (k0_off29 v318 (BitVec.ofNat 32 (128 * r₁.val)) (BitVec.ofNat 32 r₂.val)) a + S1x128x64.size a ≤ S256x128x64.size a)
theorem k0_off29_inb : ∀ (v318 : BitVec 32) (k0_hw3 : k0_chk3 v318), ∀ (r₁ : Fin 2) (r₂ : Fin 4), ∀ a, (k0_off29 v318 (BitVec.ofNat 32 (128 * r₁.val)) (BitVec.ofNat 32 r₂.val)) a + S1x128x64.size a ≤ S256x128x64.size a := fun v318 k0_hw3 r₁ r₂ => k0_hw3 r₁ r₂

def k0_off30 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let v542 : Index := Scalar.indexCast v267
  let c256_381 : Index := 256#32
  let c0_382 : Index := 0#32
  ![v542.toNat, 256, 0]
def k0_cond9 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c1_i32_390 : BitVec 32 := 1#32
  let v551 : BitVec 1 := Scalar.cmpi .sge arg21 c1_i32_390
  let v552 : BitVec 32 := Scalar.extui v551
  let c0_i32_391 : BitVec 32 := 0#32
  let v553 : BitVec 1 := Scalar.cmpi .ne v552 c0_i32_391
  v553

def k0_off31 (k0_t1 : Fin k0_t1_loop.trips) : Fin 1 → Nat :=
  let c19_i32 : BitVec 32 := 19#32
  let c0_i32_16 : BitVec 32 := 0#32
  let c1_i32_17 : BitVec 32 := 1#32
  let arg21 : BitVec 32 := Scf.iv c0_i32_16 c1_i32_17 k0_t1
  let v575 : BitVec 32 := Scalar.addi c19_i32 arg21
  let v576 : Index := Scalar.indexCast v575
  ![v576.toNat]
def k0_off32 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let v578 : Index := Scalar.indexCast v267
  let c0_406 : Index := 0#32
  let c0_407 : Index := 0#32
  ![v578.toNat, 0, 0]
def k0_off33 (v577 : BitVec 32) (c0_i32_413 : BitVec 32) (c0_i32_414 : BitVec 32) : Fin 3 → Nat :=
  let c4_i32_412 : BitVec 32 := 4#32
  let v588 : BitVec 32 := Scalar.muli v577 c4_i32_412
  let v589 : BitVec 32 := Scalar.addi c0_i32_413 v588
  let v590 : BitVec 32 := Scalar.addi v589 c0_i32_414
  let v591 : Index := Scalar.indexCast v590
  let c0_415 : Index := 0#32
  let c0_416 : Index := 0#32
  ![v591.toNat, 0, 0]

def k0_chk4 (k0_t1 : Fin k0_t1_loop.trips) (v577 : BitVec 32) : Prop :=
  (∀ (k0_h9 : k0_cond9 k0_t1 = 1#1), ∀ (r₁ : Fin 2) (r₂ : Fin 4), ∀ a, (k0_off33 v577 (BitVec.ofNat 32 (128 * r₁.val)) (BitVec.ofNat 32 r₂.val)) a + S1x128x64.size a ≤ S256x128x64.size a)
theorem k0_off33_inb : ∀ (k0_t1 : Fin k0_t1_loop.trips) (v577 : BitVec 32) (k0_hw4 : k0_chk4 k0_t1 v577), ∀ (k0_h9 : k0_cond9 k0_t1 = 1#1), ∀ (r₁ : Fin 2) (r₂ : Fin 4), ∀ a, (k0_off33 v577 (BitVec.ofNat 32 (128 * r₁.val)) (BitVec.ofNat 32 r₂.val)) a + S1x128x64.size a ≤ S256x128x64.size a := fun k0_t1 v577 k0_hw4 k0_h9 r₁ r₂ => k0_hw4 k0_h9 r₁ r₂

def k0_off34 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let v801 : Index := Scalar.indexCast v267
  let c256_562 : Index := 256#32
  let c0_563 : Index := 0#32
  ![v801.toNat, 256, 0]
def k0_off35 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off36 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_393 : BitVec 32 := 0#32
  let c0_i32_394 : BitVec 32 := 0#32
  ![v267.toNat, 0, 0]
def k0_off37 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_395 : BitVec 32 := 0#32
  let c0_i32_396 : BitVec 32 := 0#32
  ![v269.toNat, 0, 0]
def k0_off38 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_398 : BitVec 32 := 256#32
  let c0_i32_399 : BitVec 32 := 0#32
  ![v267.toNat, 256, 0]
def k0_off39 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_400 : BitVec 32 := 256#32
  let c0_i32_401 : BitVec 32 := 0#32
  ![v269.toNat, 256, 0]
def k0_cond10 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c14_i32_402 : BitVec 32 := 14#32
  let v566 : BitVec 1 := Scalar.cmpi .sle arg21 c14_i32_402
  let v567 : BitVec 32 := Scalar.extui v566
  let c0_i32_403 : BitVec 32 := 0#32
  let v568 : BitVec 1 := Scalar.cmpi .ne v567 c0_i32_403
  v568

def k0_off40 (k0_t1 : Fin k0_t1_loop.trips) : Fin 1 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  ![v267.toNat]
def k0_off41 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c0_i32_407 : BitVec 32 := 0#32
  let c0_i32_408 : BitVec 32 := 0#32
  ![v267.toNat, 0, 0]
def k0_off42 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c0_i32_409 : BitVec 32 := 0#32
  let c0_i32_410 : BitVec 32 := 0#32
  ![v269.toNat, 0, 0]
def k0_off43 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c4_i32_193 : BitVec 32 := 4#32
  let v267 : BitVec 32 := Scalar.remsi arg21 c4_i32_193
  let c256_i32_412 : BitVec 32 := 256#32
  let c0_i32_413 : BitVec 32 := 0#32
  ![v267.toNat, 256, 0]
def k0_off44 (k0_t1 : Fin k0_t1_loop.trips) : Fin 3 → Nat :=
  let c0_i32_16 : BitVec 32 := 0#32
  let c1_i32_17 : BitVec 32 := 1#32
  let arg21 : BitVec 32 := Scf.iv c0_i32_16 c1_i32_17 k0_t1
  let c1_i32_194 : BitVec 32 := 1#32
  let v268 : BitVec 32 := Scalar.addi arg21 c1_i32_194
  let c4_i32_195 : BitVec 32 := 4#32
  let v269 : BitVec 32 := Scalar.remsi v268 c4_i32_195
  let c256_i32_414 : BitVec 32 := 256#32
  let c0_i32_415 : BitVec 32 := 0#32
  ![v269.toNat, 256, 0]
def k0_cond11 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c12_i32 : BitVec 32 := 12#32
  let v569 : BitVec 1 := Scalar.cmpi .sle arg21 c12_i32
  let v570 : BitVec 32 := Scalar.extui v569
  let c0_i32_404 : BitVec 32 := 0#32
  let v571 : BitVec 1 := Scalar.cmpi .ne v570 c0_i32_404
  v571

def k0_dev7 (v1 : BitVec 32) : Nat :=
  let c0_i32_408 : BitVec 32 := 0#32
  let c1_i32_407 : BitVec 32 := 1#32
  let v575 : BitVec 32 := Scalar.muli v1 c1_i32_407
  let v576 : BitVec 32 := Scalar.addi c0_i32_408 v575
  v576.toNat

def k0_chk1 (v1 : BitVec 32) : Prop :=
  ((k0_dev1 v1) < nD) ∧
  (∀ k0_t1 : Fin k0_t1_loop.trips, ∀ (k0_h6 : k0_cond6 k0_t1 = 1#1), (k0_dev5 v1) < nD) ∧
  (∀ k0_t1 : Fin k0_t1_loop.trips, ∀ (k0_h8 : k0_cond8 k0_t1 = 1#1), (k0_dev6 v1) < nD) ∧
  (∀ k0_t1 : Fin k0_t1_loop.trips, ∀ (k0_h11 : k0_cond11 k0_t1 = 1#1), (k0_dev7 v1) < nD)
theorem k0_dev1_lt : ∀ (v1 : BitVec 32) (k0_hw1 : k0_chk1 v1), (k0_dev1 v1) < nD := fun v1 k0_hw1 => k0_hw1.1
theorem k0_dev5_lt : ∀ (v1 : BitVec 32) (k0_hw1 : k0_chk1 v1) (k0_t1 : Fin k0_t1_loop.trips), ∀ (k0_h6 : k0_cond6 k0_t1 = 1#1), (k0_dev5 v1) < nD := fun v1 k0_hw1 k0_t1 k0_h6 => k0_hw1.2.1 k0_t1 k0_h6
theorem k0_dev6_lt : ∀ (v1 : BitVec 32) (k0_hw1 : k0_chk1 v1) (k0_t1 : Fin k0_t1_loop.trips), ∀ (k0_h8 : k0_cond8 k0_t1 = 1#1), (k0_dev6 v1) < nD := fun v1 k0_hw1 k0_t1 k0_h8 => k0_hw1.2.2.1 k0_t1 k0_h8
theorem k0_dev7_lt : ∀ (v1 : BitVec 32) (k0_hw1 : k0_chk1 v1) (k0_t1 : Fin k0_t1_loop.trips), ∀ (k0_h11 : k0_cond11 k0_t1 = 1#1), (k0_dev7 v1) < nD := fun v1 k0_hw1 k0_t1 k0_h11 => k0_hw1.2.2.2 k0_t1 k0_h11

def k0_cond12 (k0_t1 : Fin k0_t1_loop.trips) : BitVec 1 :=
  let c0_i32_16 : BitVec 32 := 0#32
  let c1_i32_17 : BitVec 32 := 1#32
  let arg21 : BitVec 32 := Scf.iv c0_i32_16 c1_i32_17 k0_t1
  let c11_i32 : BitVec 32 := 11#32
  let v572 : BitVec 1 := Scalar.cmpi .sle arg21 c11_i32
  let v573 : BitVec 32 := Scalar.extui v572
  let c0_i32_405 : BitVec 32 := 0#32
  let v574 : BitVec 1 := Scalar.cmpi .ne v573 c0_i32_405
  v574

def k0_dev8 (v0 : BitVec 32) : Nat :=
  let c0_i32_408 : BitVec 32 := 0#32
  let c1_i32_407 : BitVec 32 := 1#32
  let v575 : BitVec 32 := Scalar.muli v0 c1_i32_407
  let v576 : BitVec 32 := Scalar.addi c0_i32_408 v575
  v576.toNat

def k0_chk2 (v0 : BitVec 32) : Prop :=
  ((k0_dev2 v0) < nD) ∧
  ((k0_dev3 v0) < nD) ∧
  ((k0_dev4 v0) < nD) ∧
  (∀ k0_t1 : Fin k0_t1_loop.trips, ∀ (k0_h12 : k0_cond12 k0_t1 = 1#1), (k0_dev8 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev4_lt : ∀ (v0 : BitVec 32) (k0_hw2 : k0_chk2 v0), (k0_dev4 v0) < nD := fun v0 k0_hw2 => k0_hw2.2.2.1
theorem k0_dev8_lt : ∀ (v0 : BitVec 32) (k0_hw2 : k0_chk2 v0) (k0_t1 : Fin k0_t1_loop.trips), ∀ (k0_h12 : k0_cond12 k0_t1 = 1#1), (k0_dev8 v0) < nD := fun v0 k0_hw2 k0_t1 k0_h12 => k0_hw2.2.2.2 k0_t1 k0_h12

def k0_off45 (v28 : BitVec 32) (c0_i32_36 : BitVec 32) (c0_i32_37 : BitVec 32) : Fin 3 → Nat :=
  let c4_i32 : BitVec 32 := 4#32
  let v38 : BitVec 32 := Scalar.muli v28 c4_i32
  let v39 : BitVec 32 := Scalar.addi c0_i32_36 v38
  let v40 : BitVec 32 := Scalar.addi v39 c0_i32_37
  let v41 : Index := Scalar.indexCast v40
  let c0_38 : Index := 0#32
  let c0_39 : Index := 0#32
  ![v41.toNat, 0, 0]

def k0_chk5 (v28 : BitVec 32) : Prop :=
  (∀ (r₁ : Fin 2) (r₂ : Fin 4), ∀ a, (k0_off45 v28 (BitVec.ofNat 32 (128 * r₁.val)) (BitVec.ofNat 32 r₂.val)) a + S1x128x64.size a ≤ S256x128x64.size a)
theorem k0_off45_inb : ∀ (v28 : BitVec 32) (k0_hw5 : k0_chk5 v28), ∀ (r₁ : Fin 2) (r₂ : Fin 4), ∀ a, (k0_off45 v28 (BitVec.ofNat 32 (128 * r₁.val)) (BitVec.ofNat 32 r₂.val)) a + S1x128x64.size a ≤ S256x128x64.size a := fun v28 k0_hw5 r₁ r₂ => k0_hw5 r₁ r₂

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S35 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S64x128x512 : Shape := ⟨3, ![64, 128, 512]⟩
abbrev S512x8192 : Shape := ⟨2, ![512, 8192]⟩
abbrev S64x128x128x64 : Shape := ⟨4, ![64, 128, 128, 64]⟩
abbrev S8192x512 : Shape := ⟨2, ![8192, 512]⟩
abbrev S64x128x8192 : Shape := ⟨3, ![64, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S64x128x128x128 : Shape := ⟨4, ![64, 128, 128, 128]⟩
abbrev S1x1x128x128 : Shape := ⟨4, ![1, 1, 128, 128]⟩
abbrev S64x128x128 : Shape := ⟨3, ![64, 128, 128]⟩
abbrev S64x128x128x1 : Shape := ⟨4, ![64, 128, 128, 1]⟩
abbrev S1x1x128x1 : Shape := ⟨4, ![1, 1, 128, 1]⟩
abbrev S64x128x64x128 : Shape := ⟨4, ![64, 128, 64, 128]⟩

abbrev nBuf : Space → Nat
  | .hbm => 72
  | .vmem => 0
  | .smem => 0
  | _ => 0

abbrev bufTy : (tb : Table) → Fin (tcTables nBuf tb) → BufTy
  | .hbm, ⟨0, _⟩ => ⟨S64x128x512, .bf16⟩
  | .hbm, ⟨1, _⟩ => ⟨S512x8192, .bf16⟩
  | .hbm, ⟨2, _⟩ => ⟨S64x128x128x64, .bf16⟩
  | .hbm, ⟨3, _⟩ => ⟨S64x128x128x64, .bf16⟩
  | .hbm, ⟨4, _⟩ => ⟨S8192x512, .bf16⟩
  | .hbm, ⟨5, _⟩ => ⟨S64x128x8192, .f32⟩
  | .hbm, ⟨6, _⟩ => ⟨S64x128x8192, .bf16⟩
  | .hbm, ⟨7, _⟩ => ⟨S64x128x128x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S64x128x128x128, .f32⟩
  | .hbm, ⟨30, _⟩ => ⟨S64x128x128x128, .bf16⟩
  | .hbm, ⟨31, _⟩ => ⟨S64x128x128x128, .f32⟩
  | .hbm, ⟨32, _⟩ => ⟨S_, .f32⟩
  | .hbm, ⟨33, _⟩ => ⟨S64x128x128x128, .f32⟩
  | .hbm, ⟨34, _⟩ => ⟨S64x128x128x128, .f32⟩
  | .hbm, ⟨35, _⟩ => ⟨S1x1x128x128, .i1⟩
  | .hbm, ⟨36, _⟩ => ⟨S_, .f32⟩
  | .hbm, ⟨37, _⟩ => ⟨S_, .f32⟩
  | .hbm, ⟨38, _⟩ => ⟨S64x128x128x128, .i1⟩
  | .hbm, ⟨39, _⟩ => ⟨S64x128x128x128, .f32⟩
  | .hbm, ⟨40, _⟩ => ⟨S64x128x128x128, .f32⟩
  | .hbm, ⟨41, _⟩ => ⟨S_, .f32⟩
  | .hbm, ⟨42, _⟩ => ⟨S64x128x128, .f32⟩
  | .hbm, ⟨43, _⟩ => ⟨S64x128x128x1, .f32⟩
  | .hbm, ⟨44, _⟩ => ⟨S64x128x128x128, .f32⟩
  | .hbm, ⟨45, _⟩ => ⟨S64x128x128x128, .f32⟩
  | .hbm, ⟨46, _⟩ => ⟨S64x128x128x128, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S64x128x128, .f32⟩
  | .hbm, ⟨52, _⟩ => ⟨S64x128x128x1, .f32⟩
  | .hbm, ⟨53, _⟩ => ⟨S_, .f32⟩
  | .hbm, ⟨54, _⟩ => ⟨S_, .f32⟩
  | .hbm, ⟨55, _⟩ => ⟨S64x128x128x1, .i1⟩
  | .hbm, ⟨56, _⟩ => ⟨S64x128x128x1, .f32⟩
  | .hbm, ⟨57, _⟩ => ⟨S64x128x128x1, .f32⟩
  | .hbm, ⟨58, _⟩ => ⟨S64x128x128x128, .f32⟩
  | .hbm, ⟨59, _⟩ => ⟨S64x128x128x128, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S64x128x128x128, .i1⟩
  | .hbm, ⟨64, _⟩ => ⟨S64x128x128x128, .f32⟩
  | .hbm, ⟨65, _⟩ => ⟨S64x128x128x128, .f32⟩
  | .hbm, ⟨66, _⟩ => ⟨S64x128x128x64, .f32⟩
  | .hbm, ⟨67, _⟩ => ⟨S64x128x64x128, .f32⟩
  | .hbm, ⟨68, _⟩ => ⟨S64x128x128x64, .f32⟩
  | .hbm, ⟨69, _⟩ => ⟨S64x128x8192, .f32⟩
  | .hbm, ⟨70, _⟩ => ⟨S8192x512, .f32⟩
  | .hbm, ⟨71, _⟩ => ⟨S64x128x512, .f32⟩
  | _, _ => ⟨S64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Ring.lean ====
/- The ring the devices talk along: device c's place on it, its two neighbours, whose chunk a slot holds after so many
   hops, and the words of the table each device reads its neighbours and the chunks' owners from. -/
module

public import proofs.«01_k».proof.Proof.Gen.KernelIdeal.Skeleton

@[expose] public section

set_option maxRecDepth 16384

namespace Cert.Proof

open Cert.KernelIdeal
open Idealize.ShloMosaic

/-- The device at place i of the ring, counted round. -/
def ringTab : Fin 32 → Fin 32 :=
  ![0, 1, 2, 5, 6, 7, 4, 3, 11, 12, 15, 14, 13, 10, 9, 17, 18, 21, 22, 23, 20, 19, 27, 28, 31, 30, 29, 26, 25, 24, 16, 8]
/-- Device c's place. -/
def posTab : Fin 32 → Fin 32 :=
  ![0, 1, 2, 7, 6, 3, 4, 5, 31, 14, 13, 8, 9, 12, 11, 10, 30, 15, 16, 21, 20, 17, 18, 19, 29, 28, 27, 22, 23, 26, 25, 24]

def ringAt (i : ℕ) : Dev nD := ringTab ⟨i % 32, Nat.mod_lt _ (by decide)⟩
def pos (c : Dev nD) : ℕ := (posTab c).val

/-- The neighbour device c sends to along direction d (0: up the ring, 1: down). -/
def nb (d : Fin 2) (c : Dev nD) : Dev nD := if d = 0 then ringAt (pos c + 1) else ringAt (pos c + 31)
/-- The neighbour device c receives from along direction d. -/
def pv (d : Fin 2) (c : Dev nD) : Dev nD := if d = 0 then ringAt (pos c + 31) else ringAt (pos c + 1)
/-- The device whose chunk device c holds after q hops along direction d. -/
def org (d : Fin 2) (c : Dev nD) (q : ℕ) : Dev nD := if d = 0 then ringAt (pos c + 31 * q) else ringAt (pos c + q)

theorem nb_pv (d : Fin 2) (c : Dev nD) : nb d (pv d c) = c := by revert d c; decide
theorem pv_nb (d : Fin 2) (c : Dev nD) : pv d (nb d c) = c := by revert d c; decide
theorem pv_eq (d : Fin 2) (c : Dev nD) : pv d c = nb (1 - d) c := by revert d c; decide
theorem nb_nb (d : Fin 2) (c : Dev nD) : nb (1 - d) (nb d c) = c := by revert d c; decide

/-- The steps along a direction as a permutation of the devices. -/
def step (d : Fin 2) : Dev nD ≃ Dev nD := ⟨nb d, pv d, pv_nb d, nb_pv d⟩

theorem ringAt_congr {i j : ℕ} (h : i % 32 = j % 32) : ringAt i = ringAt j := by simp only [ringAt, h]
theorem pos_ringAt (i : ℕ) : pos (ringAt i) = i % 32 := by
  have h : ∀ k : Fin 32, (posTab (ringTab k)).val = k.val := by decide
  exact h ⟨i % 32, Nat.mod_lt _ (by decide)⟩
theorem ringAt_pos (c : Dev nD) : ringAt (pos c) = c := by revert c; decide

theorem org_nb (d : Fin 2) (c : Dev nD) (q : ℕ) : org d (nb d c) (q + 1) = org d c q := by
  unfold org nb
  by_cases h : d = 0
  · rw [if_pos h, if_pos h, if_pos h, pos_ringAt]
    exact ringAt_congr (by omega)
  · rw [if_neg h, if_neg h, if_neg h, pos_ringAt]
    exact ringAt_congr (by omega)

theorem org_zero (d : Fin 2) (c : Dev nD) : org d c 0 = c := by
  unfold org; split <;> exact ringAt_pos c

/-- The table device c reads: its two neighbours, then the owners of the chunks that reach it up the ring, then down. -/
def metaW (c : Dev nD) (i : ℕ) : BitVec 32 :=
  Dev.word (if i = 0 then nb 0 c else if i = 1 then nb 1 c else if i < 19 then org 0 c (i - 2) else org 1 c (i - 19))

end Cert.Proof
-- ==== Proof.Sched.lean ====
/- The protocol, as a schedule of rounds over the cells of the 32 devices.

   Four channels: direction d (0: up the ring, 1: down) and half hf of a chunk (0: the query projection's rows, 1: the
   output projection's). In trip h a device sends chunk h of each channel, which it holds in slot h % 4, into slot
   (h + 1) % 4 of its neighbour, where it is chunk h + 1.
   * barrier cell: two units, one from either neighbour; with each comes that the neighbour's slots for chunks 1..3 are free and its credit cell open.
   * receive cell (channel, slot j): one landing per round; round r is chunk 4r + j (4r + 4 for slot 0). It hands over the
     slot's half at the chunk of the device q hops back.
   * send cell (channel, slot j): one landing per round; round r is trip 4r + j. It hands back the share of the slot lent.
   * credit cell (direction): one round of 13 (12) units, unit k raised by the neighbour after its trip k, with it that the
     neighbour's slots for chunks 4..k + 4 are free.
   A slot is handed to its writer through an invariant per (device, channel, chunk), released once and taken once. -/
module

public import proofs.«01_k».proof.Proof.Ring
public import proofs.«01_k».proof.Proof.Gen.KernelIdeal.Launch
public import Idealize.ShloMosaic.Lib.Rounds
public import Idealize.ShloMosaic.Lib.Release
public import Idealize.ShloMosaic.Lib.Pipeline.Regions
public import Idealize.ShloMosaic.Lib.Pipeline.Kit
public import Idealize.ShloMosaic.Lib.Pipeline.RegionTalk
public import Idealize.ShloMosaic.Lib.Tactic

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra -/

/-- A slot's key: the device, the channel, the chunk. -/
abbrev Key : Type := Dev nD × (Fin 2 × Fin 2) × ℕ

abbrev UU : Type := URounds (GSem nD τ sig) Unit × (URounds (GSem nD τ sig) ℕ × Release.USlots Key)

local notation "𝕄" => MT nD τ sig ℕ (Elt F) ℕ UU ℕ

abbrev EP : Emb (URounds (GSem nD τ sig) Unit) (MT nD τ sig ℕ (Elt F) ℕ UU ℕ) := embL
abbrev ER : Emb (URounds (GSem nD τ sig) ℕ) (MT nD τ sig ℕ (Elt F) ℕ UU ℕ) := Emb.inl.trans embR
abbrev ES : Emb (Release.USlots Key) (MT nD τ sig ℕ (Elt F) ℕ UU ℕ) := Emb.inr.trans embR

abbrev 𝒱₀ : Variants := Variants.none

/-! ## The slots -/

/-- The four-slot buffer of direction d. -/
abbrev cM (d : Fin 2) : Memref sig .tc .vmem S4x512x512 .bf16 :=
  match d with
  | 0 => Memref.whole cc0_scratch0
  | 1 => Memref.whole cc0_scratch1

theorem slot_inb (j : Fin 4) (hf : Fin 2) : ∀ a, ![j.val, 256 * hf.val, 0] a + S1x256x512.size a ≤ S4x512x512.size a := by
  revert j hf; decide

/-- Half hf of slot j of direction d's buffer. -/
abbrev hM (d hf : Fin 2) (j : Fin 4) : Memref sig .tc .vmem S256x512 .bf16 :=
  ((cM d).slice (Rect.unit (s := S4x512x512) ![j.val, 256 * hf.val, 0] S1x256x512.size (slot_inb j hf)) (fun _ => rfl)).squeeze
    S256x512 squeezes_S1x256x512_S256x512

/-- The slot chunk q sits in. -/
def sl (q : ℕ) : Fin 4 := ⟨q % 4, Nat.mod_lt _ (by decide)⟩

/-- Device n's half slot, share q, at contents f. -/
abbrev hPts (n : Dev nD) (d hf : Fin 2) (j : Fin 4) (q : PosShare TreeShare) (f : Buf (Elt F) ((hM d hf j).view.loc (n : Thread nD τ))) : sProp 𝕄 :=
  (hM d hf j).view.loc (n : Thread nD τ) ↦[(hM d hf j).view.set]{q} f

/-- Device n's half slot at contents not chosen. -/
def hAny (n : Dev nD) (d hf : Fin 2) (j : Fin 4) : sProp 𝕄 :=
  Release.slot ((hM d hf j).view.loc (n : Thread nD τ)) (hM d hf j).view.set

/-! ## The cells -/

/-- Device c's send (k = 0) or receive (k = 1) semaphore of a channel's slot. -/
def chSem (d hf k : Fin 2) (j : Fin 4) : DmaSem sig := ⟨6 + 16 * d.val + 8 * hf.val + 4 * k.val + j.val, by
  have := d.isLt; have := hf.isLt; have := k.isLt; have := j.isLt; show _ < 38; omega⟩
/-- Which channel, side and slot a copy semaphore serves; none for a staging semaphore. -/
def chOf (i : DmaSem sig) : Option (Fin 2 × Fin 2 × Fin 2 × Fin 4) :=
  if h : i.val < 6 then none
  else some (⟨(i.val - 6) / 16, by have : i.val < 38 := i.isLt; omega⟩, ⟨(i.val - 6) / 8 % 2, by omega⟩, ⟨(i.val - 6) / 4 % 2, by omega⟩,
    ⟨(i.val - 6) % 4, by omega⟩)
theorem chOf_chSem (d hf k : Fin 2) (j : Fin 4) : chOf (chSem d hf k j) = some (d, hf, k, j) := by
  revert d hf k j; decide

abbrev barS : Sem sig := barrier0
def crS (d : Fin 2) : Sem sig := ⟨d.val, by have := d.isLt; show _ < 3; omega⟩

abbrev sendCell (c : Dev nD) (d hf : Fin 2) (j : Fin 4) : GSem nD τ sig := ((c : Thread nD τ), .dma (chSem d hf 0 j))
abbrev recvCell (c : Dev nD) (d hf : Fin 2) (j : Fin 4) : GSem nD τ sig := ((c : Thread nD τ), .dma (chSem d hf 1 j))
abbrev crCell (c : Dev nD) (d : Fin 2) : GSem nD τ sig := ((c : Thread nD τ), .reg (crS d))
abbrev barCell (c : Dev nD) : GSem nD τ sig := ((c : Thread nD τ), .reg barS)

/-- The kernel's own scoped semaphores. -/
def osem (i : Fin 34) : SemLoc sig :=
  if h : i.val < 32 then .dma ⟨6 + i.val, by show _ < 38; omega⟩ else .reg ⟨i.val - 32, by show _ < 3; omega⟩

/-! ## What the landings carry -/

/-- The credit of one half slot's copy. -/
abbrev Ncr : ℕ := (hM 0 0 0).view.dmaCredit
theorem Ncr_pos : 0 < Ncr := View.dmaCredit_pos _ (by decide)

/-- How many chunks a direction sends. -/
def lim (d : Fin 2) : ℕ := 16 - d.val

/-- The two halves of the chunks the devices start with. -/
abbrev Chunks (F : FTy → Type) : Type := Fin 2 → Dev nD → Vec F S256x512 .bf16

variable (ch : Chunks F)

/-- Device n's slot free for chunk q: its reader released it, and the landing's round is reached. -/
def free (n : Dev nD) (d hf : Fin 2) (q : ℕ) : sProp 𝕄 :=
  iprop(Release.released ES (n, (d, hf), q) 1 ∗ reached ER (recvCell n d hf (sl q)) ((q - 1) / 4))
/-- Both halves' slots free for the chunks of a stretch. -/
def frees (n : Dev nD) (d : Fin 2) (a b : ℕ) : sProp 𝕄 :=
  bigSep (Finset.Ico a b) fun q => iprop(free n d 0 q ∗ free n d 1 q)

instance free_persistent (n : Dev nD) (d hf : Fin 2) (q : ℕ) : BI.Persistent (free n d hf q : sProp 𝕄) := by unfold free; infer_instance
instance frees_persistent (n : Dev nD) (d : Fin 2) (a b : ℕ) : BI.Persistent (frees n d a b : sProp 𝕄) := by unfold frees; infer_instance
instance free_storable (n : Dev nD) (d hf : Fin 2) (q : ℕ) : BI.Storable (upEmb : UEmb _ 𝕄) (free n d hf q) := by unfold free; infer_instance
instance frees_storable (n : Dev nD) (d : Fin 2) (a b : ℕ) : BI.Storable (upEmb : UEmb _ 𝕄) (frees n d a b) := by unfold frees; infer_instance

theorem frees_elim (n : Dev nD) (d hf : Fin 2) {a b q : ℕ} (h : q ∈ Finset.Ico a b) : (frees n d a b : sProp 𝕄) ⊢ free n d hf q := by
  refine (bigSep_elim h).trans ?_
  obtain rfl | rfl : hf = 0 ∨ hf = 1 := by revert hf; decide
  · show iprop(free n d 0 q ∗ free n d 1 q) ⊢ (free n d 0 q : sProp 𝕄); iintro ⟨H, -⟩; iexact H
  · show iprop(free n d 0 q ∗ free n d 1 q) ⊢ (free n d 1 q : sProp 𝕄); iintro ⟨-, H⟩; iexact H

/-- Device n's half slot of chunk q, share s, holding the chunk of the device q hops back. -/
def hAt (n : Dev nD) (d hf : Fin 2) (q : ℕ) (s : PosShare TreeShare) : sProp 𝕄 :=
  iprop(∃ f, hPts n d hf (sl q) s f ∗ ⌜(hM d hf (sl q)).view.read (Elt F) f = ch hf (org d n q)⌝)

instance hAt_storable (n : Dev nD) (d hf : Fin 2) (q : ℕ) (s : PosShare TreeShare) :
    BI.Storable (upEmb : UEmb _ 𝕄) (hAt ch n d hf q s) := by unfold hAt; infer_instance
instance hAny_storable (n : Dev nD) (d hf : Fin 2) (j : Fin 4) : BI.Storable (upEmb : UEmb _ 𝕄) (hAny (F := F) n d hf j) := by
  unfold hAny; infer_instance

/-- What the neighbour of n along direction d hands over at the barrier: its slots, free for the first three chunks, and that its
    credit cell of the other direction may be paid. -/
def barPay (n : Dev nD) (d : Fin 2) : sProp 𝕄 := iprop(frees (nb d n) d 1 4 ∗ reached ER (crCell (nb d n) (1 - d)) 0)
instance barPay_persistent (n : Dev nD) (d : Fin 2) : BI.Persistent (barPay n d : sProp 𝕄) := by unfold barPay; infer_instance
instance barPay_storable (n : Dev nD) (d : Fin 2) : BI.Storable (upEmb : UEmb _ 𝕄) (barPay (F := F) n d) := by unfold barPay; infer_instance

/-! ## The schedule -/

/-- The chunk whose landing is round r of a receive cell, and the trip whose sending is round r of a send cell. -/
def chunkOf (j : Fin 4) (r : ℕ) : ℕ := 4 * r + (if j.val = 0 then 4 else j.val)
def tripOf (j : Fin 4) (r : ℕ) : ℕ := 4 * r + j.val
/-- How many landings a copy cell sees. -/
def nRounds (d k : Fin 2) (j : Fin 4) : ℕ :=
  if d.val = 1 ∧ (k.val = 0 ∧ j.val = 3 ∨ k.val = 1 ∧ j.val = 0) then 3 else 4

/-- The units of a credit cell. -/
def nCr (d : Fin 2) : ℕ := 13 - d.val

def dutiesOf : SemLoc sig → ℕ → Finset ℕ
  | .reg s, r => if r = 0 then (if s = barS then {0, 1} else Finset.range (13 - s.val)) else ∅
  | .dma i, r => match chOf i with
    | none => ∅
    | some (d, _, k, j) => if r < nRounds d k j then {0} else ∅

def payOf (n : Dev nD) : SemLoc sig → ℕ → ℕ → sProp 𝕄
  | .reg s, _, u =>
    if s = barS then (if u = 0 then barPay n 0 else barPay n 1)
    else if s.val = 0 then frees (nb 0 n) 0 4 (u + 5) else frees (nb 1 n) 1 4 (u + 5)
  | .dma i, r, _ => match chOf i with
    | none => iprop(emp)
    | some (d, hf, k, j) => if k = 0 then hAt ch n d hf (tripOf j r) fullShare.left else hAt ch n d hf (chunkOf j r) fullShare

instance payOf_storable (n : Dev nD) (s : SemLoc sig) (r u : ℕ) : BI.Storable (upEmb : UEmb _ 𝕄) (payOf ch n s r u) := by
  cases s with
  | reg s => unfold payOf; dsimp only; (repeat' split) <;> infer_instance
  | dma i => unfold payOf; dsimp only; split <;> (repeat' split) <;> infer_instance

def Rd : Rounds.Schedule (GSem nD τ sig) ℕ 𝕄 where
  duties g r := if g.1.2 = .tc then dutiesOf g.2 r else ∅
  unitless _ := False
  amount g _ _ := match g.2 with | .reg _ => 1 | .dma _ => Ncr
  payload g r u := payOf ch g.1.1 g.2 r u
  amount_pos g _ _ _ := by
    cases g.2 with
    | reg _ => exact Nat.one_pos
    | dma _ => exact Ncr_pos

instance Rd_payload_storable (g : GSem nD τ sig) (r u : ℕ) : BI.Storable (upEmb : UEmb _ 𝕄) ((Rd ch).payload g r u) := by
  show BI.Storable upEmb (payOf ch g.1.1 g.2 r u); infer_instance

end Cert.Proof
-- ==== Proof.Debt.lean ====
/- The schedule read off cell by cell, the rounds counted, what a device owes and in which order, and the levels that make every
   wait lie below what is owed. -/
module

public import proofs.«01_k».proof.Proof.Sched

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (ch : Chunks F)

/-! ## The schedule, cell by cell -/

theorem crS_ne_barS (d : Fin 2) : crS d ≠ barS := by revert d; decide
theorem duties_bar (c : Dev nD) : (Rd ch).duties (barCell c) 0 = {0, 1} := rfl
theorem duties_cr (c : Dev nD) (d : Fin 2) : (Rd ch).duties (crCell c d) 0 = Finset.range (nCr d) := by
  dsimp only [Rd, dutiesOf]; rw [if_pos rfl, if_pos rfl, if_neg (crS_ne_barS d)]; rfl
theorem duties_ch (c : Dev nD) (d hf k : Fin 2) (j : Fin 4) (r : ℕ) :
    (Rd ch).duties ((c : Thread nD τ), .dma (chSem d hf k j)) r = if r < nRounds d k j then {0} else ∅ := by
  dsimp only [Rd, dutiesOf]; rw [if_pos rfl, chOf_chSem]
theorem duties_reg_later (c : Dev nD) (s : Sem sig) (r : ℕ) (hr : 1 ≤ r) : (Rd ch).duties ((c : Thread nD τ), .reg s) r = ∅ := by
  dsimp only [Rd, dutiesOf]; rw [if_pos rfl, if_neg (by omega)]

theorem amount_reg (c : Thread nD τ) (s : Sem sig) (r u : ℕ) : (Rd ch).amount (c, .reg s) r u = 1 := rfl
theorem amount_dma (c : Thread nD τ) (i : DmaSem sig) (r u : ℕ) : (Rd ch).amount (c, .dma i) r u = Ncr := rfl

theorem expect_bar (c : Dev nD) : (Rd ch).expect (barCell c) 0 = 2 := rfl
theorem expect_cr (c : Dev nD) (d : Fin 2) : (Rd ch).expect (crCell c d) 0 = nCr d := by
  unfold Schedule.expect Schedule.amountOf
  rw [duties_cr, Finset.sum_congr rfl (fun u _ => amount_reg ch _ _ 0 u), Finset.sum_const, Finset.card_range, smul_eq_mul, mul_one]
theorem expect_ch (c : Dev nD) (d hf k : Fin 2) (j : Fin 4) {r : ℕ} (hr : r < nRounds d k j) :
    (Rd ch).expect ((c : Thread nD τ), .dma (chSem d hf k j)) r = Ncr := by
  unfold Schedule.expect Schedule.amountOf; rw [duties_ch, if_pos hr, Finset.sum_singleton, amount_dma]

theorem payload_bar (c : Dev nD) (d : Fin 2) : (Rd ch).payload (barCell c) 0 d.val = barPay c d := by
  obtain rfl | rfl : d = 0 ∨ d = 1 := by revert d; decide
  · rfl
  · rfl
theorem payload_cr (c : Dev nD) (d : Fin 2) (u : ℕ) : (Rd ch).payload (crCell c d) 0 u = frees (nb d c) d 4 (u + 5) := by
  obtain rfl | rfl : d = 0 ∨ d = 1 := by revert d; decide
  · rfl
  · rfl
theorem payload_send (c : Dev nD) (d hf : Fin 2) (j : Fin 4) (r u : ℕ) :
    (Rd ch).payload (sendCell c d hf j) r u = hAt ch c d hf (tripOf j r) fullShare.left := by
  dsimp only [Rd, payOf]; rw [chOf_chSem]; exact if_pos rfl
theorem payload_recv (c : Dev nD) (d hf : Fin 2) (j : Fin 4) (r u : ℕ) :
    (Rd ch).payload (recvCell c d hf j) r u = hAt ch c d hf (chunkOf j r) fullShare := by
  dsimp only [Rd, payOf]; rw [chOf_chSem]; exact if_neg (by show ¬ (1 : Fin 2) = 0; decide)

theorem rest_send (c : Dev nD) (d hf : Fin 2) (j : Fin 4) {r : ℕ} (hr : r < nRounds d 0 j) :
    bigSep ((Rd ch).duties (sendCell c d hf j) r \ ∅) (fun u => (Rd ch).payload (sendCell c d hf j) r u)
      = hAt ch c d hf (tripOf j r) fullShare.left := by
  rw [Finset.sdiff_empty, duties_ch, if_pos hr, bigSep_singleton, payload_send]
theorem rest_recv (c : Dev nD) (d hf : Fin 2) (j : Fin 4) {r : ℕ} (hr : r < nRounds d 1 j) :
    bigSep ((Rd ch).duties (recvCell c d hf j) r \ ∅) (fun u => (Rd ch).payload (recvCell c d hf j) r u)
      = hAt ch c d hf (chunkOf j r) fullShare := by
  rw [Finset.sdiff_empty, duties_ch, if_pos hr, bigSep_singleton, payload_recv]

/-! ## Counting rounds -/

/-- The rounds of a receive cell before chunk q, and of a send cell before trip h. -/
def rcnt (j : Fin 4) (q : ℕ) : ℕ := (q + 3 - (if j.val = 0 then 4 else j.val)) / 4
def scnt (j : Fin 4) (h : ℕ) : ℕ := (h + 3 - j.val) / 4

theorem sl_val (q : ℕ) : (sl q).val = q % 4 := rfl
theorem rcnt_sl (q : ℕ) (hq : 1 ≤ q) : rcnt (sl q) q = (q - 1) / 4 := by unfold rcnt; rw [sl_val]; split <;> omega
theorem rcnt_sl_succ (q : ℕ) (hq : 1 ≤ q) : rcnt (sl q) (q + 1) = (q - 1) / 4 + 1 := by unfold rcnt; rw [sl_val]; split <;> omega
theorem rcnt_ne (j : Fin 4) (q : ℕ) (hj : j ≠ sl q) : rcnt j (q + 1) = rcnt j q := by
  have h : j.val ≠ q % 4 := fun h => hj (Fin.ext h)
  have := j.isLt; unfold rcnt; split <;> omega
theorem scnt_sl (h : ℕ) : scnt (sl h) h = h / 4 := by unfold scnt; rw [sl_val]; omega
theorem scnt_sl_succ (h : ℕ) : scnt (sl h) (h + 1) = h / 4 + 1 := by unfold scnt; rw [sl_val]; omega
theorem scnt_ne (j : Fin 4) (h : ℕ) (hj : j ≠ sl h) : scnt j (h + 1) = scnt j h := by
  have h : j.val ≠ h % 4 := fun h => hj (Fin.ext h)
  have := j.isLt; unfold scnt; omega
theorem chunkOf_sl (q : ℕ) (hq : 1 ≤ q) : chunkOf (sl q) ((q - 1) / 4) = q := by unfold chunkOf; rw [sl_val]; split <;> omega
theorem tripOf_sl (h : ℕ) : tripOf (sl h) (h / 4) = h := by unfold tripOf; rw [sl_val]; omega
theorem recv_lt (d : Fin 2) (q : ℕ) (hq : 1 ≤ q) (hl : q ≤ lim d) : (q - 1) / 4 < nRounds d 1 (sl q) := by
  have h0 := d.isLt
  unfold nRounds; unfold lim at hl; rw [sl_val]
  have : (1 : Fin 2).val = 1 := rfl
  split <;> omega
theorem send_lt (d : Fin 2) (h : ℕ) (hl : h < lim d) : h / 4 < nRounds d 0 (sl h) := by
  have h0 := d.isLt
  unfold nRounds; unfold lim at hl; rw [sl_val]
  have : (0 : Fin 2).val = 0 := rfl
  split <;> omega
theorem rcnt_end (d : Fin 2) (j : Fin 4) : rcnt j (lim d + 1) = nRounds d 1 j := by revert d j; decide
theorem scnt_end (d : Fin 2) (j : Fin 4) : scnt j (lim d) = nRounds d 0 j := by revert d j; decide

/-! ## What a device owes, and the levels -/

/-- The s-th landing a device owes: trip s / 6's four sendings, then its two credit units. -/
def item (c : Dev nD) (s : ℕ) : CellTallies nD τ sig ℕ :=
  if hi : s % 6 < 4 then
    if s / 6 < lim ⟨s % 6 / 2, by omega⟩ then
      tallyAt (recvCell (nb ⟨s % 6 / 2, by omega⟩ c) ⟨s % 6 / 2, by omega⟩ ⟨s % 6 % 2, by omega⟩ (sl (s / 6 + 1))) (s / 6 + 1) Ncr
    else 0
  else if s / 6 < nCr ⟨s % 6 - 4, by omega⟩ then tallyAt (crCell (pv ⟨s % 6 - 4, by omega⟩ c) ⟨s % 6 - 4, by omega⟩) (s / 6) 1 else 0

/-- What it owes from the s-th on. -/
def O (c : Dev nD) (s : ℕ) : CellTallies nD τ sig ℕ := ∑ x ∈ Finset.Ico s 96, item c x
theorem O_step (c : Dev nD) {s : ℕ} (hs : s < 96) : O c s = O c (s + 1) + item c s := by
  have h : Finset.Ico s 96 = insert s (Finset.Ico (s + 1) 96) := by
    ext x; simp only [Finset.mem_Ico, Finset.mem_insert]; omega
  unfold O; rw [h, Finset.sum_insert (by simp only [Finset.mem_Ico]; omega), add_comm]
theorem O_end (c : Dev nD) : O c 96 = 0 := rfl

theorem item_send (c : Dev nD) (d hf : Fin 2) (h : ℕ) :
    item c (6 * h + (2 * d.val + hf.val)) = if h < lim d then tallyAt (recvCell (nb d c) d hf (sl (h + 1))) (h + 1) Ncr else 0 := by
  have h1 := d.isLt; have h2 := hf.isLt
  have e1 : (6 * h + (2 * d.val + hf.val)) % 6 = 2 * d.val + hf.val := by omega
  have e2 : (6 * h + (2 * d.val + hf.val)) / 6 = h := by omega
  unfold item
  rw [dif_pos (by omega)]
  simp only [e1, e2]
  have e3 : (⟨(2 * d.val + hf.val) / 2, by omega⟩ : Fin 2) = d := Fin.ext (by show (2 * d.val + hf.val) / 2 = d.val; omega)
  have e4 : (⟨(2 * d.val + hf.val) % 2, by omega⟩ : Fin 2) = hf := Fin.ext (by show (2 * d.val + hf.val) % 2 = hf.val; omega)
  simp only [e3, e4]
theorem item_cr (c : Dev nD) (d : Fin 2) (h : ℕ) :
    item c (6 * h + (4 + d.val)) = if h < nCr d then tallyAt (crCell (pv d c) d) h 1 else 0 := by
  have h1 := d.isLt
  have e1 : (6 * h + (4 + d.val)) % 6 = 4 + d.val := by omega
  have e2 : (6 * h + (4 + d.val)) / 6 = h := by omega
  unfold item
  rw [dif_neg (by omega)]
  simp only [e1, e2]
  have e3 : (⟨4 + d.val - 4, by omega⟩ : Fin 2) = d := Fin.ext (by show 4 + d.val - 4 = d.val; omega)
  simp only [e3]

def L (g : GSem nD τ sig) : Finset ℕ := if g.1.2 = .tc then Finset.range 17 else ∅
theorem L_of_ne (g : GSem nD τ sig) (h : g.1.2 ≠ .tc) : L g = ∅ := if_neg h
theorem L_tc (c : Dev nD) (sm : SemLoc sig) : L ((c : Thread nD τ), sm) = Finset.range 17 := if_pos rfl

/-- The levels: the barrier at 1, credit unit k at 10k + 5, the receive cells' chunk q at 10q, the send cells at 1, the rest at 0. -/
def lv (g : GSem nD τ sig) (ι : ℕ) : ℕ :=
  match g.2 with
  | .reg s => if s = barS then 1 else 10 * ι + 5
  | .dma i => match chOf i with
    | none => 0
    | some (_, _, k, _) => if k = 0 then 1 else 10 * ι
theorem lv_bar (c : Dev nD) (ι : ℕ) : lv (barCell c) ι = 1 := rfl
theorem lv_cr (c : Dev nD) (d : Fin 2) (ι : ℕ) : lv (crCell c d) ι = 10 * ι + 5 := by
  dsimp only [lv]; exact if_neg (crS_ne_barS d)
theorem lv_send (c : Dev nD) (d hf : Fin 2) (j : Fin 4) (ι : ℕ) : lv (sendCell c d hf j) ι = 1 := by
  dsimp only [lv]; rw [chOf_chSem]; rfl
theorem lv_recv (c : Dev nD) (d hf : Fin 2) (j : Fin 4) (ι : ℕ) : lv (recvCell c d hf j) ι = 10 * ι := by
  dsimp only [lv]; rw [chOf_chSem]; exact if_neg (by show ¬ (1 : Fin 2) = 0; decide)

theorem of_tallyAt_pos {g g' : GSem nD τ sig} {ι ι' k : ℕ} (h : 0 < tallyAt g' ι' k g ι) : g = g' ∧ ι = ι' := by
  rw [tallyAt_apply] at h
  by_contra hn; rw [if_neg hn] at h; exact absurd h (Nat.lt_irrefl 0)

theorem item_pos {c : Dev nD} {s : ℕ} (hs : s < 96) {g : GSem nD τ sig} {ι : ℕ} (h : 0 < item c s g ι) :
    ι ∈ L g ∧ 10 * (s / 6) + 5 ≤ lv g ι := by
  have hd0 : ∀ d : Fin 2, lim d ≤ 16 := by decide
  have hd1 : ∀ d : Fin 2, nCr d ≤ 16 := by decide
  unfold item at h
  split at h
  · split at h
    · rename_i hl
      obtain ⟨rfl, rfl⟩ := of_tallyAt_pos h
      have := hd0 ⟨s % 6 / 2, by omega⟩
      refine ⟨by rw [L_tc, Finset.mem_range]; omega, ?_⟩
      rw [lv_recv]; omega
    · exact absurd h (Nat.lt_irrefl 0)
  · split at h
    · rename_i hl
      obtain ⟨rfl, rfl⟩ := of_tallyAt_pos h
      have := hd1 ⟨s % 6 - 4, by omega⟩
      refine ⟨by rw [L_tc, Finset.mem_range]; omega, ?_⟩
      rw [lv_cr]
    · exact absurd h (Nat.lt_irrefl 0)

theorem O_pos {c : Dev nD} {s : ℕ} {g : GSem nD τ sig} {ι : ℕ} (h : 0 < O c s g ι) : ι ∈ L g ∧ 10 * (s / 6) + 5 ≤ lv g ι := by
  unfold O at h
  rw [Finset.sum_apply, Finsupp.finset_sum_apply] at h
  obtain ⟨x, hx, hpos⟩ := Finset.exists_ne_zero_of_sum_ne_zero (Nat.pos_iff_ne_zero.mp h)
  obtain ⟨h1, h2⟩ := Finset.mem_Ico.mp hx
  obtain ⟨h3, h4⟩ := item_pos h2 (Nat.pos_iff_ne_zero.mpr hpos)
  exact ⟨h3, le_trans (by omega) h4⟩

/-- A wait below everything owed from the s-th landing on. -/
theorem mayWait (c : Dev nD) (sm : SemLoc sig) (ι s : ℕ) (hι : ι < 17) (hl : lv ((c : Thread nD τ), sm) ι < 10 * (s / 6) + 5) :
    (levAts L lv : sProp 𝕄) ⊢ MayWait (c : Thread nD τ) sm ι (O c s) :=
  MayOwe.of_cut (L := L) (lev := lv) (10 * (s / 6) + 4)
    (fun p hp => by rw [Finset.mem_singleton.mp hp, L_tc]; exact Finset.mem_range.mpr hι)
    (fun g u hg => (O_pos hg).1)
    (fun p hp => by rw [Finset.mem_singleton.mp hp]; show lv ((c : Thread nD τ), sm) ι ≤ _; omega)
    (fun g u hg => by have := (O_pos hg).2; omega)

/-! ## Everyone's invariants -/

/-- The cells of the barrier, and those of the kernel's own scope. -/
def barEmb : Dev nD ↪ GSem nD τ sig := ⟨fun c => barCell c, fun a b h => congrArg (fun g : GSem nD τ sig => g.1.1) h⟩
theorem osem_injective : Function.Injective osem := by decide
def scEmb : Dev nD × Fin 34 ↪ GSem nD τ sig := ⟨fun x => ((x.1 : Thread nD τ), osem x.2), fun a b h =>
  Prod.ext (congrArg (fun g : GSem nD τ sig => g.1.1) h) (osem_injective (congrArg (fun g : GSem nD τ sig => g.2) h))⟩
abbrev barCells : Finset (GSem nD τ sig) := Finset.univ.map barEmb
abbrev scCells : Finset (GSem nD τ sig) := Finset.univ.map scEmb

/-- The slots' keys. -/
abbrev keys : Finset Key := Finset.univ ×ˢ (Finset.univ ×ˢ Finset.range 17)

/-- The slot a key names, at contents not chosen. -/
abbrev keySlot (k : Key) : sProp 𝕄 := hAny k.1 k.2.1.1 k.2.1.2 (sl k.2.2)

/-- Every cell's invariant, every slot's, and that every barrier cell's round is reached. -/
def recs (K : GSem nD τ sig → ℕ) (J : Key → ℕ) : sProp 𝕄 :=
  iprop(bigSep (barCells ∪ scCells) (fun g => cellInv ER (Rd ch) (K g) g)
    ∗ bigSep keys (fun k => Release.slotInv ES (J k) k (keySlot k))
    ∗ bigSep barCells (fun g => reached ER g 0))
instance recs_persistent (K : GSem nD τ sig → ℕ) (J : Key → ℕ) : BI.Persistent (recs ch K J) := by unfold recs; infer_instance

theorem chSem_osem (d hf k : Fin 2) (j : Fin 4) : ∃ i, osem i = .dma (chSem d hf k j) := by revert d hf k j; decide
theorem crS_osem (d : Fin 2) : ∃ i, osem i = .reg (crS d) := by revert d; decide

theorem recs_cell (K : GSem nD τ sig → ℕ) (J : Key → ℕ) {g : GSem nD τ sig} (hg : g ∈ barCells ∪ scCells) :
    recs ch K J ⊢ cellInv ER (Rd ch) (K g) g := by
  refine BIBase.Entails.trans ?_ (bigSep_elim (Φ := fun g => cellInv ER (Rd ch) (K g) g) hg)
  unfold recs; iintro ⟨H, -, -⟩; iexact H
theorem recs_bar (K : GSem nD τ sig → ℕ) (J : Key → ℕ) (c : Dev nD) : recs ch K J ⊢ cellInv ER (Rd ch) (K (barCell c)) (barCell c) :=
  recs_cell ch K J (Finset.mem_union_left _ (Finset.mem_map.mpr ⟨c, Finset.mem_univ _, rfl⟩))
theorem recs_ch (K : GSem nD τ sig → ℕ) (J : Key → ℕ) (c : Dev nD) (d hf k : Fin 2) (j : Fin 4) :
    recs ch K J ⊢ cellInv ER (Rd ch) (K ((c : Thread nD τ), .dma (chSem d hf k j))) ((c : Thread nD τ), .dma (chSem d hf k j)) := by
  obtain ⟨i, hi⟩ := chSem_osem d hf k j
  exact recs_cell ch K J (Finset.mem_union_right _ (Finset.mem_map.mpr ⟨(c, i), Finset.mem_univ _, congrArg (fun x => ((c : Thread nD τ), x)) hi⟩))
theorem recs_cr (K : GSem nD τ sig → ℕ) (J : Key → ℕ) (c : Dev nD) (d : Fin 2) :
    recs ch K J ⊢ cellInv ER (Rd ch) (K (crCell c d)) (crCell c d) := by
  obtain ⟨i, hi⟩ := crS_osem d
  exact recs_cell ch K J (Finset.mem_union_right _ (Finset.mem_map.mpr ⟨(c, i), Finset.mem_univ _, congrArg (fun x => ((c : Thread nD τ), x)) hi⟩))
theorem recs_slot (K : GSem nD τ sig → ℕ) (J : Key → ℕ) (c : Dev nD) (d hf : Fin 2) {q : ℕ} (hq : q ≤ 16) :
    recs ch K J ⊢ Release.slotInv ES (J (c, (d, hf), q)) (c, (d, hf), q) (hAny c d hf (sl q)) := by
  have hm : ((c, (d, hf), q) : Key) ∈ keys :=
    Finset.mem_product.mpr ⟨Finset.mem_univ _, Finset.mem_product.mpr ⟨Finset.mem_univ _, Finset.mem_range.mpr (by show q < 17; omega)⟩⟩
  refine BIBase.Entails.trans ?_ (bigSep_elim (Φ := fun k : Key => Release.slotInv ES (J k) k (keySlot (F := F) k)) hm)
  unfold recs; iintro ⟨-, H, -⟩; iexact H
theorem recs_barR (K : GSem nD τ sig → ℕ) (J : Key → ℕ) (c : Dev nD) : recs ch K J ⊢ reached ER (barCell c) 0 := by
  refine BIBase.Entails.trans ?_ (bigSep_elim (Φ := fun g : GSem nD τ sig => (reached ER g 0 : sProp 𝕄)) (Finset.mem_map.mpr ⟨c, Finset.mem_univ _, rfl⟩ : barCell c ∈ barCells))
  unfold recs; iintro ⟨-, -, H⟩; iexact H

end Cert.Proof
-- ==== Proof.Steps.lean ====
/- The steps of a channel, each taken once at any device, direction, half and trip: the wait for a landing, a sending, the wait for
   a sending, the release of a slot, the units of the credit cells and of the barrier. -/
module

public import proofs.«01_k».proof.Proof.Debt

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (ch : Chunks F)

/-! ## What a device holds of a channel -/

/-- Its place on the receive cells before chunk q, with the credits for the chunks to come. -/
def RV (c : Dev nD) (d hf : Fin 2) (q : ℕ) : sProp 𝕄 :=
  iprop(bigSep Finset.univ (fun j => atPos ER (recvCell c d hf j) (rcnt j q) ∅ 0)
    ∗ bigSep (Finset.Ico q (lim d + 1)) fun x => cred (tallyAt (recvCell c d hf (sl x)) x Ncr))
/-- Its place on the send cells before trip h. -/
def SP (c : Dev nD) (d hf : Fin 2) (h : ℕ) : sProp 𝕄 :=
  bigSep Finset.univ fun j => iprop(atPos ER (sendCell c d hf j) (scnt j h) ∅ 0 ∗ reached ER (sendCell c d hf j) (scnt j h))
/-- What it pays and takes to send in trip t. -/
def sendTok (c : Dev nD) (d hf : Fin 2) (t : ℕ) : sProp 𝕄 :=
  iprop(dutyTok ER (sendCell c d hf (sl t)) (t / 4) 0 ∗ dutyTok ER (recvCell (nb d c) d hf (sl (t + 1))) (t / 4) 0
    ∗ Release.writeTok ES (nb d c, (d, hf), t + 1) 1)
def SD (c : Dev nD) (d hf : Fin 2) (h : ℕ) : sProp 𝕄 := bigSep (Finset.Ico h (lim d)) (sendTok c d hf)
/-- Its right to release its own slots, those of chunk h + 4 on. -/
def RA (c : Dev nD) (d hf : Fin 2) (h : ℕ) : sProp 𝕄 :=
  bigSep (Finset.Ico (h + 4) (lim d + 1)) fun q => Release.readerAt ES (c, (d, hf), q) 0
/-- The half slot of chunk h while it is being sent. -/
def lent (c : Dev nD) (d hf : Fin 2) (h : ℕ) : sProp 𝕄 :=
  iprop(hAt ch c d hf h fullShare.right ∗ cred (tallyAt (sendCell c d hf (sl h)) 0 Ncr))
/-- Its place on the credit cell with m units taken, and the credits for the rest. -/
def CW (c : Dev nD) (d : Fin 2) (m : ℕ) : sProp 𝕄 :=
  if m < nCr d then
    iprop((∃ S : Finset ℕ, ⌜S ⊆ Finset.range (nCr d) ∧ m + (Finset.range (nCr d) \ S).card ≤ nCr d⌝ ∗ atPos ER (crCell c d) 0 S m
      ∗ bigSep S (fun u => frees (nb d c) d 4 (u + 5))) ∗ bigSep (Finset.Ico m (nCr d)) fun x => cred (tallyAt (crCell c d) x 1))
  else atPos ER (crCell c d) 1 ∅ 0
/-- Its duties on the credit cell of the device it receives from. -/
def CS (c : Dev nD) (d : Fin 2) (h : ℕ) : sProp 𝕄 := bigSep (Finset.Ico h (nCr d)) fun u => dutyTok ER (crCell (pv d c) d) 0 u

/-- What it still owes. -/
def OW (c : Dev nD) (s : ℕ) : sProp 𝕄 := iprop(∃ W, owes (c : Thread nD τ) (O c s) W)

theorem ico_step {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by ext x; simp only [Finset.mem_Ico, Finset.mem_insert]; omega
  rw [e]; exact bigSep_insert (by simp only [Finset.mem_Ico]; omega)

theorem ico_end {a b : ℕ} (h : b ≤ a) (Φ : ℕ → sProp 𝕄) : bigSep (Finset.Ico a b) Φ = iprop(emp) := by
  rw [Finset.Ico_eq_empty (by omega)]; exact bigSep_empty

theorem Ncr_eq (d hf : Fin 2) (j : Fin 4) : (hM d hf j).view.dmaCredit = Ncr := by
  obtain rfl | rfl : d = 0 ∨ d = 1 := by revert d; decide
  · rfl
  · rfl

theorem hM_nonempty (d hf : Fin 2) (j : Fin 4) : (hM d hf j).view.set.Nonempty := by
  have : Nonempty S256x512.Idx := ⟨fun a => ⟨0, by revert a; decide⟩⟩
  exact Finset.map_nonempty.mpr Finset.univ_nonempty

theorem lim_le (d : Fin 2) : lim d ≤ 16 := by revert d; decide
theorem nCr_lim (d : Fin 2) : nCr d + 3 = lim d := by revert d; decide

/-- Device c's run of a stretch of the kernel. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The steps -/

/-- The credit cell's landed units, the old and the new together. -/
theorem credit_all (c : Dev nD) (d : Fin 2) (S S' : Finset ℕ) (h : S ⊆ S') :
    iprop(bigSep S (fun u => frees (nb d c) d 4 (u + 5)) ∗ bigSep (S' \ S) (fun u => (Rd ch).payload (crCell c d) 0 u))
      ⊢ (bigSep S' (fun u => frees (nb d c) d 4 (u + 5)) : sProp 𝕄) := by
  rw [bigSep_congr (s := S' \ S) (fun u _ => payload_cr ch c d u)]
  exact Entails.of_eq (bigSep_sdiff_split h).symm
theorem credit_some (d : Fin 2) (m : ℕ) (S : Finset ℕ) (h1 : S ⊆ Finset.range (nCr d)) (h2 : m + 1 + (Finset.range (nCr d) \ S).card ≤ nCr d) :
    ∃ u ∈ S, m ≤ u := by
  have h3 : m < S.card := by
    have := Finset.card_sdiff_add_card_eq_card h1
    rw [Finset.card_range] at this; omega
  by_contra hn
  have h4 : S ⊆ Finset.range m := fun u hu => Finset.mem_range.mpr (by by_contra h; exact hn ⟨u, hu, by omega⟩)
  have := Finset.card_le_card h4
  rw [Finset.card_range] at this; omega
theorem frees_mono (n : Dev nD) (d : Fin 2) {a b b' : ℕ} (h : b ≤ b') : (frees n d a b' : sProp 𝕄) ⊢ frees n d a b :=
  bigSep_subset (Finset.Ico_subset_Ico_right h)
theorem frees_snoc (n : Dev nD) (d : Fin 2) {a b : ℕ} (h : a ≤ b) :
    iprop(frees n d a b ∗ free n d 0 b ∗ free n d 1 b) ⊢ (frees n d a (b + 1) : sProp 𝕄) := by
  have e : Finset.Ico a (b + 1) = insert b (Finset.Ico a b) := by ext x; simp only [Finset.mem_Ico, Finset.mem_insert]; omega
  unfold frees
  rw [e, bigSep_insert (by simp only [Finset.mem_Ico]; omega)]
  show _ ⊢ (iprop((free n d 0 b ∗ free n d 1 b) ∗ bigSep (Finset.Ico a b) fun q => iprop(free n d 0 q ∗ free n d 1 q)) : sProp 𝕄)
  iintro ⟨H, Hb⟩
  isplitl [Hb]; · iexact Hb
  iexact H
theorem credit_frees (c : Dev nD) (d : Fin 2) (m : ℕ) (S : Finset ℕ) (h : ∃ u ∈ S, m ≤ u) :
    (bigSep S (fun u => frees (nb d c) d 4 (u + 5)) : sProp 𝕄) ⊢ frees (nb d c) d 4 (m + 5) := by
  obtain ⟨u, hu, hm⟩ := h
  exact (bigSep_elim (Φ := fun u => (frees (nb d c) d 4 (u + 5) : sProp 𝕄)) hu).trans (frees_mono _ _ (by omega))
theorem rest_bar (c : Dev nD) : bigSep ((Rd ch).duties (barCell c) 0 \ ∅) (fun u => (Rd ch).payload (barCell c) 0 u) = iprop(barPay c 0 ∗ barPay c 1) := by
  have h0 : (Rd ch).payload (barCell c) 0 0 = barPay c 0 := payload_bar ch c 0
  have h1 : (Rd ch).payload (barCell c) 0 1 = barPay c 1 := payload_bar ch c 1
  rw [Finset.sdiff_empty, duties_bar, bigSep_insert (by decide), bigSep_singleton, h0, h1]
  rfl

theorem flip_flip (d : Fin 2) : 1 - (1 - d) = d := by revert d; decide

section Steps

variable (K : GSem nD τ sig → ℕ) (J : Key → ℕ) (c : Dev nD) (d hf : Fin 2)

/-- The wait for chunk q's landing: the half slot comes back at the chunk's contents. -/
theorem wp_recv {q s : ℕ} (h1 : 1 ≤ q) (hq : q ≤ lim d) (hs : q ≤ s / 6)
    {α : Type} {Q : α → sProp 𝕄} {k : PUnit → Prog (TpuEff nD τ sig (Elt F) Λ₀ .tc) α} {sm : DmaSem sig} (hsm : sm = chSem d hf 1 (sl q))
    {sp : Space} {s' : Shape} {e' : EltTy} {src : Memref sig .tc sp s' e'} {dst : Memref sig .tc .vmem S256x512 .bf16}
    {j : Fin 4} (hdst : dst = hM d hf j) {hx : src.view.WordExact} {hy : dst.view.WordExact} :
    iprop(recs ch K J ∗ levAts L lv ∗ OW c s ∗ RV c d hf q)
      ⊢ iprop((OW c s ∗ RV c d hf (q + 1) ∗ hAt ch c d hf q fullShare ∗ reached ER (recvCell c d hf (sl q)) ((q - 1) / 4 + 1) -∗ run c (k ⟨⟩) Q)
          -∗ run c (.op (.waitDma2 sm src dst hx hy) k) Q) := by
  subst hsm; subst hdst
  unfold OW RV
  rw [ico_step (by omega : q < lim d + 1)]
  iintro ⟨#HR, #Hlev, ⟨%W, HO⟩, Hat, Hc, Hcs⟩ Hk
  ihave Hat := (bigSep_univ_update (Ψ := fun j => atPos ER (recvCell c d hf j) (rcnt j (q + 1)) ∅ 0) (sl q)
    (fun j hj => by rw [rcnt_ne j q hj])) $$ Hat
  icases Hat with ⟨Hat, Hback⟩
  rw [rcnt_sl q h1, rcnt_sl_succ q h1]
  have hw := mayWait (F := F) c (.dma (chSem d hf 1 (sl q))) q s (Nat.lt_succ_of_le (le_trans hq (lim_le d))) (by rw [lv_recv]; omega)
  have hlt : q < 17 := lt_of_le_of_lt hq (Nat.lt_succ_of_le (lim_le d))
  iapply (Rounds.wp_wait_rest_token 𝒱₀ ER (Rd ch) (c : Thread nD τ) none (κ := K (recvCell c d hf (sl q)))
      (wpE_waitDma2_eq (src := src) (dst := hM d hf j) 𝒱₀ (c : Thread nD τ) none Set.univ) (Set.mem_univ _) q (O := O c s) (W := W)
      (R := (q - 1) / 4) (m := 0) (T := ∅)
      (by rw [Nat.zero_add, Ncr_eq]; exact (expect_ch ch c d hf 1 (sl q) (recv_lt d q h1 hq)).symm)) $$ [Hc HO Hat]
  · isplitr; · iapply (recs_ch ch K J c d hf 1 (sl q)); iexact HR
    isplitl [Hc]; · rw [Ncr_eq]; iexact Hc
    isplitl [HO]; · iexact HO
    isplitr; · iapply hw; iexact Hlev
    iexact Hat
  iintro ⟨HO, Hat, #Hr, Hpay⟩
  ihave Hp := (Entails.of_eq (rest_recv ch c d hf (sl q) (recv_lt d q h1 hq))) $$ Hpay
  rw [chunkOf_sl q h1]
  iapply Hk
  isplitl [HO]; · iexists _; iexact HO
  isplitl [Hat Hback Hcs]
  · isplitl [Hat Hback]
    · iapply Hback; iexact Hat
    · iexact Hcs
  isplitl [Hp]; · iexact Hp
  iexact Hr

/-- The sending of trip h: the half slot is lent, the neighbour's slot is filled, the landing is owed no more. -/
theorem wp_sendTo {h s : ℕ} (hh : h < lim d) (hitem : O c s = O c (s + 1) + tallyAt (recvCell (nb d c) d hf (sl (h + 1))) (h + 1) Ncr)
    {α : Type} {Q : α → sProp 𝕄} {k : PUnit → Prog (TpuEff nD τ sig (Elt F) Λ₀ .tc) α} {sS sR : DmaSem sig} (hsS : sS = chSem d hf 0 (sl h)) (hsR : sR = chSem d hf 1 (sl (h + 1)))
    {src dst : Memref sig .tc .vmem S256x512 .bf16} (hsrc : src = hM d hf (sl h)) (hdst : dst = hM d hf (sl (h + 1)))
    {n : Dev nD} (hn : n = nb d c) {hsc : dst.view.ref.isScScratch = false}
    {hx : src.view.WordExact} {hy : dst.view.WordExact} {hsem : DmaTarget.Typed .vmem (.dma sR) (.remote (Dev.tc n) dst (.dma sS) hsc)} :
    iprop(recs ch K J ∗ OW c s ∗ SP c d hf h ∗ SD c d hf h ∗ free (nb d c) d hf (h + 1) ∗ hAt ch c d hf h fullShare)
      ⊢ iprop((OW c (s + 1) ∗ SP c d hf h ∗ SD c d hf (h + 1) ∗ lent ch c d hf h -∗ run c (k ⟨⟩) Q)
          -∗ run c (.op (.enqueueDma src (.remote (Dev.tc n) dst (.dma sS) hsc) (.dma sR) hx hy hsem) k) Q) := by
  subst hsS; subst hsR; subst hsrc; subst hdst; subst hn
  have hl := lim_le d
  unfold OW SP SD
  rw [ico_step hh]
  unfold sendTok hAt free
  iintro ⟨#HR, ⟨%W, HO⟩, Hat, ⟨⟨HtS, HtR, Hw⟩, Hts⟩, ⟨#Hrel, #HrR⟩, ⟨%f, Hf, %hv⟩⟩ Hk
  rw [Nat.add_sub_cancel]
  ihave Hat := (bigSep_univ_update (Ψ := fun j => iprop(atPos ER (sendCell c d hf j) (scnt j h) ∅ 0 ∗ reached ER (sendCell c d hf j) (scnt j h))) (sl h)
    (fun j hj => rfl)) $$ Hat
  icases Hat with ⟨⟨Hat, #HrS⟩, Hback⟩
  ihave Hslot := (recs_slot ch K J (nb d c) d hf (by omega : h + 1 ≤ 16)) $$ HR
  imod (Release.slot_take ES (Set.mem_univ _) 1) $$ [Hslot Hw] with Hd
  · isplitl [Hslot]; · iexact Hslot
    isplitr; · iexact Hrel
    iexact Hw
  unfold hAny Release.slot
  icases Hd with ⟨%fd, Hd⟩
  ihave Hf := (pointsTo_share (PosShare.mem_left_op_right fullShare)).1 $$ Hf
  icases Hf with ⟨Hfl, Hfr⟩
  iapply (Rounds.wp_send_pointsTo 𝒱₀ ER (Rd ch) (c : Thread nD τ) none (c' := (nb d c : Thread nD τ)) (src := hM d hf (sl h)) (dst := hM d hf (sl (h + 1)))
      (sS := .dma (chSem d hf 0 (sl h))) (sem := .dma (chSem d hf 1 (sl (h + 1)))) (q := fullShare.left) (fs := f)
      (κ₁ := K (sendCell c d hf (sl h))) (κ₂ := K (recvCell (nb d c) d hf (sl (h + 1))))
      (r₁ := h / 4) (r₂ := h / 4) (d₁ := 0) (d₂ := 0) (fd := fd)
      (by rw [duties_ch, if_pos (send_lt d h hh)]; exact Finset.mem_singleton_self _)
      (by rw [duties_ch, if_pos (by have := recv_lt d (h + 1) (by omega) (by omega); rwa [Nat.add_sub_cancel] at this)]; exact Finset.mem_singleton_self _)
      (h + 1) 0 Ncr (by exact Ncr_eq d hf (sl (h + 1))) rfl rfl (O c (s + 1)) hitem (W := W)
      (by rw [payload_send, tripOf_sl]; unfold hAt; iintro H; iexists f; isplitl [H]; · iexact H
          ipureintro; exact hv)
      (by
        have e := chunkOf_sl (h + 1) (by omega)
        rw [Nat.add_sub_cancel] at e
        rw [payload_recv, e]; unfold hAt; iintro H; iexists _; isplitl [H]; · iexact H
        ipureintro; rw [org_nb, View.read_write_univ]; exact hv)) $$ [Hfl Hd HO HtS HtR]
  · isplitr; · iapply (recs_ch ch K J c d hf 0 (sl h)); iexact HR
    isplitr; · iapply (recs_ch ch K J (nb d c) d hf 1 (sl (h + 1))); iexact HR
    isplitl [Hfl]; · iexact Hfl
    isplitl [Hd]; · iexact Hd
    isplitl [HO]; · iexact HO
    isplitl [HtS]; · iexact HtS
    isplitr; · rw [scnt_sl]; iexact HrS
    isplitl [HtR]; · iexact HtR
    iexact HrR
  iintro ⟨Hc, HO⟩
  iapply Hk
  isplitl [HO]; · iexists W; iexact HO
  isplitl [Hat Hback]
  · iapply Hback; isplitl [Hat]; · iexact Hat
    iexact HrS
  isplitl [Hts]; · iexact Hts
  unfold lent hAt
  isplitl [Hfr]
  · iexists f; isplitl [Hfr]; · iexact Hfr
    ipureintro; exact hv
  iexact Hc

/-- A unit of the credit cell: the next slots of the neighbour are free. -/
theorem wp_credit {m s : ℕ} (hm : m < nCr d) (hs : m < s / 6) {Q : PUnit → sProp 𝕄} {sm : Sem sig} (hsm : sm = crS d) :
    iprop(recs ch K J ∗ levAts L lv ∗ OW c s ∗ CW c d m)
      ⊢ iprop((OW c s ∗ CW c d (m + 1) ∗ frees (nb d c) d 4 (m + 5) -∗ Q ⟨⟩) -∗ run c (semWaitWord sm 1#32) Q) := by
  subst hsm
  have hw := mayWait (F := F) c (.reg (crS d)) m s (by have := nCr_lim d; have := lim_le d; omega) (by rw [lv_cr]; omega)
  have hshow : semWaitWord (nD := nD) (τ := τ) (Val := Elt F) (Λ := Λ₀) (p := .tc) (crS d) 1#32 = .op (.semWait (crS d) 1) .ret := rfl
  rw [hshow]
  unfold OW CW
  rw [if_pos hm, ico_step hm]
  iintro ⟨#HR, #Hlev, ⟨%W, HO⟩, ⟨⟨%S, %hS, Hat, #HS⟩, Hc, Hcs⟩⟩ Hk
  obtain ⟨hS1, hS2⟩ := hS
  by_cases hl : m + 1 < nCr d
  · rw [if_pos hl]
    iapply (Rounds.wp_wait 𝒱₀ ER (Rd ch) (c : Thread nD τ) none (κ := K (crCell c d))
        (wpE_semWait_eq 𝒱₀ (c : Thread nD τ) none Set.univ) (Set.mem_univ _) (cr := Finsupp.single m 1) (O := O c s) (W := W) {(.reg (crS d), m)}
        (R := 0) (m := m) (T := S) (by rw [Util.total_single]) (by
          intro x hx; obtain ⟨y, hy, rfl⟩ := Finset.mem_image.mp hx
          rw [Finset.mem_singleton.mp (Finsupp.support_single_subset hy)]; exact Finset.mem_singleton_self _)) $$ [Hc HO Hat]
    · isplitr; · iapply (recs_cr ch K J c d); iexact HR
      isplitl [Hc]; · iexact Hc
      isplitl [HO]; · iexact HO
      isplitr; · iapply hw; iexact Hlev
      iexact Hat
    rw [duties_cr, expect_cr]
    iintro %S' ⟨%hS', HO, Hat, Hnew⟩
    obtain ⟨h1, h2, h3⟩ := hS'
    ihave #Hall := (credit_all ch c d S S' h1) $$ [Hnew]
    · isplitr; · iexact HS
      iexact Hnew
    rw [wp_ret]; imodintro
    iapply Hk
    isplitl [HO]; · iexists _; iexact HO
    isplitl [Hat Hcs]
    · isplitl [Hat]
      · iexists S'
        isplitr; · ipureintro; exact ⟨h2, h3⟩
        isplitl [Hat]; · iexact Hat
        iexact Hall
      iexact Hcs
    iapply (credit_frees c d m S' (credit_some d m S' h2 h3)); iexact Hall
  · rw [if_neg hl]
    have hn : nCr d = m + 1 := by omega
    iapply (Rounds.wp_wait_rest_token 𝒱₀ ER (Rd ch) (c : Thread nD τ) none (κ := K (crCell c d))
        (wpE_semWait_eq 𝒱₀ (c : Thread nD τ) none Set.univ) (Set.mem_univ _) m (O := O c s) (W := W) (R := 0) (m := m) (T := S)
        (by rw [expect_cr, hn])) $$ [Hc HO Hat]
    · isplitr; · iapply (recs_cr ch K J c d); iexact HR
      isplitl [Hc]; · iexact Hc
      isplitl [HO]; · iexact HO
      isplitr; · iapply hw; iexact Hlev
      iexact Hat
    rw [duties_cr]
    iintro ⟨HO, Hat, -, Hnew⟩
    ihave #Hall := (credit_all ch c d S (Finset.range (nCr d)) hS1) $$ [Hnew]
    · isplitr; · iexact HS
      iexact Hnew
    rw [wp_ret]; imodintro
    iapply Hk
    isplitl [HO]; · iexists _; iexact HO
    isplitl [Hat]; · iexact Hat
    iapply (credit_frees c d m (Finset.range (nCr d)) ⟨m, Finset.mem_range.mpr hm, le_refl _⟩); iexact Hall

/-- A unit raised on the credit cell of the device it receives from. -/
theorem wp_give {h s : ℕ} (hh : h < nCr d) (hitem : O c s = O c (s + 1) + tallyAt (crCell (pv d c) d) h 1)
    {Q : PUnit → sProp 𝕄} {sm : Sem sig} (hsm : sm = crS d) {n : Dev nD} (hn : n = pv d c) :
    iprop(recs ch K J ∗ OW c s ∗ CS c d h ∗ frees c d 4 (h + 5) ∗ reached ER (crCell (pv d c) d) 0)
      ⊢ iprop((OW c (s + 1) ∗ CS c d (h + 1) -∗ Q ⟨⟩) -∗ run c (semSignalWord n sm 1#32) Q) := by
  subst hsm; subst hn
  have hshow : semSignalWord (nD := nD) (τ := τ) (Val := Elt F) (Λ := Λ₀) (p := .tc) (pv d c) (crS d) 1#32 = .op (.semSignal (pv d c : Thread nD τ) (crS d) 1) .ret := rfl
  rw [hshow]
  unfold OW CS
  rw [ico_step hh]
  iintro ⟨#HR, ⟨%W, HO⟩, ⟨Ht, Hts⟩, #Hfr, #Hr⟩ Hk
  iapply (Rounds.wp_signal 𝒱₀ ER (Rd ch) (c : Thread nD τ) none (dst := (pv d c : Thread nD τ)) (sem := crS d) (r := 0) (d := h) (κ := K (crCell (pv d c) d))
      (by rw [duties_cr]; exact Finset.mem_range.mpr hh) rfl h (O c (s + 1)) hitem) $$ [HO Ht]
  · isplitr; · iapply (recs_cr ch K J (pv d c) d); iexact HR
    isplitl [HO]; · iexact HO
    isplitl [Ht]; · iexact Ht
    isplitr
    · rw [payload_cr, nb_pv]; iexact Hfr
    iexact Hr
  iintro HO
  rw [wp_ret]; imodintro
  iapply Hk
  isplitl [HO]; · iexists W; iexact HO
  iexact Hts

/-- A unit raised on a neighbour's barrier cell. -/
theorem wp_hello {O₀ : CellTallies nD τ sig ℕ} (O₁ : CellTallies nD τ sig ℕ) (hO : O₀ = O₁ + tallyAt (barCell (nb d c)) 0 1) (W : Waits sig ℕ)
    {Q : PUnit → sProp 𝕄} {n : Dev nD} (hn : n = nb d c) :
    iprop(recs ch K J ∗ owes (c : Thread nD τ) O₀ W ∗ dutyTok ER (barCell (nb d c)) 0 (1 - d).val ∗ frees c (1 - d) 1 4 ∗ reached ER (crCell c d) 0)
      ⊢ iprop((owes (c : Thread nD τ) O₁ W -∗ Q ⟨⟩) -∗ run c (semSignalWord n barS 1#32) Q) := by
  subst hn
  have hshow : semSignalWord (nD := nD) (τ := τ) (Val := Elt F) (Λ := Λ₀) (p := .tc) (nb d c) barS 1#32 = .op (.semSignal (nb d c : Thread nD τ) barS 1) .ret := rfl
  have hd := flip_flip d
  rw [hshow]
  iintro ⟨#HR, HO, Ht, #Hfr, #Hr⟩ Hk
  iapply (Rounds.wp_signal 𝒱₀ ER (Rd ch) (c : Thread nD τ) none (dst := (nb d c : Thread nD τ)) (sem := barS) (r := 0) (d := (1 - d).val) (κ := K (barCell (nb d c)))
      (by rw [duties_bar]; clear hO hd hshow; revert d; decide) rfl 0 O₁ hO) $$ [HO Ht]
  · isplitr; · iapply (recs_bar ch K J (nb d c)); iexact HR
    isplitl [HO]; · iexact HO
    isplitl [Ht]; · iexact Ht
    isplitr
    · rw [payload_bar]; unfold barPay; rw [nb_nb, hd]
      isplitr; · iexact Hfr
      iexact Hr
    iapply (recs_barR ch K J (nb d c)); iexact HR
  iintro HO
  rw [wp_ret]; imodintro
  iapply Hk; iexact HO

/-- The wait for both neighbours' units on the barrier cell. -/
theorem wp_met {W : Waits sig ℕ} {Q : PUnit → sProp 𝕄} :
    iprop(recs ch K J ∗ levAts L lv ∗ owes (c : Thread nD τ) (O c 0) W ∗ cred (tallyAt (barCell c) 0 2) ∗ atPos ER (barCell c) 0 ∅ 0)
      ⊢ iprop((OW c 0 ∗ atPos ER (barCell c) 1 ∅ 0 ∗ barPay c 0 ∗ barPay c 1 -∗ Q ⟨⟩) -∗ run c (semWaitWord barS 2#32) Q) := by
  have hw := mayWait (F := F) c (.reg barS) 0 0 (by omega) (by rw [lv_bar]; omega)
  have hshow : semWaitWord (nD := nD) (τ := τ) (Val := Elt F) (Λ := Λ₀) (p := .tc) barS 2#32 = .op (.semWait barS 2) .ret := rfl
  rw [hshow]
  iintro ⟨#HR, #Hlev, HO, Hc, Hat⟩ Hk
  iapply (Rounds.wp_wait_rest_token 𝒱₀ ER (Rd ch) (c : Thread nD τ) none (κ := K (barCell c))
      (wpE_semWait_eq 𝒱₀ (c : Thread nD τ) none Set.univ) (Set.mem_univ _) 0 (O := O c 0) (W := W) (R := 0) (m := 0) (T := ∅)
      (by rw [expect_bar])) $$ [Hc HO Hat]
  · isplitr; · iapply (recs_bar ch K J c); iexact HR
    isplitl [Hc]; · iexact Hc
    isplitl [HO]; · iexact HO
    isplitr; · iapply hw; iexact Hlev
    iexact Hat
  iintro ⟨HO, Hat, -, Hpay⟩
  ihave Hp := (Entails.of_eq (rest_bar ch c)) $$ Hpay
  icases Hp with ⟨H0, H1⟩
  rw [wp_ret]; imodintro
  iapply Hk
  unfold OW
  isplitl [HO]; · iexists _; iexact HO
  isplitl [Hat]; · iexact Hat
  isplitl [H0]; · iexact H0
  iexact H1

/-- Two shares of a half slot at one chunk make the whole. -/
theorem hAt_join {h : ℕ} : iprop(hAt ch c d hf h fullShare.left ∗ hAt ch c d hf h fullShare.right) ⊢ hAt ch c d hf h fullShare := by
  unfold hAt
  iintro ⟨⟨%f, Hf, %hv⟩, ⟨%g, Hg, %hg⟩⟩
  ihave %he := (pointsTo_agree (f := f) (g := g)) $$ [Hf Hg]
  · isplitl [Hf]; · iexact Hf
    iexact Hg
  have e : hPts c d hf (sl h) fullShare.right g = (hPts c d hf (sl h) fullShare.right f : sProp 𝕄) :=
    pointsTo_congr (fun i hi => ((he i (Finset.mem_inter.mpr ⟨hi, hi⟩)).1).symm)
  rw [e]
  show _ ⊢ (iprop(∃ f, hPts c d hf (sl h) fullShare f ∗ ⌜(hM d hf (sl h)).view.read (Elt F) f = ch hf (org d c h)⌝) : sProp 𝕄)
  iintro ⟨Hf, Hg⟩
  iexists f
  isplitl [Hf Hg]
  · iapply (pointsTo_share (PosShare.mem_left_op_right fullShare)).2
    isplitl [Hf]; · iexact Hf
    iexact Hg
  ipureintro; exact hv

/-- The wait for trip h's sending to be out: the half slot is whole again. -/
theorem wp_sent {h s : ℕ} (hh : h < lim d)
    {α : Type} {Q : α → sProp 𝕄} {k : PUnit → Prog (TpuEff nD τ sig (Elt F) Λ₀ .tc) α} {sm : DmaSem sig} (hsm : sm = chSem d hf 0 (sl h))
    {sp : Space} {s' : Shape} {e' : EltTy} {src : Memref sig .tc sp s' e'} {dst : Memref sig .tc .vmem S256x512 .bf16}
    {j : Fin 4} (hdst : dst = hM d hf j) {hx : src.view.WordExact} {hy : dst.view.WordExact} :
    iprop(recs ch K J ∗ levAts L lv ∗ OW c s ∗ SP c d hf h ∗ lent ch c d hf h)
      ⊢ iprop((OW c s ∗ SP c d hf (h + 1) ∗ hAt ch c d hf h fullShare -∗ run c (k ⟨⟩) Q)
          -∗ run c (.op (.waitDma2 sm src dst hx hy) k) Q) := by
  subst hsm; subst hdst
  have hw := mayWait (F := F) c (.dma (chSem d hf 0 (sl h))) 0 s (by omega) (by rw [lv_send]; omega)
  unfold OW SP lent
  iintro ⟨#HR, #Hlev, ⟨%W, HO⟩, Hat, Hf, Hc⟩ Hk
  ihave Hat := (bigSep_univ_update (Ψ := fun j => iprop(atPos ER (sendCell c d hf j) (scnt j (h + 1)) ∅ 0 ∗ reached ER (sendCell c d hf j) (scnt j (h + 1)))) (sl h)
    (fun j hj => by rw [scnt_ne j h hj])) $$ Hat
  icases Hat with ⟨⟨Hat, -⟩, Hback⟩
  rw [scnt_sl, scnt_sl_succ]
  iapply (Rounds.wp_wait_rest_token 𝒱₀ ER (Rd ch) (c : Thread nD τ) none (κ := K (sendCell c d hf (sl h)))
      (wpE_waitDma2_eq (src := src) (dst := hM d hf j) 𝒱₀ (c : Thread nD τ) none Set.univ) (Set.mem_univ _) 0 (O := O c s) (W := W)
      (R := h / 4) (m := 0) (T := ∅)
      (by rw [Nat.zero_add, Ncr_eq]; exact (expect_ch ch c d hf 0 (sl h) (send_lt d h hh)).symm)) $$ [Hc HO Hat]
  · isplitr; · iapply (recs_ch ch K J c d hf 0 (sl h)); iexact HR
    isplitl [Hc]; · rw [Ncr_eq]; iexact Hc
    isplitl [HO]; · iexact HO
    isplitr; · iapply hw; iexact Hlev
    iexact Hat
  iintro ⟨HO, Hat, #Hr, Hpay⟩
  ihave Hp := (Entails.of_eq (rest_send ch c d hf (sl h) (send_lt d h hh))) $$ Hpay
  rw [tripOf_sl]
  iapply Hk
  isplitl [HO]; · iexists _; iexact HO
  isplitl [Hat Hback]
  · iapply Hback; isplitl [Hat]; · iexact Hat
    iexact Hr
  iapply (hAt_join ch c d hf)
  isplitl [Hp]; · iexact Hp
  iexact Hf

/-- The release of the slot of chunk h, used and sent, for chunk h + 4. -/
theorem release_slot {h : ℕ} (hh : h < nCr d) :
    iprop(recs ch K J ∗ RA c d hf h ∗ hAt ch c d hf h fullShare ∗ reached ER (recvCell c d hf (sl h)) ((h + 3) / 4))
      ⊢ (|={Set.univ}=> (RA c d hf (h + 1) ∗ free c d hf (h + 4)) : sProp 𝕄) := by
  have hl := lim_le d; have hl' := nCr_lim d
  have es : sl (h + 4) = sl h := Fin.ext (Nat.add_mod_right h 4)
  unfold RA
  rw [ico_step (by omega : h + 4 < lim d + 1), Nat.add_right_comm h 4 1]
  unfold hAt
  iintro ⟨#HR, ⟨Hrd, Hrs⟩, ⟨%f, Hf, -⟩, #Hr⟩
  ihave Hslot := (recs_slot ch K J c d hf (by omega : h + 4 ≤ 16)) $$ HR
  imod (Release.slot_release ES (Set.mem_univ _) (S := hAny c d hf (sl (h + 4))) (by unfold hAny; exact Release.slot_slot_false (hM_nonempty d hf (sl (h + 4)))) 0) $$ [Hslot Hrd Hf] with ⟨-, #Hrel⟩
  · isplitl [Hslot]; · unfold hAny; iexact Hslot
    isplitl [Hrd]; · iexact Hrd
    rw [es]; unfold hAny Release.slot; iexists f; iexact Hf
  imodintro
  isplitl [Hrs]; · iexact Hrs
  unfold free
  isplitr; · iexact Hrel
  rw [es]; iexact Hr

end Steps

end Cert.Proof
-- ==== Proof.Access.lean ====
module

public import proofs.«01_k».proof.Proof.Steps
public import Idealize.ShloMosaic.Lib.VecWindow

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Loads and stores of whole buffers by their values -/

/-- A load of a window of a buffer held whole. -/
theorem wp_ld (c : Dev nD) {cs : CoreSpace} {i : Fin (sig.nNear .tc cs)} {hκ : sig.names .tc cs i = true} {off size : Fin (sig.tyNear .tc cs i).shape.rank → ℕ}
    (inb : ∀ a, off a + size a ≤ (sig.tyNear .tc cs i).shape.size a) {q : PosShare TreeShare} {f : (sig.tyNear .tc cs i).Contents (Elt F)}
    {hl : (Memref.whole ⟨cs, i, hκ⟩ : Memref sig .tc _ _ _).view.LoadsAt (Rect.unit off size inb).toLoadRect} {α : Type} {Q : α → sProp 𝕄}
    {k : ((Rect.unit off size inb).toLoadRect.shape.Idx → Elt F _) → Prog (TpuEff nD τ sig (Elt F) Λ₀ .tc) α} :
    (((c : Thread nD τ).loc ⟨cs, i, hκ⟩) ↦{q} f)
      ⊢ iprop(((((c : Thread nD τ).loc ⟨cs, i, hκ⟩) ↦{q} f) -∗ run c (k (VecWindow.window f off size inb)) Q)
        -∗ run c (.op (.load (Memref.whole ⟨cs, i, hκ⟩) (Rect.unit off size inb).toLoadRect hl) k) Q) :=
  wp_load 𝒱₀ (c : Thread nD τ) none Set.univ (m := Memref.whole ⟨cs, i, hκ⟩) (r := (Rect.unit off size inb).toLoadRect) (hl := hl) (k := k) (q := q) (f := f)
    (S := Finset.univ) (Finset.subset_univ _)

/-- A store over a window of a buffer held whole. -/
theorem wp_st (c : Dev nD) {cs : CoreSpace} {i : Fin (sig.nNear .tc cs)} {hκ : sig.names .tc cs i = true} {off size : Fin (sig.tyNear .tc cs i).shape.rank → ℕ}
    (inb : ∀ a, off a + size a ≤ (sig.tyNear .tc cs i).shape.size a) {f : (sig.tyNear .tc cs i).Contents (Elt F)}
    {w : (Rect.unit off size inb).shape.Idx → Elt F (sig.tyNear .tc cs i).elt}
    {hx : ((Memref.whole ⟨cs, i, hκ⟩).access (Rect.unit off size inb) : View sig .tc _ _ _).Stores Finset.univ}
    {hm : Finset.univ = Finset.univ ∨ ∀ a, (Rect.unit off size inb).stride a = 1} {α : Type} {Q : α → sProp 𝕄}
    {k : PUnit → Prog (TpuEff nD τ sig (Elt F) Λ₀ .tc) α} :
    (((c : Thread nD τ).loc ⟨cs, i, hκ⟩) ↦{fullShare} f)
      ⊢ iprop(((((c : Thread nD τ).loc ⟨cs, i, hκ⟩) ↦{fullShare} VecWindow.put f off size w) -∗ run c (k ⟨⟩) Q)
        -∗ run c (.op (.store (Memref.whole ⟨cs, i, hκ⟩) (Rect.unit off size inb) w Finset.univ hx hm) k) Q) := by
  have e : ((Memref.whole ⟨cs, i, hκ⟩).access (Rect.unit off size inb) : View sig .tc _ _ _).write (Elt F) f w Finset.univ = VecWindow.put f off size w := by
    have h1 := View.read_writes_cons_put (Val := Elt F) (Memref.whole ⟨cs, i, hκ⟩ : Memref sig .tc _ _ _).view f inb w [] rfl
    exact h1
  rw [← e]
  exact wp_store 𝒱₀ (c : Thread nD τ) none Set.univ (m := Memref.whole ⟨cs, i, hκ⟩) (r := Rect.unit off size inb) (w := w) (Mk := Finset.univ)
    (hx := hx) (hm := hm) (k := k) (f := f) (S := Finset.univ) (Finset.subset_univ _)

end Cert.Proof
-- ==== Proof.Calc.lean ====
module

public import proofs.«01_k».proof.Proof.Access
public import Idealize.ShloMosaic.Lib.Pipeline.Value
public import proofs.«01_k».proof.Proof.Gen.KernelIdeal.Skeleton

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## One chunk's part of the result

With a chunk's query half `a` and output half `b`: the queries, each head's and sequence's scores, the weights, the contexts, and
what they add to the result. -/

abbrev mX : Memref sig .tc .vmem S256x512 .bf16 := Memref.whole cc0_stg0_0
abbrev mC : Memref sig .tc .vmem S512x512 .bf16 := Memref.whole cc0_stg1_0
abbrev mK : Memref sig .tc .vmem S256x128x64 .bf16 := Memref.whole cc0_stg2_0
abbrev mV : Memref sig .tc .vmem S256x128x64 .bf16 := Memref.whole cc0_stg3_0
abbrev mT : Memref sig .tc .smem S35 .i32 := Memref.whole cc0_stg4_0
abbrev mO : Memref sig .tc .vmem S256x512 .f32 := Memref.whole cc0_stg5_0
abbrev mS : Memref sig .tc .vmem S1024x128 .f32 := Memref.whole cc0_scratch2
abbrev mW : Memref sig .tc .vmem S1024x128 .bf16 := Memref.whole cc0_scratch3
abbrev mZ : Memref sig .tc .vmem S256x256 .bf16 := Memref.whole cc0_scratch4

theorem slices_q (b : Fin 2) (h : Fin 4) : S256x256.Slices ![128 * b.val, 64 * h.val] S128x64 := by
  revert b h; decide
theorem inb_S (b : Fin 2) (h : Fin 4) : ∀ a, ![128 * (4 * b.val + h.val), 0] a + S128x128.size a ≤ S1024x128.size a := by
  revert b h; decide
theorem inb_Z (b : Fin 2) (h : Fin 4) : ∀ a, ![128 * b.val, 64 * h.val] a + S128x64.size a ≤ S256x256.size a := by
  revert b h; decide

/-- The scores of sequence b and head h, from the queries and the head's keys. -/
def sB (q : FVec F S256x256 .bf16) (k : Vec F S1x128x64 .bf16) (b : Fin 2) (h : Fin 4) : FVec F S128x128 .f32 :=
  shapeCast S128x128 (matmul dot_S128x64_S128x64_S128x128_1_1_0_0_n_n none
    (extractStridedSlice S128x64 ![128 * b.val, 64 * h.val] q (slices_q b h))
    (shapeCast S128x64 (shapeCast S1x128x64 k shapeCasts_S1x128x64_S1x128x64) shapeCasts_S1x128x64_S128x64)
    (constant S128x128 .f32 0x00000000#32)) shapeCasts_S128x128_S128x128

/-- The number of the sequence and head that row i of the stacked scores belongs to. -/
def nB (n : ℕ) : Fin 2 := ⟨n / 4 % 2, Nat.mod_lt _ (by decide)⟩
def nH (n : ℕ) : Fin 4 := ⟨n % 4, Nat.mod_lt _ (by decide)⟩
theorem nB_eq (b : Fin 2) (h : Fin 4) : nB (4 * b.val + h.val) = b := by revert b h; decide
theorem nH_eq (b : Fin 2) (h : Fin 4) : nH (4 * b.val + h.val) = h := by revert b h; decide

def rowIn (i : S1024x128.Idx) : S128x128.Idx := fun a => ⟨(i a).val % S128x128.size a, Nat.mod_lt _ (by revert a; decide)⟩
/-- The scores of the eight, one over the other. -/
def sAll (q : FVec F S256x256 .bf16) (kk : Fin 2 → Fin 4 → Vec F S1x128x64 .bf16) : FVec F S1024x128 .f32 :=
  fun i => sB q (kk (nB ((i 0).val / 128)) (nH ((i 0).val / 128))) (nB ((i 0).val / 128)) (nH ((i 0).val / 128)) (rowIn i)
/-- The contexts of sequence b and head h, from the head's values and the weights. -/
def wB (v : Vec F S1x128x64 .bf16) (w : Vec F S1024x128 .bf16) (b : Fin 2) (h : Fin 4) : FVec F S128x64 .bf16 :=
  Gen.k0_pay39 v (VecWindow.window w ![128 * (4 * b.val + h.val), 0] S128x128.size (inb_S b h))
abbrev tileOf (i : S256x256.Idx) : ℕ := 4 * ((i 0).val / 128) + (i 1).val / 64
def tileIn (i : S256x256.Idx) : S128x64.Idx := fun a => ⟨(i a).val % S128x64.size a, Nat.mod_lt _ (by revert a; decide)⟩
/-- The contexts, side by side. -/
def zAll (w : Vec F S1024x128 .bf16) (vv : Fin 2 → Fin 4 → Vec F S1x128x64 .bf16) : FVec F S256x256 .bf16 :=
  fun i => wB (vv (nB (tileOf i)) (nH (tileOf i))) w (nB (tileOf i)) (nH (tileOf i)) (tileIn i)

/-- The result with one chunk's part added. -/
def addPart (x : Vec F S256x512 .bf16) (a b : Vec F S1x256x512 .bf16) (kk vv : Fin 2 → Fin 4 → Vec F S1x128x64 .bf16) (o : Vec F S256x512 .f32) :
    Vec F S256x512 .f32 :=
  Gen.k0_pay49 b (zAll (Gen.k0_pay38 (sAll (Gen.k0_pay26 a x) kk)) vv) o

/-! ## Its program -/

abbrev P (α : Type) : Type 1 := Prog (TpuEff nD τ sig (Elt F) Λ₀ .tc) α

abbrev KOff : Type := BitVec 32 → BitVec 32 → Fin 3 → ℕ
abbrev KInb (o : KOff) : Prop := ∀ (r₁ : Fin 2) (r₂ : Fin 4), ∀ a, o (BitVec.ofNat 32 (128 * r₁.val)) (BitVec.ofNat 32 r₂.val) a + S1x128x64.size a ≤ S256x128x64.size a

variable (o : KOff) (ho : KInb o)

def stepS (q : FVec F S256x256 .bf16) (b : Fin 2) (h : Fin 4) {α : Type} (k : PUnit → P (F := F) α) : P (F := F) α :=
  .op (.load mK (Rect.unit (s := S256x128x64) (o (BitVec.ofNat 32 (128 * b.val)) (BitVec.ofNat 32 h.val)) S1x128x64.size (ho b h)).toLoadRect (View.loadsAt_vmem h_S1x128x64)) fun v =>
  .op (.load mS (Rect.unit (s := S1024x128) ![128 * (4 * b.val + h.val), 0] S128x128.size (inb_S b h)).toLoadRect (View.loadsAt_vmem h_S128x128)) fun _ =>
  .op (.store mS (Rect.unit (s := S1024x128) ![128 * (4 * b.val + h.val), 0] S128x128.size (inb_S b h)) (sB q v b h) Finset.univ (View.stores_vmem_bits_univ h_S128x128 rfl) (.inl rfl)) k

theorem z_stores (b : Fin 2) (h : Fin 4) : (mZ.access (Rect.unit (s := S256x256) ![128 * b.val, 64 * h.val] S128x64.size (inb_Z b h))).Stores Finset.univ := by
  have h1 : ∀ (b : Fin 2) (h : Fin 4), (Rect.unit (s := S256x256) ![128 * b.val, 64 * h.val] S128x64.size (inb_Z b h)).PackedRows (EltTy.packing .bf16) := by decide
  exact View.stores_vmem h_S128x64 ((Memref.isWhole_whole cc0_scratch4).storeExact_slice rfl _ (h1 b h)) (fun _ => rfl)

def stepW (b : Fin 2) (h : Fin 4) {α : Type} (k : PUnit → P (F := F) α) : P (F := F) α :=
  .op (.load mV (Rect.unit (s := S256x128x64) (o (BitVec.ofNat 32 (128 * b.val)) (BitVec.ofNat 32 h.val)) S1x128x64.size (ho b h)).toLoadRect (View.loadsAt_vmem h_S1x128x64)) fun v =>
  .op (.load mW (Rect.unit (s := S1024x128) ![128 * (4 * b.val + h.val), 0] S128x128.size (inb_S b h)).toLoadRect (View.loadsAt_vmem h_S128x128)) fun w =>
  .op (.load mZ (Rect.unit (s := S256x256) ![128 * b.val, 64 * h.val] S128x64.size (inb_Z b h)).toLoadRect (View.loadsAt_vmem h_S128x64)) fun _ =>
  .op (.store mZ (Rect.unit (s := S256x256) ![128 * b.val, 64 * h.val] S128x64.size (inb_Z b h)) (Gen.k0_pay39 v w) Finset.univ (z_stores b h) (.inl rfl)) k

/-- The query half's part: the contexts. -/
def compA (aM : Memref sig .tc .vmem S4x512x512 .bf16) (offA : Fin 3 → ℕ) (hA : ∀ a, offA a + S1x256x512.size a ≤ S4x512x512.size a) {α : Type} (k : PUnit → P (F := F) α) : P (F := F) α :=
  .op (.load aM (Rect.unit (s := S4x512x512) offA S1x256x512.size hA).toLoadRect (View.loadsAt_vmem h_S1x256x512)) fun a =>
  .op (.load mX (Rect.unit (s := S256x512) ![0, 0] S256x512.size inb_S256x512_S256x512_0_0).toLoadRect (View.loadsAt_vmem h_S256x512)) fun x =>
  stepS o ho (Gen.k0_pay26 a x) 0 0 fun _ => stepS o ho (Gen.k0_pay26 a x) 0 1 fun _ => stepS o ho (Gen.k0_pay26 a x) 0 2 fun _ => stepS o ho (Gen.k0_pay26 a x) 0 3 fun _ =>
  stepS o ho (Gen.k0_pay26 a x) 1 0 fun _ => stepS o ho (Gen.k0_pay26 a x) 1 1 fun _ => stepS o ho (Gen.k0_pay26 a x) 1 2 fun _ => stepS o ho (Gen.k0_pay26 a x) 1 3 fun _ =>
  .op (.load mS (Rect.unit (s := S1024x128) ![0, 0] S1024x128.size inb_S1024x128_S1024x128_0_0).toLoadRect (View.loadsAt_vmem h_S1024x128)) fun s =>
  .op (.load mW (Rect.unit (s := S1024x128) ![0, 0] S1024x128.size inb_S1024x128_S1024x128_0_0).toLoadRect (View.loadsAt_vmem h_S1024x128)) fun _ =>
  .op (.store mW (Rect.unit (s := S1024x128) ![0, 0] S1024x128.size inb_S1024x128_S1024x128_0_0) (Gen.k0_pay38 s) Finset.univ
    (View.stores_vmem h_S1024x128 ((Memref.isWhole_whole cc0_scratch3).storeExact_slice rfl _ packedbf16_S1024x128_S1024x128_0_0) (fun _ => rfl)) (.inl rfl)) fun _ =>
  stepW o ho 0 0 fun _ => stepW o ho 0 1 fun _ => stepW o ho 0 2 fun _ => stepW o ho 0 3 fun _ =>
  stepW o ho 1 0 fun _ => stepW o ho 1 1 fun _ => stepW o ho 1 2 fun _ => stepW o ho 1 3 k

/-- The output half's part: the sum. -/
def compB (aM : Memref sig .tc .vmem S4x512x512 .bf16) (offB : Fin 3 → ℕ) (hB : ∀ a, offB a + S1x256x512.size a ≤ S4x512x512.size a) {α : Type} (k : PUnit → P (F := F) α) : P (F := F) α :=
  .op (.load aM (Rect.unit (s := S4x512x512) offB S1x256x512.size hB).toLoadRect (View.loadsAt_vmem h_S1x256x512)) fun b =>
  .op (.load mZ (Rect.unit (s := S256x256) ![0, 0] S256x256.size inb_S256x256_S256x256_0_0).toLoadRect (View.loadsAt_vmem h_S256x256)) fun z =>
  .op (.load mO (Rect.unit (s := S256x512) ![0, 0] S256x512.size inb_S256x512_S256x512_0_0).toLoadRect (View.loadsAt_vmem h_S256x512)) fun r =>
  .op (.load mO (Rect.unit (s := S256x512) ![0, 0] S256x512.size inb_S256x512_S256x512_0_0).toLoadRect (View.loadsAt_vmem h_S256x512)) fun _ =>
  .op (.store mO (Rect.unit (s := S256x512) ![0, 0] S256x512.size inb_S256x512_S256x512_0_0) (Gen.k0_pay49 b z r) Finset.univ (View.stores_vmem_bits_univ h_S256x512 rfl) (.inl rfl)) k

/-! ## Its run -/

/-- The contents agree with T below n, the indices numbered by key. -/
def Agr {s : Shape} {α : Type} (key : s.Idx → ℕ) (n : ℕ) (f T : s.Idx → α) : Prop := ∀ i, key i < n → f i = T i

theorem Agr.put {s : Shape} {α : Type} {key : s.Idx → ℕ} {n : ℕ} {f T : s.Idx → α} (h : Agr key n f T) {off size : Fin s.rank → ℕ}
    {w : ((a : Fin s.rank) → Fin (size a)) → α}
    (h1 : ∀ i (hi : ∀ a, off a ≤ (i a).val ∧ (i a).val < off a + size a), w (Rect.unitLocal (s := s) (off := off) (size := size) i hi) = T i)
    (h2 : ∀ i, key i = n → ∀ a, off a ≤ (i a).val ∧ (i a).val < off a + size a) :
    Agr key (n + 1) (VecWindow.put f off size w) T := by
  intro i hi
  unfold VecWindow.put
  split
  · rename_i hw; exact h1 i hw
  · rename_i hw
    exact h i (lt_of_le_of_ne (Nat.le_of_lt_succ hi) fun e => hw (h2 i e))

/-- A head's keys or values in the table. -/
def kAt (K : Vec F S256x128x64 .bf16) (b : Fin 2) (h : Fin 4) : Vec F S1x128x64 .bf16 :=
  VecWindow.window K (o (BitVec.ofNat 32 (128 * b.val)) (BitVec.ofNat 32 h.val)) S1x128x64.size (ho b h)

abbrev keyS (i : S1024x128.Idx) : ℕ := (i 0).val / 128

theorem two_cases (a : Fin 2) : a = 0 ∨ a = 1 := by revert a; decide

theorem sAll_put (q : FVec F S256x256 .bf16) (kk : Fin 2 → Fin 4 → Vec F S1x128x64 .bf16) (b : Fin 2) (h : Fin 4) {f : Vec F S1024x128 .f32}
    (hf : Agr keyS (4 * b.val + h.val) f (sAll q kk)) :
    Agr keyS (4 * b.val + h.val + 1) (VecWindow.put f ![128 * (4 * b.val + h.val), 0] S128x128.size (sB q (kk b h) b h)) (sAll q kk) := by
  refine hf.put (fun i hi => ?_) (fun i hi a => ?_)
  · have h0 : 128 * (4 * b.val + h.val) ≤ (i 0).val ∧ (i 0).val < 128 * (4 * b.val + h.val) + 128 := hi 0
    have e : (i 0).val / 128 = 4 * b.val + h.val := by omega
    unfold sAll
    rw [e, nB_eq, nH_eq]
    refine congrArg (sB q (kk b h) b h) (funext fun a => Fin.ext ?_)
    obtain rfl | rfl := two_cases a
    · show (i 0).val - 128 * (4 * b.val + h.val) = (i 0).val % 128; omega
    · show (i 1).val - 0 = (i 1).val % 128
      have : (i 1).val < 128 := (i 1).isLt
      omega
  · have hi : (i 0).val / 128 = 4 * b.val + h.val := hi
    obtain rfl | rfl := two_cases a
    · show 128 * (4 * b.val + h.val) ≤ (i 0).val ∧ (i 0).val < 128 * (4 * b.val + h.val) + 128; omega
    · show 0 ≤ (i 1).val ∧ (i 1).val < 0 + 128
      have : (i 1).val < 128 := (i 1).isLt
      omega

theorem zAll_put (w : Vec F S1024x128 .bf16) (vv : Fin 2 → Fin 4 → Vec F S1x128x64 .bf16) (b : Fin 2) (h : Fin 4) {f : Vec F S256x256 .bf16}
    (hf : Agr tileOf (4 * b.val + h.val) f (zAll w vv)) :
    Agr tileOf (4 * b.val + h.val + 1) (VecWindow.put f ![128 * b.val, 64 * h.val] S128x64.size (wB (vv b h) w b h)) (zAll w vv) := by
  have hb := b.isLt; have hh := h.isLt
  refine hf.put (fun i hi => ?_) (fun i hi a => ?_)
  · have h0 : 128 * b.val ≤ (i 0).val ∧ (i 0).val < 128 * b.val + 128 := hi 0
    have h1 : 64 * h.val ≤ (i 1).val ∧ (i 1).val < 64 * h.val + 64 := hi 1
    have e : tileOf i = 4 * b.val + h.val := by unfold tileOf; omega
    unfold zAll
    rw [e, nB_eq, nH_eq]
    refine congrArg (wB (vv b h) w b h) (funext fun a => Fin.ext ?_)
    obtain rfl | rfl := two_cases a
    · show (i 0).val - 128 * b.val = (i 0).val % 128; omega
    · show (i 1).val - 64 * h.val = (i 1).val % 64; omega
  · have hi : 4 * ((i 0).val / 128) + (i 1).val / 64 = 4 * b.val + h.val := hi
    have h1 : (i 1).val < 256 := (i 1).isLt
    obtain rfl | rfl := two_cases a
    · show 128 * b.val ≤ (i 0).val ∧ (i 0).val < 128 * b.val + 128; omega
    · show 64 * h.val ≤ (i 1).val ∧ (i 1).val < 64 * h.val + 64; omega

/-- Full agreement. -/
theorem Agr.eq {s : Shape} {α : Type} {key : s.Idx → ℕ} {n : ℕ} {f T : s.Idx → α} (h : Agr key n f T) (hn : ∀ i, key i < n) : f = T := funext fun i => h i (hn i)
theorem Agr.zero {s : Shape} {α : Type} {key : s.Idx → ℕ} {f T : s.Idx → α} : Agr key 0 f T := fun _ h => absurd h (Nat.not_lt_zero _)

variable (c : Dev nD)

abbrev at_ (b : Ref sig .tc) (q : PosShare TreeShare) (f : b.ty.Contents (Elt F)) : sProp 𝕄 := ((c : Thread nD τ).loc b) ↦{q} f

/-- The scores scratch, right below block n. -/
def sTo (q : FVec F S256x256 .bf16) (kk : Fin 2 → Fin 4 → Vec F S1x128x64 .bf16) (n : ℕ) : sProp 𝕄 :=
  iprop(∃ f, at_ c cc0_scratch2 fullShare f ∗ ⌜Agr keyS n f (sAll q kk)⌝)
/-- The contexts scratch, right below tile n. -/
def zTo (w : Vec F S1024x128 .bf16) (vv : Fin 2 → Fin 4 → Vec F S1x128x64 .bf16) (n : ℕ) : sProp 𝕄 :=
  iprop(∃ f, at_ c cc0_scratch4 fullShare f ∗ ⌜Agr tileOf n f (zAll w vv)⌝)

section Runs

theorem run_stepS {α : Type} {Q : α → sProp 𝕄} (K : Vec F S256x128x64 .bf16) {qk : PosShare TreeShare} (q : FVec F S256x256 .bf16) (b : Fin 2) (h : Fin 4) {n m : ℕ}
    (hn : n = 4 * b.val + h.val) (hm : m = n + 1) {k : PUnit → P (F := F) α} :
    iprop(at_ c cc0_stg2_0 qk K ∗ sTo c q (kAt o ho K) n)
      ⊢ iprop((at_ c cc0_stg2_0 qk K ∗ sTo c q (kAt o ho K) m -∗ run c (k ⟨⟩) Q) -∗ run c (stepS o ho q b h k) Q) := by
  subst hm; subst hn
  unfold sTo stepS
  iintro ⟨HK, ⟨%f, Hf, %hf⟩⟩ Hk
  iapply (wp_ld c (cs := .vmem) (i := 2) (hκ := rfl) (ho b h)) $$ HK
  iintro HK
  iapply (wp_ld c (cs := .vmem) (i := 7) (hκ := rfl) (inb_S b h)) $$ Hf
  iintro Hf
  iapply (wp_st c (cs := .vmem) (i := 7) (hκ := rfl) (inb_S b h)) $$ Hf
  iintro Hf
  iapply Hk
  isplitl [HK]; · iexact HK
  iexists _
  isplitl [Hf]; · iexact Hf
  ipureintro
  exact sAll_put q (kAt o ho K) b h hf

theorem run_stepW {α : Type} {Q : α → sProp 𝕄} (V : Vec F S256x128x64 .bf16) {qv qw : PosShare TreeShare} (w : Vec F S1024x128 .bf16) (b : Fin 2) (h : Fin 4) {n m : ℕ}
    (hn : n = 4 * b.val + h.val) (hm : m = n + 1) {k : PUnit → P (F := F) α} :
    iprop(at_ c cc0_stg3_0 qv V ∗ at_ c cc0_scratch3 qw w ∗ zTo c w (kAt o ho V) n)
      ⊢ iprop((at_ c cc0_stg3_0 qv V ∗ at_ c cc0_scratch3 qw w ∗ zTo c w (kAt o ho V) m -∗ run c (k ⟨⟩) Q) -∗ run c (stepW o ho b h k) Q) := by
  subst hm; subst hn
  unfold zTo stepW
  iintro ⟨HK, Hw, ⟨%f, Hf, %hf⟩⟩ Hk
  iapply (wp_ld c (cs := .vmem) (i := 3) (hκ := rfl) (ho b h)) $$ HK
  iintro HK
  iapply (wp_ld c (cs := .vmem) (i := 8) (hκ := rfl) (inb_S b h)) $$ Hw
  iintro Hw
  iapply (wp_ld c (cs := .vmem) (i := 9) (hκ := rfl) (inb_Z b h)) $$ Hf
  iintro Hf
  iapply (wp_st c (cs := .vmem) (i := 9) (hκ := rfl) (inb_Z b h)) $$ Hf
  iintro Hf
  iapply Hk
  isplitl [HK]; · iexact HK
  isplitl [Hw]; · iexact Hw
  iexists _
  isplitl [Hf]; · iexact Hf
  ipureintro
  exact zAll_put w (kAt o ho V) b h hf

end Runs

theorem off2 (a : Fin 2) : (![0, 0] : Fin 2 → ℕ) a = 0 := by revert a; decide

theorem window_all {m n : ℕ} {α : Type} (f : (⟨2, ![m, n]⟩ : Shape).Idx → α) (inb : ∀ a, ![0, 0] a + (⟨2, ![m, n]⟩ : Shape).size a ≤ (⟨2, ![m, n]⟩ : Shape).size a) :
    VecWindow.window (s := ⟨2, ![m, n]⟩) f ![0, 0] (⟨2, ![m, n]⟩ : Shape).size inb = f :=
  funext fun z => congrArg f (Rect.emb_unit_full inb z)

theorem put_all {m n : ℕ} {α : Type} (f w : (⟨2, ![m, n]⟩ : Shape).Idx → α) :
    VecWindow.put (s := ⟨2, ![m, n]⟩) f ![0, 0] (⟨2, ![m, n]⟩ : Shape).size w = w := by
  funext i
  have h : ∀ a : Fin 2, (![0, 0] : Fin 2 → ℕ) a ≤ (i a).val ∧ (i a).val < (![0, 0] : Fin 2 → ℕ) a + (⟨2, ![m, n]⟩ : Shape).size a := fun a => by
    rw [off2, Nat.zero_add]; exact ⟨Nat.zero_le _, (i a).isLt⟩
  unfold VecWindow.put
  refine (dif_pos h).trans (congrArg w (funext fun a => Fin.ext ?_))
  show (i a).val - (![0, 0] : Fin 2 → ℕ) a = (i a).val
  rw [off2]; rfl

/-- A half chunk as the load of a half slot reads it. -/
abbrev up (a : Vec F S256x512 .bf16) : Vec F S1x256x512 .bf16 := shapeCast S1x256x512 a (by decide)

/-- A load of a half slot. -/
theorem wp_ldH (d hf : Fin 2) (j : Fin 4) {off : Fin 3 → ℕ} (hoff : off = ![j.val, 256 * hf.val, 0]) (inb : ∀ a, off a + S1x256x512.size a ≤ S4x512x512.size a)
    {q : PosShare TreeShare} {f : Buf (Elt F) ((hM d hf j).view.loc (c : Thread nD τ))} {hl : (cM d).view.LoadsAt (Rect.unit (s := S4x512x512) off S1x256x512.size inb).toLoadRect}
    {α : Type} {Q : α → sProp 𝕄} {k : Vec F S1x256x512 .bf16 → P (F := F) α} :
    hPts c d hf j q f ⊢ iprop((hPts c d hf j q f -∗ run c (k (up ((hM d hf j).view.read (Elt F) f))) Q)
      -∗ run c (.op (.load (cM d) (Rect.unit (s := S4x512x512) off S1x256x512.size inb).toLoadRect hl) k) Q) := by
  subst hoff
  have e : up ((hM d hf j).view.read (Elt F) f) = (cM d).view.readAt (Elt F) (Rect.unit (s := S4x512x512) ![j.val, 256 * hf.val, 0] S1x256x512.size inb).toLoadRect f :=
    shapeCast_shapeCast ((cM d).view.readAt (Elt F) (Rect.unit (s := S4x512x512) ![j.val, 256 * hf.val, 0] S1x256x512.size inb).toLoadRect f) _ _
  rw [e]
  refine wp_load 𝒱₀ (c : Thread nD τ) none Set.univ (m := cM d) ?_
  exact (((View.set_reshape _ _).trans (View.set_slice (cM d).view (Rect.unit (s := S4x512x512) ![j.val, 256 * hf.val, 0] S1x256x512.size inb))).symm).subset

/-- The scratch buffers of scores and weights. -/
def scr : sProp 𝕄 := iprop((∃ f, at_ c cc0_scratch2 fullShare f) ∗ (∃ f, at_ c cc0_scratch3 fullShare f))

theorem sTo_zero (q : FVec F S256x256 .bf16) (kk : Fin 2 → Fin 4 → Vec F S1x128x64 .bf16) (f : Vec F S1024x128 .f32) :
    at_ c cc0_scratch2 fullShare f ⊢ sTo c q kk 0 := by
  unfold sTo; iintro H; iexists f; isplitl; · iexact H
  ipureintro; exact Agr.zero
theorem zTo_zero (w : Vec F S1024x128 .bf16) (vv : Fin 2 → Fin 4 → Vec F S1x128x64 .bf16) (f : Vec F S256x256 .bf16) :
    at_ c cc0_scratch4 fullShare f ⊢ zTo c w vv 0 := by
  unfold zTo; iintro H; iexists f; isplitl; · iexact H
  ipureintro; exact Agr.zero
theorem sTo_end (q : FVec F S256x256 .bf16) (kk : Fin 2 → Fin 4 → Vec F S1x128x64 .bf16) :
    sTo c q kk 8 ⊢ at_ c cc0_scratch2 fullShare (sAll q kk) := by
  unfold sTo; iintro ⟨%f, H, %h⟩
  have e : f = sAll q kk := h.eq fun i => by
    have : (i 0).val < 1024 := (i 0).isLt
    show (i 0).val / 128 < 8; omega
  subst e; iexact H
theorem zTo_end (w : Vec F S1024x128 .bf16) (vv : Fin 2 → Fin 4 → Vec F S1x128x64 .bf16) :
    zTo c w vv 8 ⊢ at_ c cc0_scratch4 fullShare (zAll w vv) := by
  unfold zTo; iintro ⟨%f, H, %h⟩
  have e : f = zAll w vv := h.eq fun i => by
    have : (i 0).val < 256 := (i 0).isLt
    have : (i 1).val < 256 := (i 1).isLt
    show 4 * ((i 0).val / 128) + (i 1).val / 64 < 8; omega
  subst e; iexact H

/-- The query half's part: the contexts, from the half slot, the queries' input and the two tables. -/
theorem run_compA {α : Type} {Q : α → sProp 𝕄} (d : Fin 2) (j : Fin 4) {off : Fin 3 → ℕ} (hoff : off = ![j.val, 256 * (0 : Fin 2).val, 0])
    (inb : ∀ a, off a + S1x256x512.size a ≤ S4x512x512.size a) {qa qx qk qv : PosShare TreeShare}
    {f : Buf (Elt F) ((hM d 0 j).view.loc (c : Thread nD τ))} {x : Vec F S256x512 .bf16} {K V : Vec F S256x128x64 .bf16} {k : PUnit → P (F := F) α} :
    iprop(hPts c d 0 j qa f ∗ at_ c cc0_stg0_0 qx x ∗ at_ c cc0_stg2_0 qk K ∗ at_ c cc0_stg3_0 qv V ∗ scr c ∗ (∃ z, at_ c cc0_scratch4 fullShare z))
      ⊢ iprop((hPts c d 0 j qa f ∗ at_ c cc0_stg0_0 qx x ∗ at_ c cc0_stg2_0 qk K ∗ at_ c cc0_stg3_0 qv V ∗ scr c
          ∗ at_ c cc0_scratch4 fullShare (zAll (Gen.k0_pay38 (sAll (Gen.k0_pay26 (up ((hM d 0 j).view.read (Elt F) f)) x) (kAt o ho K))) (kAt o ho V))
          -∗ run c (k ⟨⟩) Q) -∗ run c (compA o ho (cM d) off inb k) Q) := by
  unfold compA scr
  iintro ⟨Ha, Hx, HK, HV, ⟨⟨%s, Hs⟩, ⟨%w, Hw⟩⟩, ⟨%z, Hz⟩⟩ Hk
  iapply (wp_ldH c d 0 j hoff inb) $$ Ha
  iintro Ha
  iapply (wp_ld c (cs := .vmem) (i := 0) (hκ := rfl) (off := ![0, 0]) (size := S256x512.size) inb_S256x512_S256x512_0_0) $$ Hx
  iintro Hx
  rw [window_all]
  ihave Hs := (sTo_zero c (Gen.k0_pay26 (up ((hM d 0 j).view.read (Elt F) f)) x) (kAt o ho K) s) $$ Hs
  iapply (run_stepS o ho c K (qk := qk) _ 0 0 (n := 0) (m := 1) rfl rfl) $$ [HK Hs]
  · isplitl [HK]; · iexact HK
    iexact Hs
  iintro ⟨HK, Hs⟩
  iapply (run_stepS o ho c K (qk := qk) _ 0 1 (n := 1) (m := 2) rfl rfl) $$ [HK Hs]
  · isplitl [HK]; · iexact HK
    iexact Hs
  iintro ⟨HK, Hs⟩
  iapply (run_stepS o ho c K (qk := qk) _ 0 2 (n := 2) (m := 3) rfl rfl) $$ [HK Hs]
  · isplitl [HK]; · iexact HK
    iexact Hs
  iintro ⟨HK, Hs⟩
  iapply (run_stepS o ho c K (qk := qk) _ 0 3 (n := 3) (m := 4) rfl rfl) $$ [HK Hs]
  · isplitl [HK]; · iexact HK
    iexact Hs
  iintro ⟨HK, Hs⟩
  iapply (run_stepS o ho c K (qk := qk) _ 1 0 (n := 4) (m := 5) rfl rfl) $$ [HK Hs]
  · isplitl [HK]; · iexact HK
    iexact Hs
  iintro ⟨HK, Hs⟩
  iapply (run_stepS o ho c K (qk := qk) _ 1 1 (n := 5) (m := 6) rfl rfl) $$ [HK Hs]
  · isplitl [HK]; · iexact HK
    iexact Hs
  iintro ⟨HK, Hs⟩
  iapply (run_stepS o ho c K (qk := qk) _ 1 2 (n := 6) (m := 7) rfl rfl) $$ [HK Hs]
  · isplitl [HK]; · iexact HK
    iexact Hs
  iintro ⟨HK, Hs⟩
  iapply (run_stepS o ho c K (qk := qk) _ 1 3 (n := 7) (m := 8) rfl rfl) $$ [HK Hs]
  · isplitl [HK]; · iexact HK
    iexact Hs
  iintro ⟨HK, Hs⟩
  ihave Hs := (sTo_end c _ _) $$ Hs
  iapply (wp_ld c (cs := .vmem) (i := 7) (hκ := rfl) (off := ![0, 0]) (size := S1024x128.size) inb_S1024x128_S1024x128_0_0) $$ Hs
  iintro Hs
  rw [window_all]
  iapply (wp_ld c (cs := .vmem) (i := 8) (hκ := rfl) (off := ![0, 0]) (size := S1024x128.size) inb_S1024x128_S1024x128_0_0) $$ Hw
  iintro Hw
  iapply (wp_st c (cs := .vmem) (i := 8) (hκ := rfl) (off := ![0, 0]) (size := S1024x128.size) inb_S1024x128_S1024x128_0_0) $$ Hw
  iintro Hw
  rw [put_all]
  ihave Hz := (zTo_zero c (Gen.k0_pay38 (sAll (Gen.k0_pay26 (up ((hM d 0 j).view.read (Elt F) f)) x) (kAt o ho K))) (kAt o ho V) z) $$ Hz
  iapply (run_stepW o ho c V (qv := qv) (qw := fullShare) _ 0 0 (n := 0) (m := 1) rfl rfl) $$ [HV Hw Hz]
  · isplitl [HV]; · iexact HV
    isplitl [Hw]; · iexact Hw
    iexact Hz
  iintro ⟨HV, Hw, Hz⟩
  iapply (run_stepW o ho c V (qv := qv) (qw := fullShare) _ 0 1 (n := 1) (m := 2) rfl rfl) $$ [HV Hw Hz]
  · isplitl [HV]; · iexact HV
    isplitl [Hw]; · iexact Hw
    iexact Hz
  iintro ⟨HV, Hw, Hz⟩
  iapply (run_stepW o ho c V (qv := qv) (qw := fullShare) _ 0 2 (n := 2) (m := 3) rfl rfl) $$ [HV Hw Hz]
  · isplitl [HV]; · iexact HV
    isplitl [Hw]; · iexact Hw
    iexact Hz
  iintro ⟨HV, Hw, Hz⟩
  iapply (run_stepW o ho c V (qv := qv) (qw := fullShare) _ 0 3 (n := 3) (m := 4) rfl rfl) $$ [HV Hw Hz]
  · isplitl [HV]; · iexact HV
    isplitl [Hw]; · iexact Hw
    iexact Hz
  iintro ⟨HV, Hw, Hz⟩
  iapply (run_stepW o ho c V (qv := qv) (qw := fullShare) _ 1 0 (n := 4) (m := 5) rfl rfl) $$ [HV Hw Hz]
  · isplitl [HV]; · iexact HV
    isplitl [Hw]; · iexact Hw
    iexact Hz
  iintro ⟨HV, Hw, Hz⟩
  iapply (run_stepW o ho c V (qv := qv) (qw := fullShare) _ 1 1 (n := 5) (m := 6) rfl rfl) $$ [HV Hw Hz]
  · isplitl [HV]; · iexact HV
    isplitl [Hw]; · iexact Hw
    iexact Hz
  iintro ⟨HV, Hw, Hz⟩
  iapply (run_stepW o ho c V (qv := qv) (qw := fullShare) _ 1 2 (n := 6) (m := 7) rfl rfl) $$ [HV Hw Hz]
  · isplitl [HV]; · iexact HV
    isplitl [Hw]; · iexact Hw
    iexact Hz
  iintro ⟨HV, Hw, Hz⟩
  iapply (run_stepW o ho c V (qv := qv) (qw := fullShare) _ 1 3 (n := 7) (m := 8) rfl rfl) $$ [HV Hw Hz]
  · isplitl [HV]; · iexact HV
    isplitl [Hw]; · iexact Hw
    iexact Hz
  iintro ⟨HV, Hw, Hz⟩
  ihave Hz := (zTo_end c _ _) $$ Hz
  iapply Hk
  isplitl [Ha]; · iexact Ha
  isplitl [Hx]; · iexact Hx
  isplitl [HK]; · iexact HK
  isplitl [HV]; · iexact HV
  isplitl [Hs Hw]
  · isplitl [Hs]
    · iexists _; iexact Hs
    iexists _; iexact Hw
  iexact Hz

/-- The output half's part: the sum, from the half slot and the contexts. -/
theorem run_compB {α : Type} {Q : α → sProp 𝕄} (d : Fin 2) (j : Fin 4) {off : Fin 3 → ℕ} (hoff : off = ![j.val, 256 * (1 : Fin 2).val, 0])
    (inb : ∀ a, off a + S1x256x512.size a ≤ S4x512x512.size a) {qb qz : PosShare TreeShare}
    {f : Buf (Elt F) ((hM d 1 j).view.loc (c : Thread nD τ))} {z : Vec F S256x256 .bf16} {r : Vec F S256x512 .f32} {k : PUnit → P (F := F) α} :
    iprop(hPts c d 1 j qb f ∗ at_ c cc0_scratch4 qz z ∗ at_ c cc0_stg5_0 fullShare r)
      ⊢ iprop((hPts c d 1 j qb f ∗ at_ c cc0_scratch4 qz z
          ∗ at_ c cc0_stg5_0 fullShare (Gen.k0_pay49 (up ((hM d 1 j).view.read (Elt F) f)) z r)
          -∗ run c (k ⟨⟩) Q) -∗ run c (compB (cM d) off inb k) Q) := by
  unfold compB
  iintro ⟨Hb, Hz, Hr⟩ Hk
  iapply (wp_ldH c d 1 j hoff inb) $$ Hb
  iintro Hb
  iapply (wp_ld c (cs := .vmem) (i := 9) (hκ := rfl) (off := ![0, 0]) (size := S256x256.size) inb_S256x256_S256x256_0_0) $$ Hz
  iintro Hz
  rw [window_all]
  iapply (wp_ld c (cs := .vmem) (i := 4) (hκ := rfl) (off := ![0, 0]) (size := S256x512.size) inb_S256x512_S256x512_0_0) $$ Hr
  iintro Hr
  iapply (wp_ld c (cs := .vmem) (i := 4) (hκ := rfl) (off := ![0, 0]) (size := S256x512.size) inb_S256x512_S256x512_0_0) $$ Hr
  iintro Hr
  iapply (wp_st c (cs := .vmem) (i := 4) (hκ := rfl) (off := ![0, 0]) (size := S256x512.size) inb_S256x512_S256x512_0_0) $$ Hr
  iintro Hr
  rw [put_all, window_all]
  iapply Hk
  isplitl [Hb]; · iexact Hb
  isplitl [Hz]; · iexact Hz
  iexact Hr

end Cert.Proof
-- ==== Proof.Forms.lean ====
module

public import proofs.«01_k».proof.Proof.Calc

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The kernel's program by its steps -/

theorem cMw (d : Fin 2) : (cM d).IsWhole := match d with
  | 0 => Memref.isWhole_whole _
  | 1 => Memref.isWhole_whole _

/-- The semaphores of a channel's sends (k = 0) or landings (k = 1). -/
abbrev sArr (d hf k : Fin 2) : DmaSems sig S4 :=
  match d, hf, k with
  | 0, 0, 0 => cc0_scratch5 | 0, 0, 1 => cc0_scratch6 | 0, 1, 0 => cc0_scratch7 | 0, 1, 1 => cc0_scratch8
  | 1, 0, 0 => cc0_scratch9 | 1, 0, 1 => cc0_scratch10 | 1, 1, 0 => cc0_scratch11 | 1, 1, 1 => cc0_scratch12

section Combinators
variable {α : Type}

/-- A stretch under a condition. -/
def whenP (b : BitVec 1) (p : b = 1#1 → (PUnit → P (F := F) α) → P (F := F) α) (k : PUnit → P (F := F) α) : P (F := F) α :=
  if h : b = 1#1 then p h k else k ⟨⟩

theorem whenP_bind {β : Type} (b : BitVec 1) (p : b = 1#1 → (PUnit → P (F := F) α) → P (F := F) α) (p' : b = 1#1 → (PUnit → P (F := F) β) → P (F := F) β)
    (K : α → P (F := F) β) (k : PUnit → P (F := F) α) (hp : ∀ h k, p h k >>= K = p' h fun u => k u >>= K) :
    whenP b p k >>= K = whenP b p' fun u => k u >>= K := by
  unfold whenP
  by_cases h : b = 1#1
  · rw [dif_pos h, dif_pos h]; exact hp h k
  · rw [dif_neg h, dif_neg h]

variable (d hf : Fin 2)
abbrev semIn (k : Fin 2) (o : Fin 1 → ℕ) (h : ∀ a, o a + S1.size a ≤ S4.size a) : DmaSem sig :=
  (((sArr d hf k).slice (Rect.unit (s := S4) o S1.size h)).squeeze S_ squeezes_S1_S_).sem
abbrev halfIn (o : Fin 3 → ℕ) (h : ∀ a, o a + S1x256x512.size a ≤ S4x512x512.size a) : Memref sig .tc .vmem S256x512 .bf16 :=
  ((cM d).slice (Rect.unit (s := S4x512x512) o S1x256x512.size h) (fun _ => rfl)).squeeze S256x512 squeezes_S1x256x512_S256x512

/-- A wait on a channel's semaphore. -/
def waitP (k : Fin 2) {os : Fin 1 → ℕ} (hs : ∀ a, os a + S1.size a ≤ S4.size a) {o₁ o₂ : Fin 3 → ℕ}
    {h₁ : ∀ a, o₁ a + S1x256x512.size a ≤ S4x512x512.size a} {h₂ : ∀ a, o₂ a + S1x256x512.size a ≤ S4x512x512.size a}
    (w₁ : (Rect.unit (s := S4x512x512) o₁ S1x256x512.size h₁).WholeWords (EltTy.packing .bf16))
    (w₂ : (Rect.unit (s := S4x512x512) o₂ S1x256x512.size h₂).WholeWords (EltTy.packing .bf16)) (kk : PUnit → P (F := F) α) : P (F := F) α :=
  .op (.waitDma2 (semIn d hf k os hs) (halfIn d o₂ h₂) (halfIn d o₁ h₁) (((cMw d).wordExact_slice rfl _ w₂).reshape _ _) (((cMw d).wordExact_slice rfl _ w₁).reshape _ _)) kk

theorem cM_tc (d : Fin 2) (o : Fin 3 → ℕ) (h : ∀ a, o a + S1x256x512.size a ≤ S4x512x512.size a) : (halfIn d o h).view.ref.isScScratch = false := by
  obtain rfl | rfl := two_cases d
  · rfl
  · rfl

/-- A send on a channel. -/
def sendP {os or : Fin 1 → ℕ} (hs : ∀ a, os a + S1.size a ≤ S4.size a) (hr : ∀ a, or a + S1.size a ≤ S4.size a) {o₁ o₂ : Fin 3 → ℕ}
    {h₁ : ∀ a, o₁ a + S1x256x512.size a ≤ S4x512x512.size a} {h₂ : ∀ a, o₂ a + S1x256x512.size a ≤ S4x512x512.size a}
    (w₁ : (Rect.unit (s := S4x512x512) o₁ S1x256x512.size h₁).WholeWords (EltTy.packing .bf16))
    (w₂ : (Rect.unit (s := S4x512x512) o₂ S1x256x512.size h₂).WholeWords (EltTy.packing .bf16)) (n : Dev nD) (kk : PUnit → P (F := F) α) : P (F := F) α :=
  .op (.enqueueDma (halfIn d o₂ h₂) (.remote (Dev.tc n) (halfIn d o₁ h₁) (.dma (semIn d hf 0 os hs)) (cM_tc d o₁ h₁)) (.dma (semIn d hf 1 or hr))
    (((cMw d).wordExact_slice rfl _ w₂).reshape _ _) (((cMw d).wordExact_slice rfl _ w₁).reshape _ _) ⟨⟨rfl, Or.inl rfl⟩, trivial⟩) kk

/-- A word of the table of neighbours and owners. -/
def metaP {off : Fin 1 → ℕ} (h : ∀ a, off a + S1.size a ≤ S35.size a) (k : Elt F .i32 → P (F := F) α) : P (F := F) α :=
  smemLoadElt mT (Rect.unit (s := S35) off S1.size h) (View.loads_smem_one rfl numel1_S1) (Shape.Idx.first (numel1_S1.symm ▸ Nat.one_pos)) k

def assumeP (p : Prop) (dp : Decidable p) (k : p → P (F := F) α) : P (F := F) α := .op (TpuEff.assume p dp) fun h => k h.down

end Combinators

/-! ## A trip -/

variable (t : Fin k0_t1_loop.trips)
/-- Whether the trip waits for a unit of the right-going, the left-going credit. -/
def crB0 : BitVec 1 := Scalar.cmpi .ne (Scalar.extui (Scalar.cmpi .sge (Scf.iv 0#32 1#32 t) 3#32) : BitVec 32) 0#32
def crB1 : BitVec 1 :=
  Scalar.cmpi .ne (Scalar.extui (Scalar.andi (Scalar.cmpi .sge (Scf.iv 0#32 1#32 t) 3#32) (Scalar.cmpi .sle (Scf.iv 0#32 1#32 t) 14#32)) : BitVec 32) 0#32

section Trip
variable (v0 : Elt F .i32) (hw2 : k0_chk2 v0) (v1 : Elt F .i32) (hw1 : k0_chk1 v1) {α : Type}

/-- Its start. -/
def form8 (k : P (F := F) α) : P (F := F) α :=
  whenP (crB0 t) (fun _ k => semWaitWord cc0_scratch13.sem 1#32 >>= k) fun _ =>
  whenP (crB1 t) (fun _ k => semWaitWord cc0_scratch14.sem 1#32 >>= k) fun _ =>
  whenP (k0_cond3 t) (fun h k => waitP 0 0 1 (k0_off1_inb t h) (k0_off2_wordsbf16 t h) (k0_off3_wordsbf16 t h) k) fun _ =>
  sendP 0 0 (k0_off4_inb t) (k0_off5_inb t) (k0_off6_wordsbf16 t) (k0_off7_wordsbf16 t) ⟨k0_dev3 v0, k0_dev3_lt v0 hw2⟩ fun _ =>
  whenP (k0_cond4 t) (fun h k => waitP 0 1 1 (k0_off8_inb t h) (k0_off9_wordsbf16 t h) (k0_off10_wordsbf16 t h) k) fun _ => k

def form9 (k : P (F := F) α) : P (F := F) α :=
  sendP 0 1 (k0_off4_inb t) (k0_off5_inb t) (k0_off11_wordsbf16 t) (k0_off12_wordsbf16 t) ⟨k0_dev4 v0, k0_dev4_lt v0 hw2⟩ fun _ =>
  whenP (k0_cond5 t) (fun h k => waitP 1 0 1 (k0_off13_inb t h) (k0_off14_wordsbf16 t h) (k0_off15_wordsbf16 t h) k) fun _ =>
  whenP (k0_cond6 t) (fun h k => sendP 1 0 (k0_off16_inb t h) (k0_off17_inb t h) (k0_off18_wordsbf16 t h) (k0_off19_wordsbf16 t h) ⟨k0_dev5 v1, k0_dev5_lt v1 hw1 t h⟩ k) fun _ =>
  whenP (k0_cond7 t) (fun h k => waitP 1 1 1 (k0_off20_inb t h) (k0_off21_wordsbf16 t h) (k0_off22_wordsbf16 t h) k) fun _ =>
  whenP (k0_cond8 t) (fun h k => sendP 1 1 (k0_off23_inb t h) (k0_off24_inb t h) (k0_off25_wordsbf16 t h) (k0_off26_wordsbf16 t h) ⟨k0_dev6 v1, k0_dev6_lt v1 hw1 t h⟩ k) fun _ => k

/-- The right-going chunk's part. -/
def calcR (k : PUnit → P (F := F) α) : P (F := F) α :=
  metaP (k0_off27_inb t) fun v => assumeP (k0_chk3 v) (k0_chk3.dec v) fun hw =>
  compA (k0_off29 v) (k0_off29_inb v hw) (cM 0) (k0_off28 t) (k0_off28_inb t) fun _ =>
  compB (cM 0) (k0_off30 t) (k0_off30_inb t) k
/-- The left-going chunk's. -/
def calcL (h : k0_cond9 t = 1#1) (k : PUnit → P (F := F) α) : P (F := F) α :=
  metaP (k0_off31_inb t h) fun v => assumeP (k0_chk4 t v) (k0_chk4.dec t v) fun hw =>
  compA (k0_off33 v) (k0_off33_inb t v hw h) (cM 1) (k0_off32 t) (k0_off32_inb t h) fun _ =>
  compB (cM 1) (k0_off34 t) (k0_off34_inb t h) k
/-- Its end. -/
def formE (k : PUnit → P (F := F) α) : P (F := F) α :=
  waitP 0 0 0 (k0_off35_inb t) (k0_off36_wordsbf16 t) (k0_off37_wordsbf16 t) fun _ =>
  waitP 0 1 0 (k0_off35_inb t) (k0_off38_wordsbf16 t) (k0_off39_wordsbf16 t) fun _ =>
  whenP (k0_cond10 t) (fun h k => waitP 1 0 0 (k0_off40_inb t h) (k0_off41_wordsbf16 t h) (k0_off42_wordsbf16 t h) fun _ =>
    waitP 1 1 0 (k0_off40_inb t h) (k0_off43_wordsbf16 t h) (k0_off44_wordsbf16 t h) k) fun _ =>
  whenP (k0_cond11 t) (fun h k => semSignalWord (⟨k0_dev7 v1, k0_dev7_lt v1 hw1 t h⟩ : Dev nD) cc0_scratch13.sem 1#32 >>= k) fun _ =>
  whenP (k0_cond12 t) (fun h k => semSignalWord (⟨k0_dev8 v0, k0_dev8_lt v0 hw2 t h⟩ : Dev nD) cc0_scratch14.sem 1#32 >>= k) k

def tripP (k : PUnit → P (F := F) α) : P (F := F) α :=
  form8 t v0 hw2 (form9 t v0 hw2 v1 hw1 (calcR t fun _ => whenP (k0_cond9 t) (calcL t) fun _ => formE t v0 hw2 v1 hw1 k))

theorem form8_bind {β : Type} (K : α → P (F := F) β) (k : P (F := F) α) : form8 t v0 hw2 k >>= K = form8 t v0 hw2 (k >>= K) := by
  unfold form8
  refine (whenP_bind _ _ _ K _ fun _ _ => rfl).trans (congrArg (whenP _ _) (funext fun _ => ?_))
  refine (whenP_bind _ _ _ K _ fun _ _ => rfl).trans (congrArg (whenP _ _) (funext fun _ => ?_))
  refine (whenP_bind _ _ _ K _ fun _ _ => rfl).trans (congrArg (whenP _ _) (funext fun _ => ?_))
  refine congrArg (sendP 0 0 (k0_off4_inb t) (k0_off5_inb t) (k0_off6_wordsbf16 t) (k0_off7_wordsbf16 t) ⟨k0_dev3 v0, k0_dev3_lt v0 hw2⟩) (funext fun _ => ?_)
  exact whenP_bind _ _ _ K _ fun _ _ => rfl

theorem form9_bind {β : Type} (K : α → P (F := F) β) (k : P (F := F) α) : form9 t v0 hw2 v1 hw1 k >>= K = form9 t v0 hw2 v1 hw1 (k >>= K) := by
  unfold form9
  refine congrArg (sendP 0 1 (k0_off4_inb t) (k0_off5_inb t) (k0_off11_wordsbf16 t) (k0_off12_wordsbf16 t) ⟨k0_dev4 v0, k0_dev4_lt v0 hw2⟩) (funext fun _ => ?_)
  refine (whenP_bind _ _ _ K _ fun _ _ => rfl).trans (congrArg (whenP _ _) (funext fun _ => ?_))
  refine (whenP_bind _ _ _ K _ fun _ _ => rfl).trans (congrArg (whenP _ _) (funext fun _ => ?_))
  refine (whenP_bind _ _ _ K _ fun _ _ => rfl).trans (congrArg (whenP _ _) (funext fun _ => ?_))
  exact whenP_bind _ _ _ K _ fun _ _ => rfl

theorem part8_eq : k0_part8 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 0#32 1#32 t = form8 t v0 hw2 (.ret ⟨Scf.iv 0#32 1#32 t, Scalar.remsi (Scf.iv 0#32 1#32 t) 4#32⟩) := rfl

theorem part9_eq (a b : BitVec 32) : k0_part9 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1 t a b = form9 t v0 hw2 v1 hw1 (metaP (k0_off27_inb t) fun v => assumeP (k0_chk3 v) (k0_chk3.dec v) fun hw =>
    .op (.load (cM 0) (Rect.unit (s := S4x512x512) (k0_off28 t) S1x256x512.size (k0_off28_inb t)).toLoadRect (View.loadsAt_vmem h_S1x256x512)) fun a =>
    .op (.load mX (Rect.unit (s := S256x512) ![0, 0] S256x512.size inb_S256x512_S256x512_0_0).toLoadRect (View.loadsAt_vmem h_S256x512)) fun x =>
    .ret ⟨v, hw, Gen.k0_pay26 a x, Gen.k0_pay27 a x⟩) := rfl

end Trip

end Cert.Proof
-- ==== Proof.Body.lean ====
module

public import proofs.«01_k».proof.Proof.Forms

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (t : Fin k0_t1_loop.trips)

/-- The left-going chunk's part, as the program has it. -/
def partsL (a b : BitVec 32) (h : k0_cond9 t = 1#1) {α : Type} (k : PUnit → P (F := F) α) : P (F := F) α :=
  k0_part1 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t a b h >>= fun ⟨v577, hw4, v586, v607⟩ => k0_part2 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t h v577 hw4 v586 v607 >>= fun v643 =>
  k0_part3 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t h v577 hw4 v586 v643 >>= fun ⟨v671, v678⟩ => k0_part4 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t h v577 hw4 v671 v678 >>= fun _ =>
  k0_part5 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t h v577 hw4 >>= fun v745 => k0_part6 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t h v577 hw4 v745 >>= fun _ => k0_part7 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t b h v577 hw4 >>= k

theorem partsL_eq (a b : BitVec 32) (h : k0_cond9 t = 1#1) {α : Type} (k : PUnit → P (F := F) α) : partsL t a b h k = calcL t h k := rfl

theorem part16_eq (a b : BitVec 32) (v534 : FVec F S1x128x64 .bf16) :
    k0_part16 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t a b v534
      = .op (.load mW (Rect.unit (s := S1024x128) ![128 * (4 * (1 : Fin 2).val + (3 : Fin 4).val), 0] S128x128.size (inb_S 1 3)).toLoadRect (View.loadsAt_vmem h_S128x128)) fun w =>
        .op (.load mZ (Rect.unit (s := S256x256) ![128 * (1 : Fin 2).val, 64 * (3 : Fin 4).val] S128x64.size (inb_Z 1 3)).toLoadRect (View.loadsAt_vmem h_S128x64)) fun _ =>
        .op (.store mZ (Rect.unit (s := S256x256) ![128 * (1 : Fin 2).val, 64 * (3 : Fin 4).val] S128x64.size (inb_Z 1 3)) (Gen.k0_pay48 v534 w) Finset.univ (z_stores 1 3) (.inl rfl)) fun _ =>
        compB (cM 0) (k0_off30 t) (k0_off30_inb t) fun _ =>
        whenP (k0_cond9 t) (fun h k => partsL t a b h k) fun _ =>
        waitP 0 0 0 (k0_off35_inb t) (k0_off36_wordsbf16 t) (k0_off37_wordsbf16 t) .ret := rfl

/-- The stretch between the queries and the last contexts, as the program has it. -/
def midP (v : Elt F .i32) (hw : k0_chk3 v) (q : FVec F S256x256 .bf16) (q' : FVec F S128x64 .bf16) {α : Type} (p : FVec F S1x128x64 .bf16 → P (F := F) α) : P (F := F) α :=
  k0_part10 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw q q' >>= fun ⟨v364, v366⟩ => k0_part11 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw q v364 v366 >>= fun ⟨v400, v401⟩ =>
  k0_part12 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw q v400 v401 >>= fun v437 => k0_part13 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw v437 >>= fun v469 => k0_part14 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw v469 >>= fun v502 =>
  k0_part15 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v hw v502 >>= p

/-- The end of the trip after the first wait. -/
def formT (v0 : Elt F .i32) (hw2 : k0_chk2 v0) (v1 : Elt F .i32) (hw1 : k0_chk1 v1) (k : PUnit → P (F := F) Unit) : P (F := F) Unit :=
      waitP 0 1 0 (k0_off35_inb t) (k0_off38_wordsbf16 t) (k0_off39_wordsbf16 t) fun _ =>
      whenP (k0_cond10 t) (fun h k => waitP 1 0 0 (k0_off40_inb t h) (k0_off41_wordsbf16 t h) (k0_off42_wordsbf16 t h) fun _ =>
        waitP 1 1 0 (k0_off40_inb t h) (k0_off43_wordsbf16 t h) (k0_off44_wordsbf16 t h) k) fun _ =>
      whenP (k0_cond11 t) (fun h k => semSignalWord (⟨k0_dev7 v1, k0_dev7_lt v1 hw1 t h⟩ : Dev nD) cc0_scratch13.sem 1#32 >>= k) fun _ =>
      whenP (k0_cond12 t) (fun h k => semSignalWord (⟨k0_dev8 v0, k0_dev8_lt v0 hw2 t h⟩ : Dev nD) cc0_scratch14.sem 1#32 >>= k) k

/-- The trip's program. -/
theorem trip_eq (v0 : Elt F .i32) (hw2 : k0_chk2 v0) (v1 : Elt F .i32) (hw1 : k0_chk1 v1) :
    Gen.k0_t1_body mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1 t () = tripP t v0 hw2 v1 hw1 .ret := by
  have e : Gen.k0_t1_body mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1 t () = k0_part8 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 0#32 1#32 t >>= fun ⟨a, b⟩ =>
      k0_part9 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1 t a b >>= fun ⟨v, hw, q, q'⟩ => midP v hw q q' fun v534 => k0_part16 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t a b v534 >>= fun _ =>
      formT t v0 hw2 v1 hw1 .ret := rfl
  rw [e, part8_eq, form8_bind]
  refine congrArg (form8 t v0 hw2) ?_
  refine (congrArg (fun p => p >>= _) (part9_eq t v0 hw2 v1 hw1 (Scf.iv 0#32 1#32 t) (Scalar.remsi (Scf.iv 0#32 1#32 t) 4#32))).trans ?_
  rw [form9_bind]
  refine congrArg (form9 t v0 hw2 v1 hw1) ?_
  have e16 : ∀ (a b : BitVec 32) (v534 : FVec F S1x128x64 .bf16) (K : PUnit → P (F := F) Unit), (k0_part16 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t a b v534 >>= K)
      = .op (.load mW (Rect.unit (s := S1024x128) ![128 * (4 * (1 : Fin 2).val + (3 : Fin 4).val), 0] S128x128.size (inb_S 1 3)).toLoadRect (View.loadsAt_vmem h_S128x128)) fun w =>
        .op (.load mZ (Rect.unit (s := S256x256) ![128 * (1 : Fin 2).val, 64 * (3 : Fin 4).val] S128x64.size (inb_Z 1 3)).toLoadRect (View.loadsAt_vmem h_S128x64)) fun _ =>
        .op (.store mZ (Rect.unit (s := S256x256) ![128 * (1 : Fin 2).val, 64 * (3 : Fin 4).val] S128x64.size (inb_Z 1 3)) (Gen.k0_pay48 v534 w) Finset.univ (z_stores 1 3) (.inl rfl)) fun _ =>
        compB (cM 0) (k0_off30 t) (k0_off30_inb t) fun _ =>
        whenP (k0_cond9 t) (calcL t) fun _ =>
        waitP 0 0 0 (k0_off35_inb t) (k0_off36_wordsbf16 t) (k0_off37_wordsbf16 t) K := by
    intro a b v534 K
    rw [part16_eq]
    refine congrArg (Prog.op _) (funext fun w => congrArg (Prog.op _) (funext fun _ => congrArg (Prog.op _) (funext fun _ => ?_)))
    refine congrArg (compB (cM 0) (k0_off30 t) (k0_off30_inb t)) (funext fun _ => ?_)
    exact whenP_bind _ _ _ K _ fun h k => by rw [partsL_eq]; rfl
  refine Eq.trans (b := metaP (k0_off27_inb t) fun v => assumeP (k0_chk3 v) (k0_chk3.dec v) fun hw =>
    .op (.load (cM 0) (Rect.unit (s := S4x512x512) (k0_off28 t) S1x256x512.size (k0_off28_inb t)).toLoadRect (View.loadsAt_vmem h_S1x256x512)) fun av =>
    .op (.load mX (Rect.unit (s := S256x512) ![0, 0] S256x512.size inb_S256x512_S256x512_0_0).toLoadRect (View.loadsAt_vmem h_S256x512)) fun x =>
    midP v hw (Gen.k0_pay26 av x) (Gen.k0_pay27 av x) fun v534 =>
      k0_part16 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 t (Scf.iv 0#32 1#32 t) (Scalar.remsi (Scf.iv 0#32 1#32 t) 4#32) v534 >>= fun _ => formT t v0 hw2 v1 hw1 .ret) rfl ?_
  have e2 := funext fun v534 => e16 (Scf.iv 0#32 1#32 t) (Scalar.remsi (Scf.iv 0#32 1#32 t) 4#32) v534 fun _ => formT t v0 hw2 v1 hw1 .ret
  rw [e2]
  rfl

/-! ## The body -/

/-- Its start: the barrier, and the device's own chunk in both buffers' first slots. -/
def startP {α : Type} (k : (v0 : Elt F .i32) → k0_chk2 v0 → (v1 : Elt F .i32) → k0_chk1 v1 → P (F := F) α) : P (F := F) α :=
  metaP (off := ![0]) inb_S35_S1_0 fun v0 => assumeP (k0_chk2 v0) (k0_chk2.dec v0) fun hw2 =>
  metaP (off := ![1]) inb_S35_S1_1 fun v1 => assumeP (k0_chk1 v1) (k0_chk1.dec v1) fun hw1 =>
  semSignalWord (⟨k0_dev1 v1, k0_dev1_lt v1 hw1⟩ : Dev nD) barS 1#32 >>= fun _ =>
  semSignalWord (⟨k0_dev2 v0, k0_dev2_lt v0 hw2⟩ : Dev nD) barS 1#32 >>= fun _ =>
  semWaitWord barS 2#32 >>= fun _ =>
  .op (.load mO (Rect.unit (s := S256x512) ![0, 0] S256x512.size inb_S256x512_S256x512_0_0).toLoadRect (View.loadsAt_vmem h_S256x512)) fun _ =>
  .op (.store mO (Rect.unit (s := S256x512) ![0, 0] S256x512.size inb_S256x512_S256x512_0_0) (Gen.k0_pay50 (F := F)) Finset.univ (View.stores_vmem_bits_univ h_S256x512 rfl) (.inl rfl)) fun _ =>
  .op (.load mC (Rect.unit (s := S512x512) ![0, 0] S512x512.size inb_S512x512_S512x512_0_0).toLoadRect (View.loadsAt_vmem h_S512x512)) fun x =>
  .op (.load (cM 0) (Rect.unit (s := S4x512x512) ![0, 0, 0] S1x512x512.size inb_S4x512x512_S1x512x512_0_0_0).toLoadRect (View.loadsAt_vmem h_S1x512x512)) fun _ =>
  .op (.store (cM 0) (Rect.unit (s := S4x512x512) ![0, 0, 0] S1x512x512.size inb_S4x512x512_S1x512x512_0_0_0) (Gen.k0_pay51 x) Finset.univ
    (View.stores_vmem h_S1x512x512 ((cMw 0).storeExact_slice rfl _ packedbf16_S4x512x512_S1x512x512_0_0_0) (fun _ => rfl)) (.inl rfl)) fun _ =>
  .op (.load mC (Rect.unit (s := S512x512) ![0, 0] S512x512.size inb_S512x512_S512x512_0_0).toLoadRect (View.loadsAt_vmem h_S512x512)) fun x =>
  .op (.load (cM 1) (Rect.unit (s := S4x512x512) ![0, 0, 0] S1x512x512.size inb_S4x512x512_S1x512x512_0_0_0).toLoadRect (View.loadsAt_vmem h_S1x512x512)) fun _ =>
  .op (.store (cM 1) (Rect.unit (s := S4x512x512) ![0, 0, 0] S1x512x512.size inb_S4x512x512_S1x512x512_0_0_0) (Gen.k0_pay52 x) Finset.univ
    (View.stores_vmem h_S1x512x512 ((cMw 1).storeExact_slice rfl _ packedbf16_S4x512x512_S1x512x512_0_0_0) (fun _ => rfl)) (.inl rfl)) fun _ =>
  k v0 hw2 v1 hw1

/-- Its loop. -/
def loopP (v0 : Elt F .i32) (hw2 : k0_chk2 v0) (v1 : Elt F .i32) (hw1 : k0_chk1 v1) : P (F := F) Unit :=
  Scf.Loop.for k0_t1_loop k0_t1_ok ⟨⟩ fun t _ => tripP t v0 hw2 v1 hw1 .ret

/-- Its end: the last chunk. -/
def endP : P (F := F) PUnit :=
  waitP 0 0 1 (os := ![0]) inb_S4_S1_0 wordsbf16_S4x512x512_S1x256x512_0_0_0 wordsbf16_S4x512x512_S1x256x512_0_0_0 fun _ =>
  metaP (off := ![18]) inb_S35_S1_18 fun v => assumeP (k0_chk5 v) (k0_chk5.dec v) fun hw =>
  compA (k0_off45 v) (k0_off45_inb v hw) (cM 0) ![0, 0, 0] inb_S4x512x512_S1x256x512_0_0_0 fun _ =>
  waitP 0 1 1 (os := ![0]) inb_S4_S1_0 wordsbf16_S4x512x512_S1x256x512_0_256_0 wordsbf16_S4x512x512_S1x256x512_0_256_0 fun _ =>
  compB (cM 0) ![0, 256, 0] inb_S4x512x512_S1x256x512_0_256_0 .ret

theorem part17_eq : k0_part17 (F := F) mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 = startP fun v0 hw2 v1 hw1 => loopP v0 hw2 v1 hw1 >>= fun _ => .ret v0 := by
  have e : ∀ (v0 : Elt F .i32) (hw2 : k0_chk2 v0) (v1 : Elt F .i32) (hw1 : k0_chk1 v1),
      Gen.k0_t1_body mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1 = fun t _ => tripP t v0 hw2 v1 hw1 .ret :=
    fun v0 hw2 v1 hw1 => funext fun t => funext fun _ => trip_eq t v0 hw2 v1 hw1
  refine Eq.trans (b := startP fun v0 hw2 v1 hw1 => Scf.Loop.for k0_t1_loop k0_t1_ok ⟨⟩ (Gen.k0_t1_body mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 hw2 v1 hw1) >>= fun _ => .ret v0) rfl ?_
  simp only [e]
  rfl

/-- Its end, as the program has it. -/
def tailP (v0 : Elt F .i32) : P (F := F) PUnit :=
  k0_part18 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 >>= fun ⟨v28, hw, v36, v49, v51, v52⟩ => k0_part19 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v28 hw v36 v49 v51 v52 >>= fun ⟨v85, v86⟩ =>
  k0_part20 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v28 hw v36 v85 v86 >>= fun _ => k0_part21 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v28 hw v36 >>= fun v156 => k0_part22 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v28 hw v156 >>= fun v188 =>
  k0_part23 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v28 hw v188 >>= fun v221 => k0_part24 mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 v0 v28 hw v221 >>= fun _ =>
  waitP 0 1 1 (os := ![0]) inb_S4_S1_0 wordsbf16_S4x512x512_S1x256x512_0_256_0 wordsbf16_S4x512x512_S1x256x512_0_256_0 fun _ =>
  compB (cM 0) ![0, 256, 0] inb_S4x512x512_S1x256x512_0_256_0 .ret

theorem body_eq : cc0__body (F := F) mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 = startP fun v0 hw2 v1 hw1 => loopP v0 hw2 v1 hw1 >>= fun _ => endP := by
  refine Eq.trans (b := k0_part17 (F := F) mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14 >>= fun v0 => tailP v0) rfl ?_
  rw [part17_eq]
  refine Eq.trans (b := startP fun v0 hw2 v1 hw1 => (loopP v0 hw2 v1 hw1 >>= fun _ => .ret v0) >>= fun v0 => tailP v0) rfl ?_
  refine congrArg startP (funext fun v0 => funext fun hw2 => funext fun v1 => funext fun hw1 => ?_)
  rw [bind_assoc]
  rfl

end Cert.Proof
-- ==== Proof.Facts.lean ====
/- What the program's offsets, conditions, devices and semaphores come to, trip by trip. -/
module

public import proofs.«01_k».proof.Proof.Body

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Semaphores and slots -/

theorem semIn_eq (d hf k : Fin 2) (j : Fin 4) {o : Fin 1 → ℕ} (ho : o = ![j.val]) (h : ∀ a, o a + S1.size a ≤ S4.size a) : semIn d hf k o h = chSem d hf k j := by
  subst ho
  have e : ∀ (d hf k : Fin 2) (j : Fin 4) (h : ∀ a, ![j.val] a + S1.size a ≤ S4.size a), semIn d hf k ![j.val] h = chSem d hf k j := by decide
  exact e d hf k j h
theorem halfIn_eq (d hf : Fin 2) (j : Fin 4) {o : Fin 3 → ℕ} (ho : o = ![j.val, 256 * hf.val, 0]) (h : ∀ a, o a + S1x256x512.size a ≤ S4x512x512.size a) :
    halfIn d o h = hM d hf j := by
  subst ho; rfl
theorem cr0_sem : cc0_scratch13.sem = crS 0 := rfl
theorem cr1_sem : cc0_scratch14.sem = crS 1 := rfl

/-! ## Conditions -/

theorem c_cr0 : ∀ t : Fin k0_t1_loop.trips, crB0 t = 1#1 ↔ 3 ≤ t.val ∧ t.val < lim 0 := by decide
theorem c_cr1 : ∀ t : Fin k0_t1_loop.trips, crB1 t = 1#1 ↔ 3 ≤ t.val ∧ t.val < lim 1 := by decide
theorem c3 : ∀ t : Fin k0_t1_loop.trips, k0_cond3 t = 1#1 ↔ 1 ≤ t.val := by decide
theorem c4 : ∀ t : Fin k0_t1_loop.trips, k0_cond4 t = 1#1 ↔ 1 ≤ t.val := by decide
theorem c5 : ∀ t : Fin k0_t1_loop.trips, k0_cond5 t = 1#1 ↔ 1 ≤ t.val := by decide
theorem c6 : ∀ t : Fin k0_t1_loop.trips, k0_cond6 t = 1#1 ↔ t.val < lim 1 := by decide
theorem c7 : ∀ t : Fin k0_t1_loop.trips, k0_cond7 t = 1#1 ↔ 1 ≤ t.val := by decide
theorem c8 : ∀ t : Fin k0_t1_loop.trips, k0_cond8 t = 1#1 ↔ t.val < lim 1 := by decide
theorem c9 : ∀ t : Fin k0_t1_loop.trips, k0_cond9 t = 1#1 ↔ 1 ≤ t.val := by decide
theorem c10 : ∀ t : Fin k0_t1_loop.trips, k0_cond10 t = 1#1 ↔ t.val < lim 1 := by decide
theorem c11 : ∀ t : Fin k0_t1_loop.trips, k0_cond11 t = 1#1 ↔ t.val < nCr 0 := by decide
theorem c12 : ∀ t : Fin k0_t1_loop.trips, k0_cond12 t = 1#1 ↔ t.val < nCr 1 := by decide

/-! ## Offsets -/

theorem o1 : ∀ t : Fin k0_t1_loop.trips, k0_off1 t = ![(sl t.val).val] := by decide
theorem o4 : ∀ t : Fin k0_t1_loop.trips, k0_off4 t = ![(sl t.val).val] := by decide
theorem o8 : ∀ t : Fin k0_t1_loop.trips, k0_off8 t = ![(sl t.val).val] := by decide
theorem o13 : ∀ t : Fin k0_t1_loop.trips, k0_off13 t = ![(sl t.val).val] := by decide
theorem o16 : ∀ t : Fin k0_t1_loop.trips, k0_off16 t = ![(sl t.val).val] := by decide
theorem o20 : ∀ t : Fin k0_t1_loop.trips, k0_off20 t = ![(sl t.val).val] := by decide
theorem o23 : ∀ t : Fin k0_t1_loop.trips, k0_off23 t = ![(sl t.val).val] := by decide
theorem o35 : ∀ t : Fin k0_t1_loop.trips, k0_off35 t = ![(sl t.val).val] := by decide
theorem o40 : ∀ t : Fin k0_t1_loop.trips, k0_off40 t = ![(sl t.val).val] := by decide
theorem o5 : ∀ t : Fin k0_t1_loop.trips, k0_off5 t = ![(sl (t.val + 1)).val] := by decide
theorem o17 : ∀ t : Fin k0_t1_loop.trips, k0_off17 t = ![(sl (t.val + 1)).val] := by decide
theorem o24 : ∀ t : Fin k0_t1_loop.trips, k0_off24 t = ![(sl (t.val + 1)).val] := by decide
theorem o2 : ∀ t : Fin k0_t1_loop.trips, k0_off2 t = ![(sl (t.val + 1)).val, 256 * (0 : Fin 2).val, 0] := by decide
theorem o3 : ∀ t : Fin k0_t1_loop.trips, k0_off3 t = ![(sl t.val).val, 256 * (0 : Fin 2).val, 0] := by decide
theorem o6 : ∀ t : Fin k0_t1_loop.trips, k0_off6 t = ![(sl (t.val + 1)).val, 256 * (0 : Fin 2).val, 0] := by decide
theorem o7 : ∀ t : Fin k0_t1_loop.trips, k0_off7 t = ![(sl t.val).val, 256 * (0 : Fin 2).val, 0] := by decide
theorem o9 : ∀ t : Fin k0_t1_loop.trips, k0_off9 t = ![(sl (t.val + 1)).val, 256 * (1 : Fin 2).val, 0] := by decide
theorem o10 : ∀ t : Fin k0_t1_loop.trips, k0_off10 t = ![(sl t.val).val, 256 * (1 : Fin 2).val, 0] := by decide
theorem o11 : ∀ t : Fin k0_t1_loop.trips, k0_off11 t = ![(sl (t.val + 1)).val, 256 * (1 : Fin 2).val, 0] := by decide
theorem o12 : ∀ t : Fin k0_t1_loop.trips, k0_off12 t = ![(sl t.val).val, 256 * (1 : Fin 2).val, 0] := by decide
theorem o14 : ∀ t : Fin k0_t1_loop.trips, k0_off14 t = ![(sl (t.val + 1)).val, 256 * (0 : Fin 2).val, 0] := by decide
theorem o15 : ∀ t : Fin k0_t1_loop.trips, k0_off15 t = ![(sl t.val).val, 256 * (0 : Fin 2).val, 0] := by decide
theorem o18 : ∀ t : Fin k0_t1_loop.trips, k0_off18 t = ![(sl (t.val + 1)).val, 256 * (0 : Fin 2).val, 0] := by decide
theorem o19 : ∀ t : Fin k0_t1_loop.trips, k0_off19 t = ![(sl t.val).val, 256 * (0 : Fin 2).val, 0] := by decide
theorem o21 : ∀ t : Fin k0_t1_loop.trips, k0_off21 t = ![(sl (t.val + 1)).val, 256 * (1 : Fin 2).val, 0] := by decide
theorem o22 : ∀ t : Fin k0_t1_loop.trips, k0_off22 t = ![(sl t.val).val, 256 * (1 : Fin 2).val, 0] := by decide
theorem o25 : ∀ t : Fin k0_t1_loop.trips, k0_off25 t = ![(sl (t.val + 1)).val, 256 * (1 : Fin 2).val, 0] := by decide
theorem o26 : ∀ t : Fin k0_t1_loop.trips, k0_off26 t = ![(sl t.val).val, 256 * (1 : Fin 2).val, 0] := by decide
theorem o28 : ∀ t : Fin k0_t1_loop.trips, k0_off28 t = ![(sl t.val).val, 256 * (0 : Fin 2).val, 0] := by decide
theorem o30 : ∀ t : Fin k0_t1_loop.trips, k0_off30 t = ![(sl t.val).val, 256 * (1 : Fin 2).val, 0] := by decide
theorem o32 : ∀ t : Fin k0_t1_loop.trips, k0_off32 t = ![(sl t.val).val, 256 * (0 : Fin 2).val, 0] := by decide
theorem o34 : ∀ t : Fin k0_t1_loop.trips, k0_off34 t = ![(sl t.val).val, 256 * (1 : Fin 2).val, 0] := by decide
theorem o36 : ∀ t : Fin k0_t1_loop.trips, k0_off36 t = ![(sl t.val).val, 256 * (0 : Fin 2).val, 0] := by decide
theorem o37 : ∀ t : Fin k0_t1_loop.trips, k0_off37 t = ![(sl (t.val + 1)).val, 256 * (0 : Fin 2).val, 0] := by decide
theorem o38 : ∀ t : Fin k0_t1_loop.trips, k0_off38 t = ![(sl t.val).val, 256 * (1 : Fin 2).val, 0] := by decide
theorem o39 : ∀ t : Fin k0_t1_loop.trips, k0_off39 t = ![(sl (t.val + 1)).val, 256 * (1 : Fin 2).val, 0] := by decide
theorem o41 : ∀ t : Fin k0_t1_loop.trips, k0_off41 t = ![(sl t.val).val, 256 * (0 : Fin 2).val, 0] := by decide
theorem o42 : ∀ t : Fin k0_t1_loop.trips, k0_off42 t = ![(sl (t.val + 1)).val, 256 * (0 : Fin 2).val, 0] := by decide
theorem o43 : ∀ t : Fin k0_t1_loop.trips, k0_off43 t = ![(sl t.val).val, 256 * (1 : Fin 2).val, 0] := by decide
theorem o44 : ∀ t : Fin k0_t1_loop.trips, k0_off44 t = ![(sl (t.val + 1)).val, 256 * (1 : Fin 2).val, 0] := by decide
theorem o27 : ∀ t : Fin k0_t1_loop.trips, k0_off27 t = ![t.val + 2] := by decide
theorem o31 : ∀ t : Fin k0_t1_loop.trips, k0_off31 t = ![t.val + 19] := by decide

/-! ## Neighbours and owners -/

theorem word_lt : ∀ n : Dev nD, (Dev.word n).toNat = n.val := by decide
theorem dev1 : ∀ n : Dev nD, k0_dev1 (Dev.word n) = n.val := by decide
theorem chk1_word (n : Dev nD) : k0_chk1 (Dev.word n) :=
  ⟨by rw [dev1]; exact n.isLt, fun _ _ => by rw [show k0_dev5 = k0_dev1 from rfl, dev1]; exact n.isLt,
    fun _ _ => by rw [show k0_dev6 = k0_dev1 from rfl, dev1]; exact n.isLt, fun _ _ => by rw [show k0_dev7 = k0_dev1 from rfl, dev1]; exact n.isLt⟩
theorem chk2_word (n : Dev nD) : k0_chk2 (Dev.word n) :=
  ⟨by rw [show k0_dev2 = k0_dev1 from rfl, dev1]; exact n.isLt, by rw [show k0_dev3 = k0_dev1 from rfl, dev1]; exact n.isLt,
    by rw [show k0_dev4 = k0_dev1 from rfl, dev1]; exact n.isLt, fun _ _ => by rw [show k0_dev8 = k0_dev1 from rfl, dev1]; exact n.isLt⟩
theorem dev_word (n : Dev nD) (h : k0_dev1 (Dev.word n) < nD) : (⟨k0_dev1 (Dev.word n), h⟩ : Dev nD) = n := Fin.ext (dev1 n)

theorem row_lt (n : Dev nD) (b : Fin 2) (h : Fin 4) : 128 * b.val + 4 * n.val + h.val < 256 := by
  have h1 : n.val < 32 := n.isLt; have := b.isLt; have := h.isLt; omega
theorem off29_word : ∀ (n : Dev nD) (b : Fin 2) (h : Fin 4),
    k0_off29 (Dev.word n) (BitVec.ofNat 32 (128 * b.val)) (BitVec.ofNat 32 h.val) = ![128 * b.val + 4 * n.val + h.val, 0, 0] := by
  decide
theorem row_inb (n : Dev nD) (b : Fin 2) (h : Fin 4) : ∀ a, ![128 * b.val + 4 * n.val + h.val, 0, 0] a + S1x128x64.size a ≤ S256x128x64.size a := by
  have e : ∀ r : Fin 256, ∀ a, ![r.val, 0, 0] a + S1x128x64.size a ≤ S256x128x64.size a := by
    intro r a; have := r.isLt
    match a with
    | 0 => show r.val + 1 ≤ 256; omega
    | 1 => show 0 + 128 ≤ 128; omega
    | 2 => show 0 + 64 ≤ 64; omega
  exact e ⟨_, row_lt n b h⟩
theorem off29_inb (n : Dev nD) : KInb (k0_off29 (Dev.word n)) := fun b h => by rw [off29_word]; exact row_inb n b h
theorem chk3_word (n : Dev nD) : k0_chk3 (Dev.word n) := off29_inb n
theorem chk4_word (t : Fin k0_t1_loop.trips) (n : Dev nD) : k0_chk4 t (Dev.word n) := fun _ => off29_inb n
theorem chk5_word (n : Dev nD) : k0_chk5 (Dev.word n) := off29_inb n

/-- Device n's heads' rows of a table of keys or values. -/
def kTab (K : Vec F S256x128x64 .bf16) (n : Dev nD) (b : Fin 2) (h : Fin 4) : Vec F S1x128x64 .bf16 :=
  VecWindow.window K ![128 * b.val + 4 * n.val + h.val, 0, 0] S1x128x64.size (row_inb n b h)
theorem kAt_word (o : KOff) (ho : KInb o) (n : Dev nD) (e : o = k0_off29 (Dev.word n)) (K : Vec F S256x128x64 .bf16) : kAt o ho K = kTab K n := by
  subst e
  have key : ∀ {a a' : Fin 3 → ℕ} (e : a = a') (h : ∀ x, a x + S1x128x64.size x ≤ S256x128x64.size x) (h' : ∀ x, a' x + S1x128x64.size x ≤ S256x128x64.size x),
      VecWindow.window K a S1x128x64.size h = VecWindow.window K a' S1x128x64.size h' := by
    intro a a' e h h'; subst e; rfl
  exact funext fun b => funext fun h => key (off29_word n b h) _ _

end Cert.Proof
-- ==== Proof.Trip.lean ====
/- The steps of a trip, with what a device holds of a direction before and after each. -/
module

public import proofs.«01_k».proof.Proof.Facts

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The table of neighbours and owners -/

/-- Device c's table as its contents. -/
def metaT (c : Dev nD) : (cc0_stg4_0 : Ref sig .tc).ty.Contents (Elt F) := fun x => metaW c (x 0).val

theorem run_table (c : Dev nD) {off : Fin 1 → ℕ} (h : ∀ a, off a + S1.size a ≤ S35.size a) {i : ℕ} (hoff : off = ![i]) {q : PosShare TreeShare}
    {α : Type} {Q : α → sProp 𝕄} {k : Elt F .i32 → P (F := F) α} :
    at_ c cc0_stg4_0 q (metaT c) ⊢ iprop((at_ c cc0_stg4_0 q (metaT c) -∗ run c (k (metaW c i)) Q) -∗ run c (metaP h k) Q) := by
  subst hoff
  have e : ∀ x : (Rect.unit (s := S35) ![i] S1.size h).shape.Idx, (mT.access (Rect.unit (s := S35) ![i] S1.size h)).read (Elt F) (metaT (F := F) c) x = metaW c i := fun x => by
    have hx : (x 0).val < 1 := (x 0).isLt
    show metaW c (i + 1 * (x 0).val) = metaW c i
    congr 1; omega
  rw [← e (Shape.Idx.first (numel1_S1.symm ▸ Nat.one_pos))]
  exact wp_smemLoadElt 𝒱₀ (c : Thread nD τ) none Set.univ (m := mT) (r := Rect.unit (s := S35) ![i] S1.size h) (hw := View.loads_smem_one rfl numel1_S1)
    (x := Shape.Idx.first (numel1_S1.symm ▸ Nat.one_pos)) (k := k) (Q := Q) (q := q) (f := metaT c) (S := Finset.univ) (Finset.subset_univ _)

theorem run_bind (c : Dev nD) {α β : Type} (p : P (F := F) β) (k : β → P (F := F) α) (Q : α → sProp 𝕄) : run c (p >>= k) Q = run c p fun a => run c (k a) Q :=
  wp_bind _ _ _ p k Q

theorem run_assume (c : Dev nD) {p : Prop} {dp : Decidable p} (h : p) {α : Type} {Q : α → sProp 𝕄} {k : p → P (F := F) α} :
    run c (k h) Q ⊢ run c (assumeP p dp k) Q :=
  wp_assume 𝒱₀ (c : Thread nD τ) none Set.univ (k := fun h => k h.down) h

/-! ## What a device holds of a channel, and what follows of a direction -/

variable (ch : Chunks F) (K : GSem nD τ sig → ℕ) (J : Key → ℕ) (c : Dev nD) (d hf : Fin 2)

/-- Its place before trip h: chunk h is to be received, or is its own. -/
def RVs (h : ℕ) : sProp 𝕄 :=
  if 1 ≤ h then RV c d hf h else iprop(RV c d hf 1 ∗ hAt ch c d hf 0 fullShare ∗ reached ER (recvCell c d hf (sl 0)) 0)
def SPs (h : ℕ) : sProp 𝕄 := SP c d hf (min h (lim d))
/-- The half slot of chunk h after its sending, where there is one. -/
def Ltr (h : ℕ) : sProp 𝕄 := if h < lim d then lent ch c d hf h else hAt ch c d hf h fullShare
/-- The neighbour's slot for chunk h's sending is free. -/
def NF (h : ℕ) : sProp 𝕄 := if h < lim d then free (nb d c) d hf (h + 1) else iprop(emp)
def CWs (h : ℕ) : sProp 𝕄 := CW c d (min (h - 3) (nCr d))
/-- The slots freed by trip h. -/
def FR (h : ℕ) : sProp 𝕄 := frees c d 4 (min h (nCr d) + 4)
/-- The slots kept by trip h: no chunk is to come to them. -/
def KP (h : ℕ) : sProp 𝕄 := bigSep (Finset.Ico (nCr d) h) fun x => iprop(hAny c d 0 (sl x) ∗ hAny c d 1 (sl x))

instance NF_persistent (h : ℕ) : BI.Persistent (NF c d hf h : sProp 𝕄) := by unfold NF; split <;> infer_instance
instance FR_persistent (h : ℕ) : BI.Persistent (FR c d h : sProp 𝕄) := by unfold FR; infer_instance

theorem Ltr_take (h : ℕ) : Ltr ch c d hf h ⊢ (iprop(∃ q, hAt ch c d hf h q ∗ (hAt ch c d hf h q -∗ Ltr ch c d hf h)) : sProp 𝕄) := by
  unfold Ltr
  by_cases hh : h < lim d
  · rw [if_pos hh]; unfold lent
    iintro ⟨H, Hc⟩
    iexists _; isplitl [H]; · iexact H
    iintro H; isplitl [H]; · iexact H
    iexact Hc
  · rw [if_neg hh]
    iintro H
    iexists _; isplitl [H]; · iexact H
    iintro H; iexact H

/-! ## The steps -/

variable {ch K J c d hf}

theorem run_recv {α : Type} {Q : α → sProp 𝕄} {k : PUnit → P (F := F) α} {h s : ℕ} (h1 : 1 ≤ h) (hl : h ≤ lim d) (hs : h ≤ s / 6) {os : Fin 1 → ℕ} (hos : os = ![(sl h).val]) (hsI : ∀ a, os a + S1.size a ≤ S4.size a)
    {o₁ o₂ : Fin 3 → ℕ} {j : Fin 4} (ho : o₁ = ![j.val, 256 * hf.val, 0])
    {h₁ : ∀ a, o₁ a + S1x256x512.size a ≤ S4x512x512.size a} {h₂ : ∀ a, o₂ a + S1x256x512.size a ≤ S4x512x512.size a}
    (w₁ : (Rect.unit (s := S4x512x512) o₁ S1x256x512.size h₁).WholeWords (EltTy.packing .bf16))
    (w₂ : (Rect.unit (s := S4x512x512) o₂ S1x256x512.size h₂).WholeWords (EltTy.packing .bf16)) :
    iprop(recs ch K J ∗ levAts L lv ∗ OW c s ∗ RV c d hf h)
      ⊢ iprop((OW c s ∗ RV c d hf (h + 1) ∗ hAt ch c d hf h fullShare ∗ reached ER (recvCell c d hf (sl h)) ((h + 3) / 4) -∗ run c (k ⟨⟩) Q)
          -∗ run c (waitP d hf 1 hsI w₁ w₂ k) Q) := by
  have e : (h + 3) / 4 = (h - 1) / 4 + 1 := by omega
  rw [e]
  exact wp_recv ch K J c d hf h1 hl hs (semIn_eq d hf 1 (sl h) hos hsI) (halfIn_eq d hf j ho h₁)

theorem run_recvW {α : Type} {Q : α → sProp 𝕄} {k : PUnit → P (F := F) α} {h s : ℕ} {b : BitVec 1} (hb : b = 1#1 ↔ 1 ≤ h) (hl : h ≤ lim d) (hs : h ≤ s / 6) {os : Fin 1 → ℕ} (hos : os = ![(sl h).val])
    (hsI : b = 1#1 → ∀ a, os a + S1.size a ≤ S4.size a) {o₁ o₂ : Fin 3 → ℕ} {j : Fin 4} (ho : o₁ = ![j.val, 256 * hf.val, 0])
    {h₁ : b = 1#1 → ∀ a, o₁ a + S1x256x512.size a ≤ S4x512x512.size a} {h₂ : b = 1#1 → ∀ a, o₂ a + S1x256x512.size a ≤ S4x512x512.size a}
    (w₁ : ∀ hb : b = 1#1, (Rect.unit (s := S4x512x512) o₁ S1x256x512.size (h₁ hb)).WholeWords (EltTy.packing .bf16))
    (w₂ : ∀ hb : b = 1#1, (Rect.unit (s := S4x512x512) o₂ S1x256x512.size (h₂ hb)).WholeWords (EltTy.packing .bf16)) :
    iprop(recs ch K J ∗ levAts L lv ∗ OW c s ∗ RVs ch c d hf h)
      ⊢ iprop((OW c s ∗ RV c d hf (h + 1) ∗ hAt ch c d hf h fullShare ∗ reached ER (recvCell c d hf (sl h)) ((h + 3) / 4) -∗ run c (k ⟨⟩) Q)
          -∗ run c (whenP b (fun hb k => waitP d hf 1 (hsI hb) (w₁ hb) (w₂ hb) k) k) Q) := by
  unfold whenP RVs
  by_cases h1 : 1 ≤ h
  · rw [dif_pos (hb.mpr h1), if_pos h1]
    exact run_recv h1 hl hs hos (hsI (hb.mpr h1)) ho (w₁ (hb.mpr h1)) (w₂ (hb.mpr h1))
  · rw [dif_neg (fun x => h1 (hb.mp x)), if_neg h1]
    obtain rfl : h = 0 := by omega
    iintro ⟨-, -, HO, Hrv, Ha, #Hr⟩ Hk
    iapply Hk
    isplitl [HO]; · iexact HO
    isplitl [Hrv]; · iexact Hrv
    isplitl [Ha]; · iexact Ha
    iexact Hr

theorem run_send {α : Type} {Q : α → sProp 𝕄} {k : PUnit → P (F := F) α} {h s : ℕ} (hh : h < lim d) (hl : h < 16) (hs : s = 6 * h + (2 * d.val + hf.val)) {os or : Fin 1 → ℕ} (hos : os = ![(sl h).val]) (hor : or = ![(sl (h + 1)).val])
    (hsI : ∀ a, os a + S1.size a ≤ S4.size a) (hrI : ∀ a, or a + S1.size a ≤ S4.size a) {o₁ o₂ : Fin 3 → ℕ}
    (ho₁ : o₁ = ![(sl (h + 1)).val, 256 * hf.val, 0]) (ho₂ : o₂ = ![(sl h).val, 256 * hf.val, 0])
    {h₁ : ∀ a, o₁ a + S1x256x512.size a ≤ S4x512x512.size a} {h₂ : ∀ a, o₂ a + S1x256x512.size a ≤ S4x512x512.size a}
    (w₁ : (Rect.unit (s := S4x512x512) o₁ S1x256x512.size h₁).WholeWords (EltTy.packing .bf16))
    (w₂ : (Rect.unit (s := S4x512x512) o₂ S1x256x512.size h₂).WholeWords (EltTy.packing .bf16)) {n : Dev nD} (hn : n = nb d c) :
    iprop(recs ch K J ∗ OW c s ∗ SPs c d hf h ∗ SD c d hf h ∗ NF c d hf h ∗ hAt ch c d hf h fullShare)
      ⊢ iprop((OW c (s + 1) ∗ SPs c d hf h ∗ SD c d hf (h + 1) ∗ Ltr ch c d hf h -∗ run c (k ⟨⟩) Q)
          -∗ run c (sendP d hf hsI hrI w₁ w₂ n k) Q) := by
  have hi : O c s = O c (s + 1) + tallyAt (recvCell (nb d c) d hf (sl (h + 1))) (h + 1) Ncr := by
    have := d.isLt; have := hf.isLt
    rw [O_step c (by omega : s < 96)]; congr 1
    rw [hs, item_send, if_pos hh]
  unfold SPs Ltr NF
  rw [if_pos hh, if_pos hh, Nat.min_eq_left (le_of_lt hh)]
  exact wp_sendTo ch K J c d hf hh hi (semIn_eq d hf 0 (sl h) hos hsI) (semIn_eq d hf 1 (sl (h + 1)) hor hrI) (halfIn_eq d hf _ ho₂ h₂) (halfIn_eq d hf _ ho₁ h₁) hn

theorem run_sendW {α : Type} {Q : α → sProp 𝕄} {k : PUnit → P (F := F) α} {h s : ℕ} {b : BitVec 1} (hb : b = 1#1 ↔ h < lim d) (hl : h < 16) (hs : s = 6 * h + (2 * d.val + hf.val)) {os or : Fin 1 → ℕ} (hos : os = ![(sl h).val]) (hor : or = ![(sl (h + 1)).val])
    (hsI : b = 1#1 → ∀ a, os a + S1.size a ≤ S4.size a) (hrI : b = 1#1 → ∀ a, or a + S1.size a ≤ S4.size a) {o₁ o₂ : Fin 3 → ℕ}
    (ho₁ : o₁ = ![(sl (h + 1)).val, 256 * hf.val, 0]) (ho₂ : o₂ = ![(sl h).val, 256 * hf.val, 0])
    {h₁ : b = 1#1 → ∀ a, o₁ a + S1x256x512.size a ≤ S4x512x512.size a} {h₂ : b = 1#1 → ∀ a, o₂ a + S1x256x512.size a ≤ S4x512x512.size a}
    (w₁ : ∀ hb : b = 1#1, (Rect.unit (s := S4x512x512) o₁ S1x256x512.size (h₁ hb)).WholeWords (EltTy.packing .bf16))
    (w₂ : ∀ hb : b = 1#1, (Rect.unit (s := S4x512x512) o₂ S1x256x512.size (h₂ hb)).WholeWords (EltTy.packing .bf16)) {n : b = 1#1 → Dev nD} (hn : ∀ hb, n hb = nb d c) :
    iprop(recs ch K J ∗ OW c s ∗ SPs c d hf h ∗ SD c d hf h ∗ NF c d hf h ∗ hAt ch c d hf h fullShare)
      ⊢ iprop((OW c (s + 1) ∗ SPs c d hf h ∗ SD c d hf (h + 1) ∗ Ltr ch c d hf h -∗ run c (k ⟨⟩) Q)
          -∗ run c (whenP b (fun hb k => sendP d hf (hsI hb) (hrI hb) (w₁ hb) (w₂ hb) (n hb) k) k) Q) := by
  unfold whenP
  by_cases hh : h < lim d
  · rw [dif_pos (hb.mpr hh)]
    exact run_send hh hl hs hos hor (hsI (hb.mpr hh)) (hrI (hb.mpr hh)) ho₁ ho₂ (w₁ (hb.mpr hh)) (w₂ (hb.mpr hh)) (hn (hb.mpr hh))
  · rw [dif_neg (fun x => hh (hb.mp x))]
    have hi : O c s = O c (s + 1) := by
      have := d.isLt; have := hf.isLt
      rw [O_step c (by omega : s < 96), hs, item_send, if_neg hh, add_zero]
    unfold SPs Ltr SD
    rw [if_neg hh, ico_end (by omega : lim d ≤ h), ico_end (by omega : lim d ≤ h + 1)]
    have ho : (OW c s : sProp 𝕄) = OW c (s + 1) := by unfold OW; rw [hi]
    rw [ho]
    iintro ⟨-, HO, Hp, Hd, -, Ha⟩ Hk
    iapply Hk
    isplitl [HO]; · iexact HO
    isplitl [Hp]; · iexact Hp
    isplitl [Hd]; · iexact Hd
    iexact Ha

theorem run_sent {α : Type} {Q : α → sProp 𝕄} {k : PUnit → P (F := F) α} {h s : ℕ} (hh : h < lim d) {os : Fin 1 → ℕ} (hos : os = ![(sl h).val]) (hsI : ∀ a, os a + S1.size a ≤ S4.size a)
    {o₁ o₂ : Fin 3 → ℕ} {j : Fin 4} (ho : o₁ = ![j.val, 256 * hf.val, 0])
    {h₁ : ∀ a, o₁ a + S1x256x512.size a ≤ S4x512x512.size a} {h₂ : ∀ a, o₂ a + S1x256x512.size a ≤ S4x512x512.size a}
    (w₁ : (Rect.unit (s := S4x512x512) o₁ S1x256x512.size h₁).WholeWords (EltTy.packing .bf16))
    (w₂ : (Rect.unit (s := S4x512x512) o₂ S1x256x512.size h₂).WholeWords (EltTy.packing .bf16)) :
    iprop(recs ch K J ∗ levAts L lv ∗ OW c s ∗ SPs c d hf h ∗ Ltr ch c d hf h)
      ⊢ iprop((OW c s ∗ SPs c d hf (h + 1) ∗ hAt ch c d hf h fullShare -∗ run c (k ⟨⟩) Q) -∗ run c (waitP d hf 0 hsI w₁ w₂ k) Q) := by
  unfold SPs Ltr
  rw [if_pos hh, Nat.min_eq_left (le_of_lt hh), Nat.min_eq_left hh]
  exact wp_sent ch K J c d hf hh (semIn_eq d hf 0 (sl h) hos hsI) (halfIn_eq d hf j ho h₁)

/-- Where nothing was sent there is nothing to wait for. -/
theorem Ltr_end {h : ℕ} (hh : ¬ h < lim d) : iprop(SPs c d hf h ∗ Ltr ch c d hf h) ⊢ (iprop(SPs c d hf (h + 1) ∗ hAt ch c d hf h fullShare) : sProp 𝕄) := by
  unfold SPs Ltr
  rw [if_neg hh, Nat.min_eq_right (by omega : lim d ≤ h), Nat.min_eq_right (by omega : lim d ≤ h + 1)]

theorem run_creditW {α : Type} {Q : α → sProp 𝕄} {k : PUnit → P (F := F) α} {h s : ℕ} {b : BitVec 1} (hb : b = 1#1 ↔ 3 ≤ h ∧ h < lim d) (hs : h ≤ s / 6) {sm : Sem sig} (hsm : sm = crS d) :
    iprop(recs ch K J ∗ levAts L lv ∗ OW c s ∗ CWs c d h ∗ frees (nb d c) d 1 4)
      ⊢ iprop((OW c s ∗ CWs c d (h + 1) ∗ NF c d 0 h ∗ NF c d 1 h -∗ run c (k ⟨⟩) Q)
          -∗ run c (whenP b (fun _ k => semWaitWord sm 1#32 >>= k) k) Q) := by
  have hn := nCr_lim d
  unfold whenP CWs NF
  by_cases hh : h < lim d
  · rw [if_pos hh]
    by_cases h3 : 3 ≤ h
    · rw [dif_pos (hb.mpr ⟨h3, hh⟩), if_pos hh, Nat.min_eq_left (by omega : h - 3 ≤ nCr d), Nat.min_eq_left (by omega : h + 1 - 3 ≤ nCr d), (by omega : h + 1 - 3 = h - 3 + 1)]
      beta_reduce
      rw [run_bind]
      iintro ⟨#HR, #Hlev, HO, HW, -⟩ Hk
      iapply (wp_credit ch K J c d (by omega : h - 3 < nCr d) (by omega : h - 3 < s / 6) hsm) $$ [HO HW]
      · isplitr; · iexact HR
        isplitr; · iexact Hlev
        isplitl [HO]; · iexact HO
        iexact HW
      iintro ⟨HO, HW, #Hf⟩
      iapply Hk
      isplitl [HO]; · iexact HO
      isplitl [HW]; · iexact HW
      have hm : h + 1 ∈ Finset.Ico 4 (h - 3 + 5) := Finset.mem_Ico.mpr ⟨by omega, by omega⟩
      isplitr
      · iapply (frees_elim (nb d c) d 0 hm); iexact Hf
      · iapply (frees_elim (nb d c) d 1 hm); iexact Hf
    · rw [dif_neg (fun x => h3 (hb.mp x).1), if_pos hh, (by omega : h + 1 - 3 = h - 3)]
      iintro ⟨-, -, HO, HW, #Hf⟩ Hk
      iapply Hk
      isplitl [HO]; · iexact HO
      isplitl [HW]; · iexact HW
      have hm : h + 1 ∈ Finset.Ico 1 4 := Finset.mem_Ico.mpr ⟨by omega, by omega⟩
      isplitr
      · iapply (frees_elim (nb d c) d 0 hm); iexact Hf
      · iapply (frees_elim (nb d c) d 1 hm); iexact Hf
  · rw [dif_neg (fun x => hh (hb.mp x).2), if_neg hh, if_neg hh, Nat.min_eq_right (by omega : nCr d ≤ h - 3), Nat.min_eq_right (by omega : nCr d ≤ h + 1 - 3)]
    iintro ⟨-, -, HO, HW, -⟩ Hk
    iapply Hk
    isplitl [HO]; · iexact HO
    isplitl [HW]; · iexact HW
    isplitl <;> iempintro

theorem run_giveW {α : Type} {Q : α → sProp 𝕄} {k : PUnit → P (F := F) α} {h s : ℕ} {b : BitVec 1} (hb : b = 1#1 ↔ h < nCr d) (hl : h < 16) (hs : s = 6 * h + (4 + d.val)) {sm : Sem sig} (hsm : sm = crS d)
    {n : b = 1#1 → Dev nD} (hn : ∀ hb, n hb = pv d c) :
    iprop(recs ch K J ∗ OW c s ∗ CS c d h ∗ FR c d (h + 1) ∗ reached ER (crCell (pv d c) d) 0)
      ⊢ iprop((OW c (s + 1) ∗ CS c d (h + 1) -∗ run c (k ⟨⟩) Q) -∗ run c (whenP b (fun hb k => semSignalWord (n hb) sm 1#32 >>= k) k) Q) := by
  unfold whenP FR
  have hd := d.isLt
  by_cases hh : h < nCr d
  · rw [dif_pos (hb.mpr hh), Nat.min_eq_left (by omega : h + 1 ≤ nCr d)]
    beta_reduce
    rw [run_bind]
    have hi : O c s = O c (s + 1) + tallyAt (crCell (pv d c) d) h 1 := by
      rw [O_step c (by omega : s < 96)]; congr 1
      rw [hs, item_cr, if_pos hh]
    exact wp_give ch K J c d (Q := fun a => run c (k a) Q) hh hi hsm (hn (hb.mpr hh))
  · rw [dif_neg (fun x => hh (hb.mp x))]
    have hi : O c s = O c (s + 1) := by
      rw [O_step c (by omega : s < 96), hs, item_cr, if_neg hh, add_zero]
    have ho : (OW c s : sProp 𝕄) = OW c (s + 1) := by unfold OW; rw [hi]
    unfold CS
    rw [ico_end (by omega : nCr d ≤ h), ico_end (by omega : nCr d ≤ h + 1), ho]
    iintro ⟨-, HO, Hc, -, -⟩ Hk
    iapply Hk
    isplitl [HO]; · iexact HO
    iexact Hc

theorem hAt_any (h : ℕ) : hAt ch c d hf h fullShare ⊢ (hAny c d hf (sl h) : sProp 𝕄) := by
  unfold hAt hAny Release.slot
  iintro ⟨%f, Hf, -⟩; iexists f; iexact Hf

/-- Both halves of chunk h's slot are given up, for another chunk or for good. -/
theorem release_both (h : ℕ) :
    iprop(recs ch K J ∗ RA c d 0 h ∗ RA c d 1 h ∗ hAt ch c d 0 h fullShare ∗ hAt ch c d 1 h fullShare
        ∗ reached ER (recvCell c d 0 (sl h)) ((h + 3) / 4) ∗ reached ER (recvCell c d 1 (sl h)) ((h + 3) / 4) ∗ FR c d h ∗ KP c d h)
      ⊢ (|={Set.univ}=> (RA c d 0 (h + 1) ∗ RA c d 1 (h + 1) ∗ FR c d (h + 1) ∗ KP c d (h + 1)) : sProp 𝕄) := by
  have hn := nCr_lim d
  by_cases hh : h < nCr d
  · unfold FR KP
    rw [Nat.min_eq_left (by omega : h ≤ nCr d), Nat.min_eq_left (by omega : h + 1 ≤ nCr d), ico_end (by omega : h ≤ nCr d), ico_end (by omega : h + 1 ≤ nCr d)]
    iintro ⟨#HR, Ha, Hb, Hx, Hy, #Hr, #Hr', #Hf, He⟩
    imod (release_slot ch K J c d 0 hh) $$ [Ha Hx] with ⟨Ha, #Hfa⟩
    · isplitr; · iexact HR
      isplitl [Ha]; · iexact Ha
      isplitl [Hx]; · iexact Hx
      iexact Hr
    imod (release_slot ch K J c d 1 hh) $$ [Hb Hy] with ⟨Hb, #Hfb⟩
    · isplitr; · iexact HR
      isplitl [Hb]; · iexact Hb
      isplitl [Hy]; · iexact Hy
      iexact Hr'
    imodintro
    isplitl [Ha]; · iexact Ha
    isplitl [Hb]; · iexact Hb
    isplitr
    · rw [Nat.add_right_comm h 1 4]
      iapply (frees_snoc c d (by omega : 4 ≤ h + 4))
      isplitr; · iexact Hf
      isplitr; · iexact Hfa
      iexact Hfb
    iexact He
  · have hk : (KP c d (h + 1) : sProp 𝕄) = iprop((hAny c d 0 (sl h) ∗ hAny c d 1 (sl h)) ∗ KP c d h) := by
      have e : Finset.Ico (nCr d) (h + 1) = insert h (Finset.Ico (nCr d) h) := by ext x; simp only [Finset.mem_Ico, Finset.mem_insert]; omega
      unfold KP; rw [e]; exact bigSep_insert (by simp only [Finset.mem_Ico]; omega)
    rw [hk]
    unfold FR RA
    rw [Nat.min_eq_right (by omega : nCr d ≤ h), Nat.min_eq_right (by omega : nCr d ≤ h + 1), ico_end (by omega : lim d + 1 ≤ h + 4), ico_end (by omega : lim d + 1 ≤ h + 4),
      ico_end (by omega : lim d + 1 ≤ h + 1 + 4), ico_end (by omega : lim d + 1 ≤ h + 1 + 4)]
    iintro ⟨-, Ha, Hb, Hx, Hy, -, -, #Hf, Hk⟩
    imodintro
    isplitl [Ha]; · iexact Ha
    isplitl [Hb]; · iexact Hb
    isplitr; · iexact Hf
    isplitl [Hx Hy]
    · isplitl [Hx]; · iapply (hAt_any (ch := ch) h); iexact Hx
      iapply (hAt_any (ch := ch) h); iexact Hy
    iexact Hk

end Cert.Proof
-- ==== Proof.Round.lean ====
/- A trip: the communication's start, the two chunks' parts, the communication's end. -/
module

public import proofs.«01_k».proof.Proof.Trip

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (ch : Chunks F) (K : GSem nD τ sig → ℕ) (J : Key → ℕ) (c : Dev nD) (d : Fin 2)

/-- What every step may use. -/
def Ctx : sProp 𝕄 :=
  iprop(recs ch K J ∗ levAts L lv ∗ (frees (nb 0 c) 0 1 4 ∗ frees (nb 1 c) 1 1 4)
    ∗ reached ER (crCell (pv 0 c) 0) 0 ∗ reached ER (crCell (pv 1 c) 1) 0)
instance Ctx_persistent : BI.Persistent (Ctx ch K J c) := by unfold Ctx; infer_instance

/-- What a trip's start uses of a direction. -/
def ST (h : ℕ) : sProp 𝕄 :=
  iprop(RVs ch c d 0 h ∗ RVs ch c d 1 h ∗ SPs c d 0 h ∗ SPs c d 1 h ∗ SD c d 0 h ∗ SD c d 1 h ∗ CWs c d h)
/-- The chunk of trip h, sent or kept. -/
def FL (h : ℕ) : sProp 𝕄 :=
  iprop(SPs c d 0 h ∗ SPs c d 1 h ∗ Ltr ch c d 0 h ∗ Ltr ch c d 1 h ∗ reached ER (recvCell c d 0 (sl h)) ((h + 3) / 4) ∗ reached ER (recvCell c d 1 (sl h)) ((h + 3) / 4))
/-- What the start leaves. -/
def MD (h : ℕ) : sProp 𝕄 :=
  iprop(RV c d 0 (h + 1) ∗ RV c d 1 (h + 1) ∗ SD c d 0 (h + 1) ∗ SD c d 1 (h + 1) ∗ CWs c d (h + 1) ∗ FL ch c d h)
/-- What a trip's end uses of a direction. -/
def RS (h : ℕ) : sProp 𝕄 := iprop(RA c d 0 h ∗ RA c d 1 h ∗ CS c d h ∗ KP c d h ∗ FR c d h)

variable {ch K J c d} (t : Fin k0_t1_loop.trips) {v0 v1 : Elt F .i32} {hw2 : k0_chk2 v0} {hw1 : k0_chk1 v1}

theorem t_lt : t.val < 16 := t.isLt

theorem run_start (e0 : v0 = Dev.word (nb 0 c)) (e1 : v1 = Dev.word (nb 1 c)) {α : Type} {Q : α → sProp 𝕄} {k : P (F := F) α} :
    iprop(Ctx ch K J c ∗ OW c (6 * t.val) ∗ ST ch c 0 t.val ∗ ST ch c 1 t.val)
      ⊢ iprop((OW c (6 * t.val + 4) ∗ MD ch c 0 t.val ∗ MD ch c 1 t.val -∗ run c k Q) -∗ run c (form8 t v0 hw2 (form9 t v0 hw2 v1 hw1 k)) Q) := by
  have ht := t_lt t
  have hl0 : t.val < lim 0 := ht
  have hl1 : t.val ≤ lim 1 := by show t.val ≤ 15; omega
  have hz : (0 : Fin 2).val = 0 := rfl
  have ho : (1 : Fin 2).val = 1 := rfl
  unfold form8 form9 Ctx ST
  iintro ⟨⟨#HR, #Hlev, ⟨#Hf0, #Hf1⟩, -, -⟩, HO, ⟨Ha, Hb, Hpa, Hpb, Hda, Hdb, Hw⟩, ⟨Ha', Hb', Hpa', Hpb', Hda', Hdb', Hw'⟩⟩ Hk
  iapply (run_creditW (ch := ch) (K := K) (J := J) (d := 0) (c_cr0 t) (by omega : t.val ≤ 6 * t.val / 6) cr0_sem) $$ [HO Hw]
  · isplitr; · iexact HR
    isplitr; · iexact Hlev
    isplitl [HO]; · iexact HO
    isplitl [Hw]; · iexact Hw
    iexact Hf0
  iintro ⟨HO, Hw, #Hna, #Hnb⟩
  iapply (run_creditW (ch := ch) (K := K) (J := J) (d := 1) (c_cr1 t) (by omega : t.val ≤ 6 * t.val / 6) cr1_sem) $$ [HO Hw']
  · isplitr; · iexact HR
    isplitr; · iexact Hlev
    isplitl [HO]; · iexact HO
    isplitl [Hw']; · iexact Hw'
    iexact Hf1
  iintro ⟨HO, Hw', #Hna', #Hnb'⟩
  iapply (run_recvW (ch := ch) (K := K) (J := J) (d := 0) (hf := 0) (c3 t) (le_of_lt hl0) (by omega : t.val ≤ 6 * t.val / 6) (o1 t) _ (o2 t)) $$ [HO Ha]
  · isplitr; · iexact HR
    isplitr; · iexact Hlev
    isplitl [HO]; · iexact HO
    iexact Ha
  iintro ⟨HO, Ha, Hx, #Hr⟩
  iapply (run_send (ch := ch) (K := K) (J := J) (d := 0) (hf := 0) hl0 ht (by omega : 6 * t.val = 6 * t.val + (2 * (0 : Fin 2).val + (0 : Fin 2).val)) (o4 t) (o5 t) _ _ (o6 t) (o7 t) _ _
    (by subst e0; exact dev_word (nb 0 c) _)) $$ [HO Hpa Hda Hx]
  · isplitr; · iexact HR
    isplitl [HO]; · iexact HO
    isplitl [Hpa]; · iexact Hpa
    isplitl [Hda]; · iexact Hda
    isplitr; · iexact Hna
    iexact Hx
  iintro ⟨HO, Hpa, Hda, Hx⟩
  iapply (run_recvW (ch := ch) (K := K) (J := J) (d := 0) (hf := 1) (c4 t) (le_of_lt hl0) (by omega : t.val ≤ (6 * t.val + 1) / 6) (o8 t) _ (o9 t)) $$ [HO Hb]
  · isplitr; · iexact HR
    isplitr; · iexact Hlev
    isplitl [HO]; · iexact HO
    iexact Hb
  iintro ⟨HO, Hb, Hy, #Hq⟩
  iapply (run_send (ch := ch) (K := K) (J := J) (d := 0) (hf := 1) hl0 ht (by omega : 6 * t.val + 1 = 6 * t.val + (2 * (0 : Fin 2).val + (1 : Fin 2).val)) (o4 t) (o5 t) _ _ (o11 t) (o12 t) _ _
    (by subst e0; exact dev_word (nb 0 c) _)) $$ [HO Hpb Hdb Hy]
  · isplitr; · iexact HR
    isplitl [HO]; · iexact HO
    isplitl [Hpb]; · iexact Hpb
    isplitl [Hdb]; · iexact Hdb
    isplitr; · iexact Hnb
    iexact Hy
  iintro ⟨HO, Hpb, Hdb, Hy⟩
  iapply (run_recvW (ch := ch) (K := K) (J := J) (d := 1) (hf := 0) (c5 t) hl1 (by omega : t.val ≤ (6 * t.val + 1 + 1) / 6) (o13 t) _ (o14 t)) $$ [HO Ha']
  · isplitr; · iexact HR
    isplitr; · iexact Hlev
    isplitl [HO]; · iexact HO
    iexact Ha'
  iintro ⟨HO, Ha', Hx', #Hr'⟩
  iapply (run_sendW (ch := ch) (K := K) (J := J) (d := 1) (hf := 0) (c6 t) ht (by omega : 6 * t.val + 1 + 1 = 6 * t.val + (2 * (1 : Fin 2).val + (0 : Fin 2).val)) (o16 t) (o17 t) _ _ (o18 t) (o19 t) _ _
    (fun _ => by subst e1; exact dev_word (nb 1 c) _)) $$ [HO Hpa' Hda' Hx']
  · isplitr; · iexact HR
    isplitl [HO]; · iexact HO
    isplitl [Hpa']; · iexact Hpa'
    isplitl [Hda']; · iexact Hda'
    isplitr; · iexact Hna'
    iexact Hx'
  iintro ⟨HO, Hpa', Hda', Hx'⟩
  iapply (run_recvW (ch := ch) (K := K) (J := J) (d := 1) (hf := 1) (c7 t) hl1 (by omega : t.val ≤ (6 * t.val + 1 + 1 + 1) / 6) (o20 t) _ (o21 t)) $$ [HO Hb']
  · isplitr; · iexact HR
    isplitr; · iexact Hlev
    isplitl [HO]; · iexact HO
    iexact Hb'
  iintro ⟨HO, Hb', Hy', #Hq'⟩
  iapply (run_sendW (ch := ch) (K := K) (J := J) (d := 1) (hf := 1) (c8 t) ht (by omega : 6 * t.val + 1 + 1 + 1 = 6 * t.val + (2 * (1 : Fin 2).val + (1 : Fin 2).val)) (o23 t) (o24 t) _ _ (o25 t) (o26 t) _ _
    (fun _ => by subst e1; exact dev_word (nb 1 c) _)) $$ [HO Hpb' Hdb' Hy']
  · isplitr; · iexact HR
    isplitl [HO]; · iexact HO
    isplitl [Hpb']; · iexact Hpb'
    isplitl [Hdb']; · iexact Hdb'
    isplitr; · iexact Hnb'
    iexact Hy'
  iintro ⟨HO, Hpb', Hdb', Hy'⟩
  iapply Hk
  unfold MD FL
  isplitl [HO]; · iexact HO
  isplitl [Ha Hb Hda Hdb Hw Hpa Hpb Hx Hy]
  · iframe
    isplitr; · iexact Hr
    iexact Hq
  · iframe
    isplitr; · iexact Hr'
    iexact Hq'

/-! ## The parts -/

/-- The kernel's inputs in place, and the buffers for what lies between. -/
def INs (c : Dev nD) (x : Vec F S256x512 .bf16) (Kt Vt : Vec F S256x128x64 .bf16) : sProp 𝕄 :=
  iprop(at_ c cc0_stg0_0 fullShare x ∗ at_ c cc0_stg2_0 fullShare Kt ∗ at_ c cc0_stg3_0 fullShare Vt ∗ scr c)

/-- The contexts of device n's heads. -/
def zPart (ch : Chunks F) (x : Vec F S256x512 .bf16) (Kt Vt : Vec F S256x128x64 .bf16) (n : Dev nD) : Vec F S256x256 .bf16 :=
  zAll (Gen.k0_pay38 (sAll (Gen.k0_pay26 (up (ch 0 n)) x) (kTab Kt n))) (kTab Vt n)
/-- The result with device n's heads' part added. -/
def part (ch : Chunks F) (x : Vec F S256x512 .bf16) (Kt Vt : Vec F S256x128x64 .bf16) (n : Dev nD) (r : Vec F S256x512 .f32) : Vec F S256x512 .f32 :=
  Gen.k0_pay49 (up (ch 1 n)) (zPart ch x Kt Vt n) r

section Parts
variable {x : Vec F S256x512 .bf16} {Kt Vt : Vec F S256x128x64 .bf16}

theorem run_A {o : KOff} (ho : KInb o) {q : ℕ} (e : o = k0_off29 (Dev.word (org d c q))) {off : Fin 3 → ℕ} (hoff : off = ![(sl q).val, 256 * (0 : Fin 2).val, 0])
    (inb : ∀ a, off a + S1x256x512.size a ≤ S4x512x512.size a) {s : PosShare TreeShare} {α : Type} {Q : α → sProp 𝕄} {k : PUnit → P (F := F) α} :
    iprop(hAt ch c d 0 q s ∗ INs c x Kt Vt ∗ (∃ z, at_ c cc0_scratch4 fullShare z))
      ⊢ iprop((hAt ch c d 0 q s ∗ INs c x Kt Vt ∗ at_ c cc0_scratch4 fullShare (zPart ch x Kt Vt (org d c q)) -∗ run c (k ⟨⟩) Q)
        -∗ run c (compA o ho (cM d) off inb k) Q) := by
  unfold hAt INs zPart
  rw [← kAt_word o ho (org d c q) e Kt, ← kAt_word o ho (org d c q) e Vt]
  iintro ⟨⟨%f, Hf, %hf⟩, ⟨Hx, HK, HV, Hs⟩, Hz⟩ Hk
  rw [← hf]
  iapply (run_compA o ho c d (sl q) hoff inb) $$ [Hf Hx HK HV Hs Hz]
  · iframe
  iintro ⟨Hf, Hx, HK, HV, Hs, Hz⟩
  iapply Hk
  isplitl [Hf]
  · iexists f; isplitl [Hf]; · iexact Hf
    ipureintro; rfl
  iframe

theorem run_B {q : ℕ} {off : Fin 3 → ℕ} (hoff : off = ![(sl q).val, 256 * (1 : Fin 2).val, 0])
    (inb : ∀ a, off a + S1x256x512.size a ≤ S4x512x512.size a) {s : PosShare TreeShare} {r : Vec F S256x512 .f32} {α : Type} {Q : α → sProp 𝕄} {k : PUnit → P (F := F) α} :
    iprop(hAt ch c d 1 q s ∗ at_ c cc0_scratch4 fullShare (zPart ch x Kt Vt (org d c q)) ∗ at_ c cc0_stg5_0 fullShare r)
      ⊢ iprop((hAt ch c d 1 q s ∗ at_ c cc0_scratch4 fullShare (zPart ch x Kt Vt (org d c q)) ∗ at_ c cc0_stg5_0 fullShare (part ch x Kt Vt (org d c q) r) -∗ run c (k ⟨⟩) Q)
        -∗ run c (compB (cM d) off inb k) Q) := by
  unfold hAt part
  iintro ⟨⟨%f, Hf, %hf⟩, Hz, Hr⟩ Hk
  rw [← hf]
  iapply (run_compB c d (sl q) hoff inb) $$ [Hf Hz Hr]
  · iframe
  iintro ⟨Hf, Hz, Hr⟩
  iapply Hk
  isplitl [Hf]
  · iexists f; isplitl [Hf]; · iexact Hf
    ipureintro; rfl
  iframe

/-- The part of the chunk in hand. -/
theorem run_part {o : KOff} (ho : KInb o) {q : ℕ} (e : o = k0_off29 (Dev.word (org d c q))) {off : Fin 3 → ℕ} (hoff : off = ![(sl q).val, 256 * (0 : Fin 2).val, 0])
    (inb : ∀ a, off a + S1x256x512.size a ≤ S4x512x512.size a) {off' : Fin 3 → ℕ} (hoff' : off' = ![(sl q).val, 256 * (1 : Fin 2).val, 0])
    (inb' : ∀ a, off' a + S1x256x512.size a ≤ S4x512x512.size a) {r : Vec F S256x512 .f32} {α : Type} {Q : α → sProp 𝕄} {k : PUnit → P (F := F) α} :
    iprop(FL ch c d q ∗ INs c x Kt Vt ∗ (∃ z, at_ c cc0_scratch4 fullShare z) ∗ at_ c cc0_stg5_0 fullShare r)
      ⊢ iprop((FL ch c d q ∗ INs c x Kt Vt ∗ (∃ z, at_ c cc0_scratch4 fullShare z) ∗ at_ c cc0_stg5_0 fullShare (part ch x Kt Vt (org d c q) r) -∗ run c (k ⟨⟩) Q)
        -∗ run c (compA o ho (cM d) off inb fun _ => compB (cM d) off' inb' k) Q) := by
  unfold FL
  iintro ⟨⟨Hpa, Hpb, Ha, Hb, #Hr, #Hq⟩, Hin, Hz, Ho⟩ Hk
  ihave Ha := (Ltr_take ch c d 0 q) $$ Ha
  icases Ha with ⟨%qa, Ha, Hba⟩
  ihave Hb := (Ltr_take ch c d 1 q) $$ Hb
  icases Hb with ⟨%qb, Hb, Hbb⟩
  iapply (run_A ho e hoff inb) $$ [Ha Hin Hz]
  · iframe
  iintro ⟨Ha, Hin, Hz⟩
  iapply (run_B hoff' inb') $$ [Hb Hz Ho]
  · iframe
  iintro ⟨Hb, Hz, Ho⟩
  ihave Ha := Hba $$ Ha
  ihave Hb := Hbb $$ Hb
  iapply Hk
  isplitl [Hpa Hpb Ha Hb]
  · iframe
    isplitr; · iexact Hr
    iexact Hq
  isplitl [Hin]; · iexact Hin
  isplitl [Hz]; · iexists _; iexact Hz
  iexact Ho

/-- The result after trip h's parts, from that before. -/
def accStep (ch : Chunks F) (x : Vec F S256x512 .bf16) (Kt Vt : Vec F S256x128x64 .bf16) (c : Dev nD) (h : ℕ) (r : Vec F S256x512 .f32) : Vec F S256x512 .f32 :=
  if 1 ≤ h then part ch x Kt Vt (org 1 c h) (part ch x Kt Vt (org 0 c h) r) else part ch x Kt Vt (org 0 c h) r

theorem run_parts {r : Vec F S256x512 .f32} {α : Type} {Q : α → sProp 𝕄} {k : PUnit → P (F := F) α} :
    iprop(FL ch c 0 t.val ∗ FL ch c 1 t.val ∗ INs c x Kt Vt ∗ at_ c cc0_stg4_0 fullShare (metaT c) ∗ (∃ z, at_ c cc0_scratch4 fullShare z) ∗ at_ c cc0_stg5_0 fullShare r)
      ⊢ iprop((FL ch c 0 t.val ∗ FL ch c 1 t.val ∗ INs c x Kt Vt ∗ at_ c cc0_stg4_0 fullShare (metaT c) ∗ (∃ z, at_ c cc0_scratch4 fullShare z)
          ∗ at_ c cc0_stg5_0 fullShare (accStep ch x Kt Vt c t.val r) -∗ run c (k ⟨⟩) Q)
        -∗ run c (calcR t fun _ => whenP (k0_cond9 t) (calcL t) k) Q) := by
  have ht := t_lt t
  have m0 : metaW c (t.val + 2) = Dev.word (org 0 c t.val) := by
    unfold metaW
    rw [if_neg (by omega), if_neg (by omega), if_pos (by omega), Nat.add_sub_cancel]
  have m1 : metaW c (t.val + 19) = Dev.word (org 1 c t.val) := by
    unfold metaW
    rw [if_neg (by omega), if_neg (by omega), if_neg (by omega), Nat.add_sub_cancel]
  unfold calcR
  iintro ⟨H0, H1, Hin, Hm, Hz, Ho⟩ Hk
  iapply (run_table c (k0_off27_inb t) (o27 t)) $$ Hm
  iintro Hm
  rw [m0]
  iapply (run_assume c (chk3_word _))
  iapply (run_part (d := 0) (q := t.val) _ rfl (o28 t) _ (o30 t) _) $$ [H0 Hin Hz Ho]
  · iframe
  iintro ⟨H0, Hin, Hz, Ho⟩
  unfold whenP accStep
  by_cases h1 : 1 ≤ t.val
  · rw [dif_pos ((c9 t).mpr h1), if_pos h1]
    unfold calcL
    iapply (run_table c (k0_off31_inb t ((c9 t).mpr h1)) (o31 t)) $$ Hm
    iintro Hm
    rw [m1]
    iapply (run_assume c (chk4_word t _))
    iapply (run_part (d := 1) (q := t.val) _ rfl (o32 t) _ (o34 t) _) $$ [H1 Hin Hz Ho]
    · iframe
    iintro ⟨H1, Hin, Hz, Ho⟩
    iapply Hk; iframe
  · rw [dif_neg (fun e => h1 ((c9 t).mp e)), if_neg h1]
    iapply Hk; iframe

end Parts

/-! ## The end -/

/-- The waits for the sends along direction 1, where there were any. -/
theorem run_sentL {s : ℕ} {α : Type} {Q : α → sProp 𝕄} {k : PUnit → P (F := F) α} :
    iprop(recs ch K J ∗ levAts L lv ∗ OW c s ∗ SPs c 1 0 t.val ∗ SPs c 1 1 t.val ∗ Ltr ch c 1 0 t.val ∗ Ltr ch c 1 1 t.val)
      ⊢ iprop((OW c s ∗ SPs c 1 0 (t.val + 1) ∗ SPs c 1 1 (t.val + 1) ∗ hAt ch c 1 0 t.val fullShare ∗ hAt ch c 1 1 t.val fullShare -∗ run c (k ⟨⟩) Q)
        -∗ run c (whenP (k0_cond10 t) (fun h k => waitP 1 0 0 (k0_off40_inb t h) (k0_off41_wordsbf16 t h) (k0_off42_wordsbf16 t h) fun _ =>
            waitP 1 1 0 (k0_off40_inb t h) (k0_off43_wordsbf16 t h) (k0_off44_wordsbf16 t h) k) k) Q) := by
  unfold whenP
  by_cases hh : t.val < lim 1
  · rw [dif_pos ((c10 t).mpr hh)]
    iintro ⟨#HR, #Hlev, HO, Hpa, Hpb, Ha, Hb⟩ Hk
    iapply (run_sent (ch := ch) (K := K) (J := J) (d := 1) (hf := 0) hh (o40 t) _ (o41 t)) $$ [HO Hpa Ha]
    · isplitr; · iexact HR
      isplitr; · iexact Hlev
      iframe
    iintro ⟨HO, Hpa, Ha⟩
    iapply (run_sent (ch := ch) (K := K) (J := J) (d := 1) (hf := 1) hh (o40 t) _ (o43 t)) $$ [HO Hpb Hb]
    · isplitr; · iexact HR
      isplitr; · iexact Hlev
      iframe
    iintro ⟨HO, Hpb, Hb⟩
    iapply Hk; iframe
  · rw [dif_neg (fun e => hh ((c10 t).mp e))]
    iintro ⟨-, -, HO, Hpa, Hpb, Ha, Hb⟩ Hk
    ihave Ha := (Ltr_end (ch := ch) (c := c) (d := 1) (hf := 0) hh) $$ [Hpa Ha]
    · iframe
    ihave Hb := (Ltr_end (ch := ch) (c := c) (d := 1) (hf := 1) hh) $$ [Hpb Hb]
    · iframe
    icases Ha with ⟨Hpa, Ha⟩
    icases Hb with ⟨Hpb, Hb⟩
    iapply Hk; iframe

theorem run_end (e0 : v0 = Dev.word (nb 0 c)) (e1 : v1 = Dev.word (nb 1 c)) {α : Type} {Q : α → sProp 𝕄} {k : PUnit → P (F := F) α} :
    iprop(Ctx ch K J c ∗ OW c (6 * t.val + 4) ∗ (FL ch c 0 t.val ∗ RS c 0 t.val) ∗ (FL ch c 1 t.val ∗ RS c 1 t.val))
      ⊢ iprop((OW c (6 * (t.val + 1)) ∗ (SPs c 0 0 (t.val + 1) ∗ SPs c 0 1 (t.val + 1) ∗ RS c 0 (t.val + 1))
            ∗ (SPs c 1 0 (t.val + 1) ∗ SPs c 1 1 (t.val + 1) ∗ RS c 1 (t.val + 1)) -∗ run c (k ⟨⟩) Q) -∗ run c (formE t v0 hw2 v1 hw1 k) Q) := by
  have ht := t_lt t
  have hl0 : t.val < lim 0 := ht
  unfold formE Ctx FL RS
  iintro ⟨⟨#HR, #Hlev, -, #Hc0, #Hc1⟩, HO, ⟨⟨Hpa, Hpb, Ha, Hb, #Hr, #Hq⟩, Hra, Hrb, Hcs, Hkp, #Hfr⟩, ⟨⟨Hpa', Hpb', Ha', Hb', #Hr', #Hq'⟩, Hra', Hrb', Hcs', Hkp', #Hfr'⟩⟩ Hk
  iapply (run_sent (ch := ch) (K := K) (J := J) (d := 0) (hf := 0) hl0 (o35 t) _ (o36 t)) $$ [HO Hpa Ha]
  · isplitr; · iexact HR
    isplitr; · iexact Hlev
    iframe
  iintro ⟨HO, Hpa, Ha⟩
  iapply (run_sent (ch := ch) (K := K) (J := J) (d := 0) (hf := 1) hl0 (o35 t) _ (o38 t)) $$ [HO Hpb Hb]
  · isplitr; · iexact HR
    isplitr; · iexact Hlev
    iframe
  iintro ⟨HO, Hpb, Hb⟩
  imod (release_both (ch := ch) (K := K) (J := J) (d := 0) t.val) $$ [Hra Hrb Ha Hb Hkp] with ⟨Hra, Hrb, #Hfn, Hkp⟩
  · isplitr; · iexact HR
    iframe
    isplitr; · iexact Hr
    isplitr; · iexact Hq
    iexact Hfr
  iapply (run_sentL (ch := ch) (K := K) (J := J) (c := c) t) $$ [HO Hpa' Hpb' Ha' Hb']
  · isplitr; · iexact HR
    isplitr; · iexact Hlev
    iframe
  iintro ⟨HO, Hpa', Hpb', Ha', Hb'⟩
  imod (release_both (ch := ch) (K := K) (J := J) (d := 1) t.val) $$ [Hra' Hrb' Ha' Hb' Hkp'] with ⟨Hra', Hrb', #Hfn', Hkp'⟩
  · isplitr; · iexact HR
    iframe
    isplitr; · iexact Hr'
    isplitr; · iexact Hq'
    iexact Hfr'
  iapply (run_giveW (ch := ch) (K := K) (J := J) (c := c) (d := 0) (h := t.val) (s := 6 * t.val + 4) (c11 t) ht rfl cr0_sem
    (fun hb => by subst e1; exact (dev_word (nb 1 c) _).trans (pv_eq 0 c).symm)) $$ [HO Hcs]
  · isplitr; · iexact HR
    iframe
    isplitr; · iexact Hfn
    iexact Hc0
  iintro ⟨HO, Hcs⟩
  iapply (run_giveW (ch := ch) (K := K) (J := J) (c := c) (d := 1) (h := t.val) (s := 6 * t.val + 5) (c12 t) ht rfl cr1_sem
    (fun hb => by subst e0; exact (dev_word (nb 0 c) _).trans (pv_eq 1 c).symm)) $$ [HO Hcs']
  · isplitr; · iexact HR
    iframe
    isplitr; · iexact Hfn'
    iexact Hc1
  iintro ⟨HO, Hcs'⟩
  iapply Hk
  isplitl [HO]; · iexact HO
  isplitl [Hpa Hpb Hra Hrb Hcs Hkp]
  · iframe
    iexact Hfn
  iframe
  iexact Hfn'

/-! ## The trip -/

/-- What holds before trip h. -/
def Inv (ch : Chunks F) (K : GSem nD τ sig → ℕ) (J : Key → ℕ) (c : Dev nD) (x : Vec F S256x512 .bf16) (Kt Vt : Vec F S256x128x64 .bf16) (h : ℕ) (r : Vec F S256x512 .f32) : sProp 𝕄 :=
  iprop(Ctx ch K J c ∗ OW c (6 * h) ∗ (ST ch c 0 h ∗ RS c 0 h) ∗ (ST ch c 1 h ∗ RS c 1 h) ∗ INs c x Kt Vt ∗ at_ c cc0_stg4_0 fullShare (metaT c)
    ∗ (∃ z, at_ c cc0_scratch4 fullShare z) ∗ at_ c cc0_stg5_0 fullShare r)

theorem RVs_succ (hf : Fin 2) (h : ℕ) : (RVs ch c d hf (h + 1) : sProp 𝕄) = RV c d hf (h + 1) := if_pos (Nat.le_add_left 1 h)

theorem run_trip (e0 : v0 = Dev.word (nb 0 c)) (e1 : v1 = Dev.word (nb 1 c)) {x : Vec F S256x512 .bf16} {Kt Vt : Vec F S256x128x64 .bf16} {r : Vec F S256x512 .f32}
    {α : Type} {Q : α → sProp 𝕄} {k : PUnit → P (F := F) α} :
    Inv ch K J c x Kt Vt t.val r
      ⊢ iprop((Inv ch K J c x Kt Vt (t.val + 1) (accStep ch x Kt Vt c t.val r) -∗ run c (k ⟨⟩) Q) -∗ run c (tripP t v0 hw2 v1 hw1 k) Q) := by
  have ht := t_lt t
  unfold Inv tripP
  iintro ⟨#HC, HO, ⟨Hst, Hrs⟩, ⟨Hst', Hrs'⟩, Hin, Hm, Hz, Ho⟩ Hk
  iapply (run_start t e0 e1) $$ [HO Hst Hst']
  · isplitr; · iexact HC
    iframe
  unfold MD
  iintro ⟨HO, ⟨Ha, Hb, Hda, Hdb, Hw, Hl⟩, ⟨Ha', Hb', Hda', Hdb', Hw', Hl'⟩⟩
  iapply (run_parts (ch := ch) (c := c) t) $$ [Hl Hl' Hin Hm Hz Ho]
  · iframe
  iintro ⟨Hl, Hl', Hin, Hm, Hz, Ho⟩
  iapply (run_end t e0 e1) $$ [HO Hl Hl' Hrs Hrs']
  · isplitr; · iexact HC
    iframe
  iintro ⟨HO, ⟨Hpa, Hpb, Hrs⟩, ⟨Hpa', Hpb', Hrs'⟩⟩
  iapply Hk
  unfold ST
  simp only [RVs_succ]
  isplitr; · iexact HC
  iframe

/-- The result before trip h. -/
def acc (ch : Chunks F) (x : Vec F S256x512 .bf16) (Kt Vt : Vec F S256x128x64 .bf16) (c : Dev nD) : ℕ → Vec F S256x512 .f32
  | 0 => Gen.k0_pay50
  | h + 1 => accStep ch x Kt Vt c h (acc ch x Kt Vt c h)

theorem run_loop (e0 : v0 = Dev.word (nb 0 c)) (e1 : v1 = Dev.word (nb 1 c)) {x : Vec F S256x512 .bf16} {Kt Vt : Vec F S256x128x64 .bf16}
    {α : Type} {Q : α → sProp 𝕄} {k : PUnit → P (F := F) α} :
    Inv ch K J c x Kt Vt 0 (acc ch x Kt Vt c 0)
      ⊢ iprop((Inv ch K J c x Kt Vt 16 (acc ch x Kt Vt c 16) -∗ run c (k ⟨⟩) Q) -∗ run c (loopP v0 hw2 v1 hw1 >>= k) Q) := by
  unfold loopP
  iintro HI Hk
  have hb : ∀ (h : Fin k0_t1_loop.trips) (_ : Unit), Inv ch K J c x Kt Vt h.val (acc ch x Kt Vt c h.val)
      ⊢ run c (tripP h v0 hw2 v1 hw1 .ret) fun _ : PUnit => Inv ch K J c x Kt Vt (h.val + 1) (acc ch x Kt Vt c (h.val + 1)) := by
    intro h _
    iintro HI
    iapply (run_trip h e0 e1) $$ HI
    iintro HI
    unfold run
    rw [wp_ret]
    imodintro
    iexact HI
  iapply (Scf.wp_for_bind frame (wpE (defs₀ (F := F)) 𝒱₀ (c : Thread nD τ) none) Set.univ _ _ _ _ _ _
    (fun h (_ : Unit) => Inv ch K J c x Kt Vt h (acc ch x Kt Vt c h)) hb) $$ HI
  iintro %a HI
  iapply Hk
  iexact HI

end Cert.Proof
-- ==== Proof.Edge.lean ====
/- A buffer's slots, taken apart and put together; the device's own chunk put into a buffer. -/
module

public import proofs.«01_k».proof.Proof.Round
public import Idealize.ShloMosaic.Lib.Ring

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## A buffer's halves of slots -/

/-- A half slot's elements. -/
abbrev hS (d : Fin 2) (b : Fin 2 × Fin 4) : Finset (cM d).view.ty.Idx := (hM d b.1 b.2).view.set

theorem hS_eq (d : Fin 2) (b : Fin 2 × Fin 4) : hS d b = (Rect.unit (s := S4x512x512) ![b.2.val, 256 * b.1.val, 0] S1x256x512.size (slot_inb b.2 b.1)).set.map (cM d).view.emb :=
  (View.set_reshape _ _).trans (View.set_slice (cM d).view (Rect.unit (s := S4x512x512) ![b.2.val, 256 * b.1.val, 0] S1x256x512.size (slot_inb b.2 b.1)))

theorem hM_disj (d : Fin 2) (b b' : Fin 2 × Fin 4) (h : b ≠ b') : Disjoint (hS d b) (hS d b') := by
  have key : Disjoint (Rect.unit (s := S4x512x512) ![b.2.val, 256 * b.1.val, 0] S1x256x512.size (slot_inb b.2 b.1)).set
      (Rect.unit (s := S4x512x512) ![b'.2.val, 256 * b'.1.val, 0] S1x256x512.size (slot_inb b'.2 b'.1)).set := by
    by_cases h2 : b.2 = b'.2
    · have h1 : b.1.val ≠ b'.1.val := fun e => h (Prod.ext (Fin.ext e) h2)
      refine Rect.unit_disjoint 1 ?_
      show 256 * b.1.val + 256 ≤ 256 * b'.1.val ∨ 256 * b'.1.val + 256 ≤ 256 * b.1.val
      omega
    · have h1 : b.2.val ≠ b'.2.val := fun e => h2 (Fin.ext e)
      refine Rect.unit_disjoint 0 ?_
      show b.2.val + 1 ≤ b'.2.val ∨ b'.2.val + 1 ≤ b.2.val
      omega
  rw [hS_eq, hS_eq]
  exact (Finset.disjoint_map _).mpr key

/-- The rectangle of a half slot. -/
abbrev hR (b : Fin 2 × Fin 4) : Rect S4x512x512 := Rect.unit (s := S4x512x512) ![b.2.val, 256 * b.1.val, 0] S1x256x512.size (slot_inb b.2 b.1)

theorem hR_cover : (Finset.univ : Finset (Fin 2 × Fin 4)).biUnion (fun b => (hR b).set) = Finset.univ := by
  refine Finset.eq_univ_iff_forall.mpr fun i => ?_
  have h0 : (i 0).val < 4 := (i 0).isLt
  have h1 : (i 1).val < 512 := (i 1).isLt
  have h2 : (i 2).val < 512 := (i 2).isLt
  refine Finset.mem_biUnion.mpr ⟨(⟨(i 1).val / 256, by omega⟩, ⟨(i 0).val, h0⟩), Finset.mem_univ _, Rect.mem_set_unit.mpr fun a => ?_⟩
  fin_cases a
  · show (i 0).val ≤ (i 0).val ∧ (i 0).val < (i 0).val + 1; omega
  · show 256 * ((i 1).val / 256) ≤ (i 1).val ∧ (i 1).val < 256 * ((i 1).val / 256) + 256; omega
  · show 0 ≤ (i 2).val ∧ (i 2).val < 0 + 512; omega

theorem cM_set (d : Fin 2) : (cM d).view.set = Finset.univ := by
  obtain rfl | rfl : d = 0 ∨ d = 1 := by revert d; decide
  · exact View.set_whole _
  · exact View.set_whole _

theorem hM_cover (d : Fin 2) : (Finset.univ : Finset (Fin 2 × Fin 4)).biUnion (hS d) = Finset.univ := by
  rw [← cM_set d, show (cM d).view.set = Finset.univ.map (cM d).view.emb from rfl, ← hR_cover, Finset.map_eq_image, Finset.biUnion_image]
  exact Finset.biUnion_congr rfl fun b _ => (hS_eq d b).trans (Finset.map_eq_image _ _)

/-- Halves of slots at contents not chosen. -/
def slots (c : Dev nD) (d : Fin 2) (s : Finset ℕ) : sProp 𝕄 := bigSep s fun x => iprop(hAny c d 0 (sl x) ∗ hAny c d 1 (sl x))

/-- The buffer of direction d at contents not chosen. -/
def comm (c : Dev nD) (d : Fin 2) : sProp 𝕄 := iprop(∃ f : Buf (Elt F) ((cM d).view.loc (c : Thread nD τ)), (cM d).view.loc (c : Thread nD τ) ↦{fullShare} f)

theorem slots_fin (c : Dev nD) (d : Fin 2) (a : ℕ) (ha : a = 0 ∨ a = 12 ∨ a = 13) :
    (slots c d (Finset.Ico a (a + 4)) : sProp 𝕄) = bigSep (Finset.univ : Finset (Fin 2 × Fin 4)) fun b => hAny c d b.1 b.2 := by
  have e1 : (bigSep (Finset.univ : Finset (Fin 2 × Fin 4)) fun b => (hAny c d b.1 b.2 : sProp 𝕄)) = bigSep Finset.univ fun j : Fin 4 => iprop(hAny c d 0 j ∗ hAny c d 1 j) := by
    rw [bigSep_univ_prod, BI.bigSep_fin_two]; exact (bigSep_sep' _ _ _).symm
  rw [e1, bigSep_eq_bigSepL_of_eq [(0 : Fin 4), 1, 2, 3] (by decide) (by decide)]
  unfold slots
  obtain rfl | rfl | rfl := ha
  · rw [bigSep_eq_bigSepL_of_eq [0, 1, 2, 3] (by decide) (by decide)]; rfl
  · rw [bigSep_eq_bigSepL_of_eq [12, 13, 14, 15] (by decide) (by decide)]; rfl
  · rw [bigSep_eq_bigSepL_of_eq [16, 13, 14, 15] (by decide) (by decide)]; rfl

theorem comm_split (c : Dev nD) (d : Fin 2) : comm c d ⊢ (slots c d (Finset.Ico 0 4) : sProp 𝕄) := by
  rw [slots_fin c d 0 (.inl rfl)]
  unfold comm
  have h (f : Buf (Elt F) ((cM d).view.loc (c : Thread nD τ))) : ((cM d).view.loc (c : Thread nD τ) ↦{fullShare} f)
      ⊢ (bigSep (Finset.univ : Finset (Fin 2 × Fin 4)) fun b => hAny c d b.1 b.2 : sProp 𝕄) := by
    refine BIBase.Entails.trans (Entails.of_eq (Ring.pointsTo_blocks (hS d) (hM_disj d) (hM_cover d) f)) (bigSep_mono fun b _ => ?_)
    unfold hAny Release.slot
    show (iprop((cM d).view.loc (c : Thread nD τ) ↦[hS d b]{fullShare} f) : sProp 𝕄) ⊢ iprop(∃ f, (cM d).view.loc (c : Thread nD τ) ↦[hS d b]{fullShare} f)
    iintro H; iexists f; iexact H
  iintro ⟨%f, H⟩
  iapply (h f); iexact H

theorem comm_join (c : Dev nD) (d : Fin 2) (a : ℕ) (ha : a = 0 ∨ a = 12 ∨ a = 13) : slots c d (Finset.Ico a (a + 4)) ⊢ (comm c d : sProp 𝕄) := by
  rw [slots_fin c d a ha]
  exact Ring.pointsTo_blocks_join_exists (ℓ := (cM d).view.loc (c : Thread nD τ)) (hS d) (hM_disj d) (hM_cover d) (fun _ => default)

/-! ## The device's own chunk -/

/-- Half hf of a slot's values. -/
def half (hf : Fin 2) (w : S1x512x512.Idx → Elt F .bf16) : Vec F S256x512 .bf16 :=
  fun i => w fun a => ⟨match a with | 0 => 0 | 1 => 256 * hf.val + (i 0).val | 2 => (i 1).val, by
    have h0 : (i 0).val < 256 := (i 0).isLt
    have h1 : (i 1).val < 512 := (i 1).isLt
    have := hf.isLt
    fin_cases a
    · exact Nat.one_pos
    · show 256 * hf.val + (i 0).val < 512; omega
    · exact h1⟩

theorem half_put (hf : Fin 2) (f : S4x512x512.Idx → Elt F .bf16) (w : S1x512x512.Idx → Elt F .bf16) :
    shapeCast S256x512 (VecWindow.window (VecWindow.put f ![0, 0, 0] S1x512x512.size w) ![(0 : Fin 4).val, 256 * hf.val, 0] S1x256x512.size (slot_inb 0 hf)) shapeCasts_S1x256x512_S256x512
      = half hf w := by
  have hb : ∀ a, (![0, 0, 0] : Fin 3 → ℕ) a ≤ (![(0 : Fin 4).val, 256 * hf.val, 0] : Fin 3 → ℕ) a
      ∧ (![(0 : Fin 4).val, 256 * hf.val, 0] : Fin 3 → ℕ) a + S1x256x512.size a ≤ (![0, 0, 0] : Fin 3 → ℕ) a + S1x512x512.size a := by
    revert hf; decide
  funext i
  rw [VecWindow.window_put_of_inside f ![0, 0, 0] S1x512x512.size _ S1x256x512.size (slot_inb 0 hf) w hb]
  refine (shapeCast_dropUnit_apply ![256, 512] _ _ i).trans ?_
  refine congrArg w (funext fun a => Fin.ext ?_)
  fin_cases a
  · rfl
  · show 256 * hf.val - 0 + 1 * (i 0).val = 256 * hf.val + (i 0).val; omega
  · show 0 - 0 + 1 * (i 1).val = (i 1).val; omega

theorem read_put (c : Dev nD) (d hf : Fin 2) (f : Buf (Elt F) ((cM d).view.loc (c : Thread nD τ))) (w : S1x512x512.Idx → Elt F .bf16) :
    (hM d hf 0).view.read (Elt F) (((cM d).access (Rect.unit (s := S4x512x512) ![0, 0, 0] S1x512x512.size inb_S4x512x512_S1x512x512_0_0_0) : View sig .tc _ _ _).write (Elt F) f w Finset.univ)
      = half hf w := by
  have e : (cM d).view.read (Elt F) (((cM d).access (Rect.unit (s := S4x512x512) ![0, 0, 0] S1x512x512.size inb_S4x512x512_S1x512x512_0_0_0) : View sig .tc _ _ _).write (Elt F) f w Finset.univ)
      = VecWindow.put ((cM d).view.read (Elt F) f) ![0, 0, 0] S1x512x512.size w :=
    View.read_writes_cons_put (Val := Elt F) (cM d).view f inb_S4x512x512_S1x512x512_0_0_0 w [] rfl
  have e1 (g : Buf (Elt F) ((cM d).view.loc (c : Thread nD τ))) : (hM d hf 0).view.read (Elt F) g
      = shapeCast S256x512 (VecWindow.window ((cM d).view.read (Elt F) g) ![(0 : Fin 4).val, 256 * hf.val, 0] S1x256x512.size (slot_inb 0 hf)) shapeCasts_S1x256x512_S256x512 := rfl
  rw [e1, e]
  exact half_put hf _ w

end Cert.Proof
-- ==== Proof.Own.lean ====
/- The device's own chunk goes to the buffers' first slots. -/
module

public import proofs.«01_k».proof.Proof.Edge

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {ch : Chunks F} {K : GSem nD τ sig → ℕ} {J : Key → ℕ} {c : Dev nD} {d : Fin 2}

/-! ## The device's own chunk goes to a buffer's first slot -/

theorem own_sub (d : Fin 2) : (Rect.unit (s := S4x512x512) ![0, 0, 0] S1x512x512.size inb_S4x512x512_S1x512x512_0_0_0).set.map (cM d).view.emb ⊆ hS d (0, 0) ∪ hS d (1, 0) := by
  rw [hS_eq, hS_eq, ← Finset.map_union]
  refine Finset.map_subset_map.mpr fun i hi => ?_
  have h := Rect.mem_set_unit.mp hi
  have h0 : (i 0).val < 0 + 1 := (h 0).2
  have h1 : (i 1).val < 512 := (i 1).isLt
  have h2 : (i 2).val < 512 := (i 2).isLt
  by_cases hh : (i 1).val < 256
  · refine Finset.mem_union_left _ (Rect.mem_set_unit.mpr fun a => ?_)
    fin_cases a
    · show 0 ≤ (i 0).val ∧ (i 0).val < 0 + 1; omega
    · show 256 * 0 ≤ (i 1).val ∧ (i 1).val < 256 * 0 + 256; omega
    · show 0 ≤ (i 2).val ∧ (i 2).val < 0 + 512; omega
  · refine Finset.mem_union_right _ (Rect.mem_set_unit.mpr fun a => ?_)
    fin_cases a
    · show 0 ≤ (i 0).val ∧ (i 0).val < 0 + 1; omega
    · show 256 * 1 ≤ (i 1).val ∧ (i 1).val < 256 * 1 + 256; omega
    · show 0 ≤ (i 2).val ∧ (i 2).val < 0 + 512; omega

theorem own_disj (d : Fin 2) : Disjoint (hS d (0, 0)) (hS d (1, 0)) := hM_disj d (0, 0) (1, 0) (by decide)

theorem own_join : iprop(hAny c d 0 (sl 0) ∗ hAny c d 1 (sl 0)) ⊢ (iprop(∃ f : Buf (Elt F) ((cM d).view.loc (c : Thread nD τ)), (cM d).view.loc (c : Thread nD τ) ↦[hS d (0, 0) ∪ hS d (1, 0)]{fullShare} f) : sProp 𝕄) := by
  unfold hAny Release.slot
  show (iprop((∃ f, (cM d).view.loc (c : Thread nD τ) ↦[hS d (0, 0)]{fullShare} f) ∗ ∃ f, (cM d).view.loc (c : Thread nD τ) ↦[hS d (1, 0)]{fullShare} f) : sProp 𝕄) ⊢ _
  iintro ⟨⟨%f, Hf⟩, ⟨%g, Hg⟩⟩
  iexists _
  iapply (pointsTo_join (own_disj d) (f := f) (g := g))
  isplitl [Hf]; · iexact Hf
  iexact Hg

theorem run_own {w : S1x512x512.Idx → Elt F .bf16} (hw : ∀ hf, half hf w = ch hf c) {α : Type} {Q : α → sProp 𝕄} {k : PUnit → P (F := F) α}
    {hl : (cM d).view.LoadsAt (Rect.unit (s := S4x512x512) ![0, 0, 0] S1x512x512.size inb_S4x512x512_S1x512x512_0_0_0).toLoadRect}
    {hx : ((cM d).access (Rect.unit (s := S4x512x512) ![0, 0, 0] S1x512x512.size inb_S4x512x512_S1x512x512_0_0_0) : View sig .tc _ _ _).Stores Finset.univ}
    {hm : (Finset.univ : Finset (Rect.unit (s := S4x512x512) ![0, 0, 0] S1x512x512.size inb_S4x512x512_S1x512x512_0_0_0).shape.Idx) = Finset.univ
      ∨ ∀ a, (Rect.unit (s := S4x512x512) ![0, 0, 0] S1x512x512.size inb_S4x512x512_S1x512x512_0_0_0).stride a = 1} :
    iprop(hAny c d 0 (sl 0) ∗ hAny c d 1 (sl 0))
      ⊢ iprop((hAt ch c d 0 0 fullShare ∗ hAt ch c d 1 0 fullShare -∗ run c (k ⟨⟩) Q)
        -∗ run c (.op (.load (cM d) (Rect.unit (s := S4x512x512) ![0, 0, 0] S1x512x512.size inb_S4x512x512_S1x512x512_0_0_0).toLoadRect hl) fun _ =>
          .op (.store (cM d) (Rect.unit (s := S4x512x512) ![0, 0, 0] S1x512x512.size inb_S4x512x512_S1x512x512_0_0_0) w Finset.univ hx hm) k) Q) := by
  have hz : org d c 0 = c := org_zero d c
  have hs : ((cM d).access (Rect.unit (s := S4x512x512) ![0, 0, 0] S1x512x512.size inb_S4x512x512_S1x512x512_0_0_0) : View sig .tc _ _ _).setOn Finset.univ ⊆ hS d (0, 0) ∪ hS d (1, 0) :=
    (View.set_slice (cM d).view (Rect.unit (s := S4x512x512) ![0, 0, 0] S1x512x512.size inb_S4x512x512_S1x512x512_0_0_0)).trans_subset (own_sub d)
  iintro H Hk
  ihave H := own_join $$ H
  icases H with ⟨%f, H⟩
  iapply (wp_load 𝒱₀ (c : Thread nD τ) none Set.univ (m := cM d) (own_sub d)) $$ H
  iintro H
  iapply (wp_store 𝒱₀ (c : Thread nD τ) none Set.univ (m := cM d) hs) $$ H
  iintro H
  ihave H := (pointsTo_union (own_disj d)).1 $$ H
  icases H with ⟨Ha, Hb⟩
  iapply Hk
  unfold hAt
  rw [hz]
  isplitl [Ha]
  · iexists _; isplitl [Ha]; · iexact Ha
    ipureintro; exact (read_put c d 0 f w).trans (hw 0)
  · iexists _; isplitl [Hb]; · iexact Hb
    ipureintro; exact (read_put c d 1 f w).trans (hw 1)

end Cert.Proof
-- ==== Proof.Last.lean ====
/- The last chunk, and the cells closed. -/
module

public import proofs.«01_k».proof.Proof.Own

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {ch : Chunks F} {K : GSem nD τ sig → ℕ} {J : Key → ℕ} {c : Dev nD}

/-! ## The cells closed: their counters back at zero -/

theorem close_ch (d hf k : Fin 2) (j : Fin 4) :
    iprop(recs ch K J ∗ atPos ER ((c : Thread nD τ), .dma (chSem d hf k j)) (nRounds d k j) ∅ 0) ⊢ (|={Set.univ}=> semVal ((c : Thread nD τ), .dma (chSem d hf k j)) 0 : sProp 𝕄) := by
  have hd : ∀ r ≥ nRounds d k j, (Rd ch).duties ((c : Thread nD τ), .dma (chSem d hf k j)) r = ∅ := fun r hr => by
    rw [duties_ch, if_neg (by omega)]
  iintro ⟨#HR, Ha⟩
  iapply (Rounds.cell_close ER (Rd ch) (Set.mem_univ (K ((c : Thread nD τ), .dma (chSem d hf k j)))) id hd)
  isplitr; · iapply (recs_ch ch K J c d hf k j); iexact HR
  iexact Ha

theorem close_cr (d : Fin 2) : iprop(recs ch K J ∗ CW c d (nCr d)) ⊢ (|={Set.univ}=> semVal (crCell c d) 0 : sProp 𝕄) := by
  unfold CW
  rw [if_neg (Nat.lt_irrefl _)]
  iintro ⟨#HR, Ha⟩
  iapply (Rounds.cell_close ER (Rd ch) (Set.mem_univ (K (crCell c d))) id (R := 1) (fun r hr => duties_reg_later ch c (crS d) r hr))
  isplitr; · iapply (recs_cr ch K J c d); iexact HR
  iexact Ha

theorem close_bar : iprop(recs ch K J ∗ atPos ER (barCell c) 1 ∅ 0) ⊢ (|={Set.univ}=> semVal (barCell c) 0 : sProp 𝕄) := by
  iintro ⟨#HR, Ha⟩
  iapply (Rounds.cell_close ER (Rd ch) (Set.mem_univ (K (barCell c))) id (R := 1) (fun r hr => duties_reg_later ch c barS r hr))
  isplitr; · iapply (recs_bar ch K J c); iexact HR
  iexact Ha

theorem close_recv (d hf : Fin 2) : iprop(recs ch K J ∗ RV c d hf (lim d + 1)) ⊢ (|={Set.univ}=> bigSep Finset.univ fun j => semVal (recvCell c d hf j) 0 : sProp 𝕄) := by
  unfold RV
  have h : (bigSep Finset.univ fun j => (atPos ER (recvCell c d hf j) (rcnt j (lim d + 1)) ∅ 0 : sProp 𝕄)) ⊢ bigSep Finset.univ fun j => atPos ER (recvCell c d hf j) (nRounds d 1 j) ∅ 0 :=
    bigSep_mono fun j _ => by rw [rcnt_end]; exact BI.Entails.refl _
  iintro ⟨#HR, Ha, -⟩
  iapply bigSep_fupd
  iapply (bigSep_with_persistent (R := recs ch K J) (fun j _ => close_ch d hf 1 j))
  isplitr; · iexact HR
  iapply h; iexact Ha

theorem close_send (d hf : Fin 2) : iprop(recs ch K J ∗ SP c d hf (lim d)) ⊢ (|={Set.univ}=> bigSep Finset.univ fun j => semVal (sendCell c d hf j) 0 : sProp 𝕄) := by
  unfold SP
  have h : (bigSep Finset.univ fun j => (iprop(atPos ER (sendCell c d hf j) (scnt j (lim d)) ∅ 0 ∗ reached ER (sendCell c d hf j) (scnt j (lim d))) : sProp 𝕄)) ⊢ bigSep Finset.univ fun j => atPos ER (sendCell c d hf j) (nRounds d 0 j) ∅ 0 :=
    bigSep_mono fun j _ => by
      rw [scnt_end]
      show (iprop(_ ∗ _) : sProp 𝕄) ⊢ _
      iintro ⟨H, -⟩; iexact H
  iintro ⟨#HR, Ha⟩
  iapply bigSep_fupd
  iapply (bigSep_with_persistent (R := recs ch K J) (fun j _ => close_ch d hf 0 j))
  isplitr; · iexact HR
  iapply h; iexact Ha

/-! ## The last chunk, and the end -/

/-- The counters of one channel at zero. -/
def zeroCh (c : Dev nD) (d hf : Fin 2) : sProp 𝕄 :=
  iprop((bigSep Finset.univ fun j => semVal (sendCell c d hf j) 0) ∗ bigSep Finset.univ fun j => semVal (recvCell c d hf j) 0)
/-- The scoped counters at zero, sorted by channel. -/
def zeros (c : Dev nD) : sProp 𝕄 :=
  iprop(((zeroCh c 0 0 ∗ zeroCh c 0 1) ∗ (zeroCh c 1 0 ∗ zeroCh c 1 1)) ∗ semVal (crCell c 0) 0 ∗ semVal (crCell c 1) 0)

/-- What the kernel leaves. -/
def Fin_ (c : Dev nD) (x : Vec F S256x512 .bf16) (Kt Vt : Vec F S256x128x64 .bf16) (r : Vec F S256x512 .f32) : sProp 𝕄 :=
  iprop(zeros c ∗ OW c 96 ∗ comm c 0 ∗ comm c 1 ∗ INs c x Kt Vt ∗ at_ c cc0_stg4_0 fullShare (metaT c)
    ∗ (∃ z, at_ c cc0_scratch4 fullShare z) ∗ at_ c cc0_stg5_0 fullShare r)

theorem kept0 : iprop(KP c 0 16 ∗ hAt ch c 0 0 16 fullShare ∗ hAt ch c 0 1 16 fullShare) ⊢ (comm c 0 : sProp 𝕄) := by
  refine BIBase.Entails.trans ?_ (comm_join c 0 13 (.inr (.inr rfl)))
  have e : Finset.Ico 13 (13 + 4) = insert 16 (Finset.Ico (nCr 0) 16) := by decide
  unfold slots
  rw [e, bigSep_insert (by decide)]
  unfold KP
  show _ ⊢ (iprop((hAny c 0 0 (sl 16) ∗ hAny c 0 1 (sl 16)) ∗ bigSep (Finset.Ico (nCr 0) 16) fun x => iprop(hAny c 0 0 (sl x) ∗ hAny c 0 1 (sl x))) : sProp 𝕄)
  iintro ⟨Hk, Ha, Hb⟩
  isplitl [Ha Hb]
  · isplitl [Ha]; · iapply (hAt_any (ch := ch) 16); iexact Ha
    iapply (hAt_any (ch := ch) 16); iexact Hb
  iexact Hk

theorem kept1 : KP c 1 16 ⊢ (comm c 1 : sProp 𝕄) := comm_join c 1 12 (.inr (.inl rfl))

theorem run_endP {x : Vec F S256x512 .bf16} {Kt Vt : Vec F S256x128x64 .bf16} {r : Vec F S256x512 .f32} {Q : PUnit → sProp 𝕄} :
    Inv ch K J c x Kt Vt 16 r ⊢ iprop((Fin_ c x Kt Vt (part ch x Kt Vt (org 0 c 16) r) -∗ Q ⟨⟩) -∗ run c endP Q) := by
  have m18 : metaW c 18 = Dev.word (org 0 c 16) := rfl
  unfold Inv endP Ctx ST RS
  have hs (d hf) : (SPs c d hf 16 : sProp 𝕄) = SP c d hf (lim d) := by unfold SPs; congr 1; revert d; decide
  have hw (d) : (CWs c d 16 : sProp 𝕄) = CW c d (nCr d) := by unfold CWs; congr 1; revert d; decide
  simp only [RVs_succ, hs, hw]
  iintro ⟨⟨#HR, #Hlev, -, -, -⟩, HO, ⟨⟨Ha, Hb, Hpa, Hpb, -, -, Hw⟩, -, -, -, Hkp, -⟩, ⟨⟨Ha', Hb', Hpa', Hpb', -, -, Hw'⟩, -, -, -, Hkp', -⟩, Hin, Hm, Hz, Ho⟩ Hk
  iapply (run_recv (ch := ch) (K := K) (J := J) (d := 0) (hf := 0) (h := 16) (s := 96) (j := 0) (by decide) (by decide) (by decide) rfl _ rfl) $$ [HO Ha]
  · isplitr; · iexact HR
    isplitr; · iexact Hlev
    iframe
  iintro ⟨HO, Ha, Hx, -⟩
  iapply (run_table c (i := 18) inb_S35_S1_18 rfl) $$ Hm
  iintro Hm
  rw [m18]
  iapply (run_assume c (chk5_word _))
  iapply (run_A (d := 0) (q := 16) _ rfl rfl) $$ [Hx Hin Hz]
  · iframe
  iintro ⟨Hx, Hin, Hz⟩
  iapply (run_recv (ch := ch) (K := K) (J := J) (d := 0) (hf := 1) (h := 16) (s := 96) (j := 0) (by decide) (by decide) (by decide) rfl _ rfl) $$ [HO Hb]
  · isplitr; · iexact HR
    isplitr; · iexact Hlev
    iframe
  iintro ⟨HO, Hb, Hy, -⟩
  iapply (run_B (d := 0) (q := 16) rfl) $$ [Hy Hz Ho]
  · iframe
  iintro ⟨Hy, Hz, Ho⟩
  unfold run
  rw [wp_ret]
  imod (close_recv (ch := ch) (K := K) (J := J) (c := c) 0 0) $$ [Ha] with Ha
  · isplitr; · iexact HR
    iexact Ha
  imod (close_recv (ch := ch) (K := K) (J := J) (c := c) 0 1) $$ [Hb] with Hb
  · isplitr; · iexact HR
    iexact Hb
  imod (close_recv (ch := ch) (K := K) (J := J) (c := c) 1 0) $$ [Ha'] with Ha'
  · isplitr; · iexact HR
    iexact Ha'
  imod (close_recv (ch := ch) (K := K) (J := J) (c := c) 1 1) $$ [Hb'] with Hb'
  · isplitr; · iexact HR
    iexact Hb'
  imod (close_send (ch := ch) (K := K) (J := J) (c := c) 0 0) $$ [Hpa] with Hpa
  · isplitr; · iexact HR
    iexact Hpa
  imod (close_send (ch := ch) (K := K) (J := J) (c := c) 0 1) $$ [Hpb] with Hpb
  · isplitr; · iexact HR
    iexact Hpb
  imod (close_send (ch := ch) (K := K) (J := J) (c := c) 1 0) $$ [Hpa'] with Hpa'
  · isplitr; · iexact HR
    iexact Hpa'
  imod (close_send (ch := ch) (K := K) (J := J) (c := c) 1 1) $$ [Hpb'] with Hpb'
  · isplitr; · iexact HR
    iexact Hpb'
  imod (close_cr (ch := ch) (K := K) (J := J) (c := c) 0) $$ [Hw] with Hw
  · isplitr; · iexact HR
    iexact Hw
  imod (close_cr (ch := ch) (K := K) (J := J) (c := c) 1) $$ [Hw'] with Hw'
  · isplitr; · iexact HR
    iexact Hw'
  imodintro
  iapply Hk
  unfold Fin_ zeros zeroCh
  isplitl [Ha Hb Ha' Hb' Hpa Hpb Hpa' Hpb' Hw Hw']
  · isplitr [Hw Hw']
    · isplitl [Ha Hb Hpa Hpb]
      · isplitl [Ha Hpa]
        · isplitl [Hpa]; · iexact Hpa
          iexact Ha
        · isplitl [Hpb]; · iexact Hpb
          iexact Hb
      · isplitl [Ha' Hpa']
        · isplitl [Hpa']; · iexact Hpa'
          iexact Ha'
        · isplitl [Hpb']; · iexact Hpb'
          iexact Hb'
    · isplitl [Hw]; · iexact Hw
      iexact Hw'
  isplitl [HO]; · iexact HO
  isplitl [Hkp Hx Hy]
  · iapply (kept0 (ch := ch)); iframe
  isplitl [Hkp']; · iapply kept1; iexact Hkp'
  isplitl [Hin]; · iexact Hin
  isplitl [Hm]; · iexact Hm
  isplitl [Hz]; · iexists _; iexact Hz
  iexact Ho

end Cert.Proof
-- ==== Proof.First.lean ====
/- A device's start: its slots freed for the first chunks, its own chunk stored. -/
module

public import proofs.«01_k».proof.Proof.Last

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {ch : Chunks F} {K : GSem nD τ sig → ℕ} {J : Key → ℕ} {c : Dev nD}

/-! ## What the device enters with -/

/-- A channel at the start. -/
def chan (c : Dev nD) (d hf : Fin 2) : sProp 𝕄 :=
  iprop(SD c d hf 0 ∗ (bigSep (Finset.Ico 1 (lim d + 1)) fun q => Release.readerAt ES (c, (d, hf), q) 0) ∗ RV c d hf 1 ∗ SP c d hf 0
    ∗ bigSep Finset.univ fun j => reached ER (recvCell c d hf j) 0)
/-- A direction at the start. -/
def dir (c : Dev nD) (d : Fin 2) : sProp 𝕄 :=
  iprop(CS c d 0 ∗ CW c d 0 ∗ reached ER (crCell c d) 0 ∗ dutyTok ER (barCell (nb d c)) 0 (1 - d).val ∗ chan c d 0 ∗ chan c d 1)
/-- Everything of the protocol. -/
def enter (ch : Chunks F) (c : Dev nD) : sProp 𝕄 :=
  iprop(∃ K J, recs ch K J ∗ levAts L lv ∗ (cred (tallyAt (barCell c) 0 2) ∗ atPos ER (barCell c) 0 ∅ 0) ∗ dir c 0 ∗ dir c 1)

/-- What the device owes at first. -/
def O₀ (c : Dev nD) : CellTallies nD τ sig ℕ := (O c 0 + tallyAt (barCell (nb 0 c)) 0 1) + tallyAt (barCell (nb 1 c)) 0 1

theorem reached_j (d hf : Fin 2) (j : Fin 4) : (bigSep Finset.univ fun j => (reached ER (recvCell c d hf j) 0 : sProp 𝕄)) ⊢ reached ER (recvCell c d hf j) 0 :=
  bigSep_elim (Φ := fun j => (reached ER (recvCell c d hf j) 0 : sProp 𝕄)) (Finset.mem_univ j)

/-! ## The slots freed for the first chunks -/

theorem free_first (d hf : Fin 2) (q : ℕ) (h1 : 1 ≤ q) (h3 : q ≤ 3) :
    iprop(recs ch K J ∗ Release.readerAt ES (c, (d, hf), q) 0 ∗ hAny c d hf (sl q) ∗ bigSep Finset.univ fun j => reached ER (recvCell c d hf j) 0)
      ⊢ (|={Set.univ}=> free c d hf q : sProp 𝕄) := by
  iintro ⟨#HR, Hrd, Hs, #Hr⟩
  ihave #Hslot := (recs_slot ch K J c d hf (by omega : q ≤ 16)) $$ HR
  ihave #Hrq := (reached_j d hf (sl q)) $$ Hr
  imod (Release.slot_release ES (Set.mem_univ _) (S := hAny c d hf (sl q)) (by unfold hAny; exact Release.slot_slot_false (hM_nonempty d hf (sl q))) 0) $$ [Hrd Hs] with ⟨-, #Hrel⟩
  · isplitr; · unfold hAny; iexact Hslot
    isplitl [Hrd]; · iexact Hrd
    iexact Hs
  imodintro
  unfold free
  isplitr; · iexact Hrel
  rw [show (q - 1) / 4 = 0 by omega]
  iexact Hrq

theorem free_two (d : Fin 2) (q : ℕ) (h1 : 1 ≤ q) (h3 : q ≤ 3) :
    iprop((recs ch K J ∗ (bigSep Finset.univ fun j => reached ER (recvCell c d 0 j) 0) ∗ bigSep Finset.univ fun j => reached ER (recvCell c d 1 j) 0)
        ∗ frees c d 1 q ∗ (hAny c d 0 (sl q) ∗ hAny c d 1 (sl q)) ∗ Release.readerAt ES (c, (d, 0), q) 0 ∗ Release.readerAt ES (c, (d, 1), q) 0)
      ⊢ (|={Set.univ}=> frees c d 1 (q + 1) : sProp 𝕄) := by
  iintro ⟨⟨#HR, #Hra, #Hrb⟩, #Hf, ⟨Ha, Hb⟩, Hx, Hy⟩
  imod (free_first (ch := ch) (K := K) (J := J) d 0 q h1 h3) $$ [Ha Hx] with #Hfa
  · isplitr; · iexact HR
    isplitl [Hx]; · iexact Hx
    isplitl [Ha]; · iexact Ha
    iexact Hra
  imod (free_first (ch := ch) (K := K) (J := J) d 1 q h1 h3) $$ [Hb Hy] with #Hfb
  · isplitr; · iexact HR
    isplitl [Hy]; · iexact Hy
    isplitl [Hb]; · iexact Hb
    iexact Hrb
  imodintro
  iapply (frees_snoc c d h1)
  isplitr; · iexact Hf
  isplitr; · iexact Hfa
  iexact Hfb

/-- What is left of a direction's channels once the first slots are free: the loop's state before trip 0, short of the device's own chunk. -/
def ready (c : Dev nD) (d : Fin 2) : sProp 𝕄 :=
  iprop((RV c d 0 1 ∗ RV c d 1 1 ∗ SP c d 0 0 ∗ SP c d 1 0 ∗ SD c d 0 0 ∗ SD c d 1 0 ∗ CW c d 0) ∗ (RA c d 0 0 ∗ RA c d 1 0 ∗ CS c d 0)
    ∗ (hAny c d 0 (sl 0) ∗ hAny c d 1 (sl 0)) ∗ reached ER (recvCell c d 0 (sl 0)) 0 ∗ reached ER (recvCell c d 1 (sl 0)) 0)

theorem open_dir (d : Fin 2) :
    iprop(recs ch K J ∗ comm c d ∗ dir c d)
      ⊢ (|={Set.univ}=> (ready c d ∗ frees c d 1 4 ∗ reached ER (crCell c d) 0 ∗ dutyTok ER (barCell (nb d c)) 0 (1 - d).val) : sProp 𝕄) := by
  have hl : 4 < lim d + 1 := by revert d; decide
  have h0 : (frees c d 1 1 : sProp 𝕄) = iprop(emp) := ico_end (Nat.le_refl 1) _
  have hs : (slots c d (Finset.Ico 0 4) : sProp 𝕄) = iprop((hAny c d 0 (sl 0) ∗ hAny c d 1 (sl 0)) ∗ (hAny c d 0 (sl 1) ∗ hAny c d 1 (sl 1)) ∗ (hAny c d 0 (sl 2) ∗ hAny c d 1 (sl 2))
      ∗ (hAny c d 0 (sl 3) ∗ hAny c d 1 (sl 3)) ∗ emp) := by
    unfold slots
    rw [ico_step (by omega), ico_step (by omega), ico_step (by omega), ico_step (by omega), ico_end (Nat.le_refl 4)]
  have hr (hf : Fin 2) : (bigSep (Finset.Ico 1 (lim d + 1)) fun q => (Release.readerAt ES (c, (d, hf), q) 0 : sProp 𝕄))
      = iprop(Release.readerAt ES (c, (d, hf), 1) 0 ∗ Release.readerAt ES (c, (d, hf), 2) 0 ∗ Release.readerAt ES (c, (d, hf), 3) 0 ∗ RA c d hf 0) := by
    unfold RA
    rw [ico_step (by omega), ico_step (by omega), ico_step (by omega)]
  have hE : (BI.emp : sProp 𝕄) ⊢ frees c d 1 1 := Entails.of_eq h0.symm
  unfold dir chan
  rw [hr, hr]
  iintro ⟨#HR, Hc, HCS, HCW, #Hcr, Ht, ⟨Hd, ⟨Ha1, Ha2, Ha3, Ha⟩, Hv, Hp, #Hra⟩, Hd', ⟨Hb1, Hb2, Hb3, Hb⟩, Hv', Hp', #Hrb⟩
  ihave Hc := (comm_split c d) $$ Hc
  ihave Hc := (Entails.of_eq hs) $$ Hc
  icases Hc with ⟨H0, H1, H2, H3, -⟩
  imod (free_two (ch := ch) (K := K) (J := J) d 1 (by omega) (by omega)) $$ [H1 Ha1 Hb1] with #Hf1
  · isplitr
    · isplitr; · iexact HR
      isplitr; · iexact Hra
      iexact Hrb
    isplitr; · iapply hE; iempintro
    isplitl [H1]; · iexact H1
    isplitl [Ha1]; · iexact Ha1
    iexact Hb1
  imod (free_two (ch := ch) (K := K) (J := J) d 2 (by omega) (by omega)) $$ [H2 Ha2 Hb2] with #Hf2
  · isplitr
    · isplitr; · iexact HR
      isplitr; · iexact Hra
      iexact Hrb
    isplitr; · iexact Hf1
    isplitl [H2]; · iexact H2
    isplitl [Ha2]; · iexact Ha2
    iexact Hb2
  imod (free_two (ch := ch) (K := K) (J := J) d 3 (by omega) (by omega)) $$ [H3 Ha3 Hb3] with #Hf3
  · isplitr
    · isplitr; · iexact HR
      isplitr; · iexact Hra
      iexact Hrb
    isplitr; · iexact Hf2
    isplitl [H3]; · iexact H3
    isplitl [Ha3]; · iexact Ha3
    iexact Hb3
  ihave #Hqa := (reached_j d 0 (sl 0)) $$ Hra
  ihave #Hqb := (reached_j d 1 (sl 0)) $$ Hrb
  imodintro
  unfold ready
  isplitr [Ht]
  · isplitl [Hv Hv' Hp Hp' Hd Hd' HCW]; · iframe
    isplitl [Ha Hb HCS]; · iframe
    isplitl [H0]; · iexact H0
    isplitr; · iexact Hqa
    iexact Hqb
  isplitr; · iexact Hf3
  isplitr; · iexact Hcr
  iexact Ht

/-! ## To the loop -/

/-- With the device's own chunk in its slot, the loop's state before trip 0. -/
theorem to_loop (d : Fin 2) :
    iprop(((RV c d 0 1 ∗ RV c d 1 1 ∗ SP c d 0 0 ∗ SP c d 1 0 ∗ SD c d 0 0 ∗ SD c d 1 0 ∗ CW c d 0) ∗ (RA c d 0 0 ∗ RA c d 1 0 ∗ CS c d 0)
        ∗ reached ER (recvCell c d 0 (sl 0)) 0 ∗ reached ER (recvCell c d 1 (sl 0)) 0) ∗ hAt ch c d 0 0 fullShare ∗ hAt ch c d 1 0 fullShare)
      ⊢ (iprop(ST ch c d 0 ∗ RS c d 0) : sProp 𝕄) := by
  have hk : (KP c d 0 : sProp 𝕄) = iprop(emp) := ico_end (Nat.zero_le _) _
  have hf' : (FR c d 0 : sProp 𝕄) = iprop(emp) := by unfold FR; rw [Nat.zero_min]; exact ico_end (Nat.le_refl 4) _
  have hp (hf) : (SPs c d hf 0 : sProp 𝕄) = SP c d hf 0 := by unfold SPs; rw [Nat.zero_min]
  have hw : (CWs c d 0 : sProp 𝕄) = CW c d 0 := by unfold CWs; rw [Nat.zero_sub, Nat.zero_min]
  have hv (hf) : (RVs ch c d hf 0 : sProp 𝕄) = iprop(RV c d hf 1 ∗ hAt ch c d hf 0 fullShare ∗ reached ER (recvCell c d hf (sl 0)) 0) := if_neg (by omega)
  unfold ST RS
  rw [hk, hf', hp, hp, hw, hv, hv]
  iintro ⟨⟨⟨Hv, Hv', Hp, Hp', Hd, Hd', Hw⟩, ⟨Ha, Hb, Hc⟩, #Hr, #Hr'⟩, Hx, Hy⟩
  isplitr [Ha Hb Hc]
  · isplitl [Hv Hx]
    · isplitl [Hv]; · iexact Hv
      isplitl [Hx]; · iexact Hx
      iexact Hr
    isplitl [Hv' Hy]
    · isplitl [Hv']; · iexact Hv'
      isplitl [Hy]; · iexact Hy
      iexact Hr'
    iframe
  · isplitl [Ha]; · iexact Ha
    isplitl [Hb]; · iexact Hb
    isplitl [Hc]; · iexact Hc
    isplitr; · iempintro
    iempintro

/-! ## The chunks the devices start with -/

/-- Half hf of a chunk. -/
def halfC (C : Vec F S512x512 .bf16) (hf : Fin 2) : Vec F S256x512 .bf16 := fun i => C (fun a => ⟨(![256 * hf.val, 0] : Fin 2 → ℕ) a + (i a).val, by
  have := hf.isLt; have h := (i a).isLt; revert h; fin_cases a
  · intro h; have h' : (i 0).val < 256 := h; show 256 * hf.val + (i 0).val < 512; omega
  · intro h; have h' : (i 1).val < 512 := h; show 0 + (i 1).val < 512; omega⟩)

theorem half_chunk (C : Vec F S512x512 .bf16) (hf : Fin 2) : half hf (shapeCast S1x512x512 C shapeCasts_S512x512_S1x512x512) = halfC C hf := by
  funext i
  unfold half halfC
  refine (shapeCast_addUnit_apply _ _ _ _).trans (congrArg C (funext fun a => Fin.ext ?_))
  fin_cases a
  · rfl
  · show (i 1).val = 0 + (i 1).val; omega

/-! ## The whole kernel on a device -/

theorem run_upd {α : Type} {p : P (F := F) α} {Q : α → sProp 𝕄} : (|={Set.univ}=> run c p Q) ⊢ run c p Q := by
  iintro H; unfold run; imod H; iexact H

theorem run_startP {C : Vec F S512x512 .bf16} (hC : ∀ hf, halfC C hf = ch hf c) {x : Vec F S256x512 .bf16} {Kt Vt : Vec F S256x128x64 .bf16} {W : Waits sig ℕ}
    {α : Type} {Q : α → sProp 𝕄} {k : (v0 : Elt F .i32) → k0_chk2 v0 → (v1 : Elt F .i32) → k0_chk1 v1 → P (F := F) α} :
    iprop((recs ch K J ∗ levAts L lv) ∗ (cred (tallyAt (barCell c) 0 2) ∗ atPos ER (barCell c) 0 ∅ 0) ∗ (dir c 0 ∗ dir c 1) ∗ (comm c 0 ∗ comm c 1)
        ∗ owes (c : Thread nD τ) (O₀ c) W ∗ INs c x Kt Vt ∗ at_ c cc0_stg4_0 fullShare (metaT c) ∗ (∃ z, at_ c cc0_scratch4 fullShare z)
        ∗ at_ c cc0_stg1_0 fullShare C ∗ (∃ r, at_ c cc0_stg5_0 fullShare r))
      ⊢ iprop((at_ c cc0_stg1_0 fullShare C ∗ semVal (barCell c) 0 ∗ Inv ch K J c x Kt Vt 0 (acc ch x Kt Vt c 0)
            -∗ run c (k (Dev.word (nb 0 c)) (chk2_word _) (Dev.word (nb 1 c)) (chk1_word _)) Q)
        -∗ run c (startP k) Q) := by
  have m0 : metaW c 0 = Dev.word (nb 0 c) := rfl
  have m1 : metaW c 1 = Dev.word (nb 1 c) := rfl
  have hp (C : Vec F S512x512 .bf16) : Gen.k0_pay51 C = shapeCast S1x512x512 C shapeCasts_S512x512_S1x512x512 :=
    congrArg (fun v => shapeCast S1x512x512 v shapeCasts_S512x512_S1x512x512) (shapeCast_self C _)
  have hp' (C : Vec F S512x512 .bf16) : Gen.k0_pay52 C = shapeCast S1x512x512 C shapeCasts_S512x512_S1x512x512 := hp C
  have hown (hf) : half hf (Gen.k0_pay51 C) = ch hf c := by rw [hp, half_chunk, hC]
  have hown' (hf) : half hf (Gen.k0_pay52 C) = ch hf c := by rw [hp', half_chunk, hC]
  have f0 : crCell (nb 1 c) 0 = crCell (pv 0 c) 0 := by rw [pv_eq 0 c]; rfl
  have f1 : crCell (nb 0 c) 1 = crCell (pv 1 c) 1 := by rw [pv_eq 1 c]; rfl
  unfold startP
  iintro ⟨⟨#HR, #Hlev⟩, ⟨Hcb, Hatb⟩, ⟨Hd0, Hd1⟩, ⟨Hc0, Hc1⟩, HO, Hin, Hm, Hz, HC, ⟨%r, Ho⟩⟩ Hk
  iapply (run_table c (i := 0) inb_S35_S1_0 rfl) $$ Hm
  iintro Hm
  rw [m0]
  iapply (run_assume c (chk2_word _))
  iapply (run_table c (i := 1) inb_S35_S1_1 rfl) $$ Hm
  iintro Hm
  rw [m1]
  iapply (run_assume c (chk1_word _))
  iapply run_upd
  imod (open_dir (ch := ch) (K := K) (J := J) (c := c) 0) $$ [Hc0 Hd0] with ⟨H0, #Hf0, #Hr0, Ht0⟩
  · isplitr; · iexact HR
    isplitl [Hc0]; · iexact Hc0
    iexact Hd0
  imod (open_dir (ch := ch) (K := K) (J := J) (c := c) 1) $$ [Hc1 Hd1] with ⟨H1, #Hf1, #Hr1, Ht1⟩
  · isplitr; · iexact HR
    isplitl [Hc1]; · iexact Hc1
    iexact Hd1
  imodintro
  rw [run_bind]
  iapply (wp_hello ch K J c 1 (Q := fun a => run c _ Q) (O c 0 + tallyAt (barCell (nb 0 c)) 0 1) rfl W (dev_word (nb 1 c) _)) $$ [HO Ht1]
  · isplitr; · iexact HR
    isplitl [HO]; · iexact HO
    isplitl [Ht1]; · iexact Ht1
    isplitr; · iexact Hf0
    iexact Hr1
  iintro HO
  rw [run_bind]
  iapply (wp_hello ch K J c 0 (Q := fun a => run c _ Q) (O c 0) rfl W (dev_word (nb 0 c) _)) $$ [HO Ht0]
  · isplitr; · iexact HR
    isplitl [HO]; · iexact HO
    isplitl [Ht0]; · iexact Ht0
    isplitr; · iexact Hf1
    iexact Hr0
  iintro HO
  rw [run_bind]
  iapply (wp_met ch K J c (Q := fun a => run c _ Q)) $$ [HO Hcb Hatb]
  · isplitr; · iexact HR
    isplitr; · iexact Hlev
    isplitl [HO]; · iexact HO
    isplitl [Hcb]; · iexact Hcb
    iexact Hatb
  unfold barPay
  iintro ⟨HO, Hatb, ⟨#Hn0, #Hq0⟩, ⟨#Hn1, #Hq1⟩⟩
  iapply run_upd
  imod (close_bar (ch := ch) (K := K) (J := J) (c := c)) $$ [Hatb] with Hb
  · isplitr; · iexact HR
    iexact Hatb
  imodintro
  iapply (wp_ld c (cs := .vmem) (i := 4) (hκ := rfl) (off := ![0, 0]) (size := S256x512.size) inb_S256x512_S256x512_0_0) $$ Ho
  iintro Ho
  iapply (wp_st c (cs := .vmem) (i := 4) (hκ := rfl) (off := ![0, 0]) (size := S256x512.size) inb_S256x512_S256x512_0_0) $$ Ho
  iintro Ho
  rw [put_all]
  iapply (wp_ld c (cs := .vmem) (i := 1) (hκ := rfl) (off := ![0, 0]) (size := S512x512.size) inb_S512x512_S512x512_0_0) $$ HC
  iintro HC
  rw [window_all]
  unfold ready
  icases H0 with ⟨Hst0, Hrs0, Hs0, Hra0, Hrb0⟩
  icases H1 with ⟨Hst1, Hrs1, Hs1, Hra1, Hrb1⟩
  iapply (run_own (d := 0) hown) $$ Hs0
  iintro Hs0
  iapply (wp_ld c (cs := .vmem) (i := 1) (hκ := rfl) (off := ![0, 0]) (size := S512x512.size) inb_S512x512_S512x512_0_0) $$ HC
  iintro HC
  rw [window_all]
  iapply (run_own (d := 1) hown') $$ Hs1
  iintro Hs1
  iapply Hk
  isplitl [HC]; · iexact HC
  isplitl [Hb]; · iexact Hb
  unfold Inv Ctx
  isplitr
  · isplitr; · iexact HR
    isplitr; · iexact Hlev
    isplitr
    · isplitr; · iexact Hn0
      iexact Hn1
    rw [← f0, ← f1]
    isplitr; · iexact Hq1
    iexact Hq0
  isplitl [HO]; · iexact HO
  isplitl [Hst0 Hrs0 Hs0 Hra0 Hrb0]
  · iapply (to_loop 0)
    isplitr [Hs0]
    · isplitl [Hst0]; · iexact Hst0
      isplitl [Hrs0]; · iexact Hrs0
      isplitl [Hra0]; · iexact Hra0
      iexact Hrb0
    iexact Hs0
  isplitl [Hst1 Hrs1 Hs1 Hra1 Hrb1]
  · iapply (to_loop 1)
    isplitr [Hs1]
    · isplitl [Hst1]; · iexact Hst1
      isplitl [Hrs1]; · iexact Hrs1
      isplitl [Hra1]; · iexact Hra1
      iexact Hrb1
    iexact Hs1
  isplitl [Hin]; · iexact Hin
  isplitl [Hm]; · iexact Hm
  isplitl [Hz]; · iexact Hz
  iexact Ho

/-- The value the kernel leaves on device c. -/
def fin (ch : Chunks F) (x : Vec F S256x512 .bf16) (Kt Vt : Vec F S256x128x64 .bf16) (c : Dev nD) : Vec F S256x512 .f32 :=
  part ch x Kt Vt (org 0 c 16) (acc ch x Kt Vt c 16)

theorem run_body {C : Vec F S512x512 .bf16} (hC : ∀ hf, halfC C hf = ch hf c) {x : Vec F S256x512 .bf16} {Kt Vt : Vec F S256x128x64 .bf16} {W : Waits sig ℕ}
    {Q : PUnit → sProp 𝕄} :
    iprop(enter ch c ∗ (comm c 0 ∗ comm c 1) ∗ owes (c : Thread nD τ) (O₀ c) W ∗ INs c x Kt Vt ∗ at_ c cc0_stg4_0 fullShare (metaT c) ∗ (∃ z, at_ c cc0_scratch4 fullShare z)
        ∗ at_ c cc0_stg1_0 fullShare C ∗ (∃ r, at_ c cc0_stg5_0 fullShare r))
      ⊢ iprop((at_ c cc0_stg1_0 fullShare C ∗ semVal (barCell c) 0 ∗ Fin_ c x Kt Vt (fin ch x Kt Vt c) -∗ Q ⟨⟩)
        -∗ run c (cc0__body (F := F) mX (Memref.isWhole_whole _) mC (Memref.isWhole_whole _) mK (Memref.isWhole_whole _) mV (Memref.isWhole_whole _) mT (Memref.isWhole_whole _) mO (Memref.isWhole_whole _) (cM 0) (Memref.isWhole_whole _) (cM 1) (Memref.isWhole_whole _) mS (Memref.isWhole_whole _) mW (Memref.isWhole_whole _) mZ (Memref.isWhole_whole _) cc0_scratch5 cc0_scratch6 cc0_scratch7 cc0_scratch8 cc0_scratch9 cc0_scratch10 cc0_scratch11 cc0_scratch12 cc0_scratch13 cc0_scratch14) Q) := by
  rw [body_eq]
  unfold enter
  iintro ⟨⟨%K, %J, #HR, #Hlev, Hb, Hd0, Hd1⟩, Hc, HO, Hin, Hm, Hz, HC, Ho⟩ Hk
  iapply (run_startP (ch := ch) (K := K) (J := J) hC) $$ [Hb Hd0 Hd1 Hc HO Hin Hm Hz HC Ho]
  · isplitr
    · isplitr; · iexact HR
      iexact Hlev
    isplitl [Hb]; · iexact Hb
    isplitl [Hd0 Hd1]; · iframe
    isplitl [Hc]; · iexact Hc
    iframe
  iintro ⟨HC, Hb, HI⟩
  iapply (run_loop (ch := ch) (c := c) rfl rfl) $$ HI
  iintro HI
  iapply (run_endP (ch := ch) (c := c)) $$ HI
  iintro HF
  iapply Hk
  isplitl [HC]; · iexact HC
  isplitl [Hb]; · iexact Hb
  iexact HF

end Cert.Proof
-- ==== Proof.Enter.lean ====
/- The kernel's own semaphore cells, opened at its entry. -/
module

public import proofs.«01_k».proof.Proof.First

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {ch : Chunks F} {K : GSem nD τ sig → ℕ} {J : Key → ℕ} {c : Dev nD}

/-! ## The kernel's own semaphores, sorted by channel -/

def ofCh (x : (Fin 2 × Fin 2 × Fin 2 × Fin 4) ⊕ Fin 2) : Fin 34 :=
  match x with
  | .inl (d, hf, k, j) => ⟨16 * d.val + 8 * hf.val + 4 * k.val + j.val, by omega⟩
  | .inr d => ⟨32 + d.val, by omega⟩
theorem ofCh_bijective : Function.Bijective ofCh := by decide
def chE : (Fin 2 × Fin 2 × Fin 2 × Fin 4) ⊕ Fin 2 ≃ Fin 34 := Equiv.ofBijective ofCh ofCh_bijective
theorem osem_ch (d hf k : Fin 2) (j : Fin 4) : osem (ofCh (.inl (d, hf, k, j))) = .dma (chSem d hf k j) := by revert d hf k j; decide
theorem osem_cr (d : Fin 2) : osem (ofCh (.inr d)) = .reg (crS d) := by revert d; decide

def chS (Φ : SemLoc sig → sProp 𝕄) (d hf : Fin 2) : sProp 𝕄 :=
  iprop((bigSep Finset.univ fun j => Φ (.dma (chSem d hf 0 j))) ∗ bigSep Finset.univ fun j => Φ (.dma (chSem d hf 1 j)))
def perCh (Φ : SemLoc sig → sProp 𝕄) : sProp 𝕄 :=
  iprop(((chS Φ 0 0 ∗ chS Φ 0 1) ∗ (chS Φ 1 0 ∗ chS Φ 1 1)) ∗ Φ (.reg (crS 0)) ∗ Φ (.reg (crS 1)))

theorem bySem (Φ : SemLoc sig → sProp 𝕄) : (bigSep Finset.univ fun i : Fin 34 => Φ (osem i)) = perCh Φ := by
  have e1 (d hf k : Fin 2) (j : Fin 4) : Φ (osem (chE (.inl (d, hf, k, j)))) = Φ (.dma (chSem d hf k j)) := congrArg Φ (osem_ch d hf k j)
  have e2 (d : Fin 2) : Φ (osem (chE (.inr d))) = Φ (.reg (crS d)) := congrArg Φ (osem_cr d)
  rw [bigSep_univ_equiv chE, bigSep_univ_sum, bigSep_univ_prod]
  simp only [bigSep_univ_prod, e1, e2, BI.bigSep_fin_two]
  rfl

theorem ownSems_zeros (c : Dev nD) : (Pipeline.ownSems0 osem c : sProp 𝕄) = zeros c := bySem fun s => (semVal ((c : Thread nD τ), s) 0 : sProp 𝕄)

/-! ## What comes from the launch -/

/-- A channel, its cells not yet open. -/
def chan0 (c : Dev nD) (d hf : Fin 2) : sProp 𝕄 :=
  iprop(SD c d hf 0 ∗ (bigSep (Finset.Ico 1 (lim d + 1)) fun q => Release.readerAt ES (c, (d, hf), q) 0)
    ∗ bigSep (Finset.Ico 1 (lim d + 1)) fun x => cred (tallyAt (recvCell c d hf (sl x)) x Ncr))
/-- A direction, its cells not yet open. -/
def dir0 (c : Dev nD) (d : Fin 2) : sProp 𝕄 :=
  iprop(CS c d 0 ∗ (bigSep (Finset.Ico 0 (nCr d)) fun x => cred (tallyAt (crCell c d) x 1)) ∗ dutyTok ER (barCell (nb d c)) 0 (1 - d).val ∗ chan0 c d 0 ∗ chan0 c d 1)
/-- What a device carries to the kernel. -/
def carry (ch : Chunks F) (c : Dev nD) : sProp 𝕄 :=
  iprop(∃ K J, recs ch K J ∗ (cred (tallyAt (barCell c) 0 2) ∗ atPos ER (barCell c) 0 ∅ 0) ∗ (bigSep Finset.univ fun i : Fin 34 => openTok ER ((c : Thread nD τ), osem i)) ∗ dir0 c 0 ∗ dir0 c 1)

theorem bigSep_two {I : Type} {s : Finset I} (Φ Ψ : I → sProp 𝕄) : iprop(bigSep s Φ ∗ bigSep s Ψ) ⊢ (bigSep s fun i => iprop(Φ i ∗ Ψ i) : sProp 𝕄) :=
  Entails.of_eq (bigSep_sep' _ _ _).symm

theorem open_cell (i : Fin 34) : iprop(recs ch K J ∗ openTok ER ((c : Thread nD τ), osem i) ∗ semVal ((c : Thread nD τ), osem i) 0)
    ⊢ (|={Set.univ}=> (atPos ER ((c : Thread nD τ), osem i) 0 ∅ 0 ∗ reached ER ((c : Thread nD τ), osem i) 0) : sProp 𝕄) := by
  iintro ⟨#HR, Ho, Hs⟩
  iapply (Rounds.cell_open ER (Rd ch) (g := ((c : Thread nD τ), osem i)) (Set.mem_univ (K ((c : Thread nD τ), osem i))))
  isplitr
  · iapply (recs_cell ch K J (g := ((c : Thread nD τ), osem i)) (Finset.mem_union_right _ (Finset.mem_map.mpr ⟨(c, i), Finset.mem_univ _, rfl⟩)))
    iexact HR
  iframe

theorem open_all : iprop(recs ch K J ∗ (bigSep Finset.univ fun i : Fin 34 => openTok ER ((c : Thread nD τ), osem i)) ∗ Pipeline.ownSems0 osem c)
    ⊢ (|={Set.univ}=> (perCh (fun s => atPos ER ((c : Thread nD τ), s) 0 ∅ 0) ∗ perCh (fun s => reached ER ((c : Thread nD τ), s) 0)) : sProp 𝕄) := by
  rw [← bySem, ← bySem, ← bigSep_sep']
  unfold Pipeline.ownSems0
  iintro ⟨#HR, Ho, Hs⟩
  iapply bigSep_fupd
  iapply (bigSep_with_persistent (R := recs ch K J) (Φ := fun i : Fin 34 => iprop(openTok ER ((c : Thread nD τ), osem i) ∗ semVal ((c : Thread nD τ), osem i) 0)) fun i _ => open_cell i)
  isplitr; · iexact HR
  iapply (bigSep_two _ _)
  isplitl [Ho]; · iexact Ho
  iexact Hs

theorem rcnt_one (j : Fin 4) : rcnt j 1 = 0 := by revert j; decide
theorem scnt_zero (j : Fin 4) : scnt j 0 = 0 := by revert j; decide

theorem chan_open (d hf : Fin 2) :
    iprop(chan0 c d hf ∗ chS (fun s => atPos ER ((c : Thread nD τ), s) 0 ∅ 0) d hf ∗ chS (fun s => reached ER ((c : Thread nD τ), s) 0) d hf) ⊢ (chan c d hf : sProp 𝕄) := by
  unfold chan0 chan chS RV SP
  simp only [rcnt_one, scnt_zero]
  iintro ⟨⟨HD, Hr, Hc⟩, ⟨Has, Har⟩, ⟨Hrs, Hrr⟩⟩
  isplitl [HD]; · iexact HD
  isplitl [Hr]; · iexact Hr
  isplitl [Har Hc]
  · isplitl [Har]; · iexact Har
    iexact Hc
  isplitl [Has Hrs]
  · iapply (bigSep_two _ _)
    isplitl [Has]; · iexact Has
    iexact Hrs
  iexact Hrr

theorem cw_open (d : Fin 2) : iprop(atPos ER (crCell c d) 0 ∅ 0 ∗ bigSep (Finset.Ico 0 (nCr d)) fun x => cred (tallyAt (crCell c d) x 1)) ⊢ (CW c d 0 : sProp 𝕄) := by
  have h : 0 < nCr d := by revert d; decide
  unfold CW
  rw [if_pos h]
  iintro ⟨Ha, Hc⟩
  isplitl [Ha]
  · iexists ∅
    isplitr; · ipureintro; exact ⟨Finset.empty_subset _, by rw [Finset.sdiff_empty, Finset.card_range]; omega⟩
    isplitl [Ha]; · iexact Ha
    rw [bigSep_empty]; iempintro
  iexact Hc

theorem dir_open (d : Fin 2) :
    iprop(dir0 c d ∗ (chS (fun s => atPos ER ((c : Thread nD τ), s) 0 ∅ 0) d 0 ∗ chS (fun s => atPos ER ((c : Thread nD τ), s) 0 ∅ 0) d 1)
        ∗ (chS (fun s => reached ER ((c : Thread nD τ), s) 0) d 0 ∗ chS (fun s => reached ER ((c : Thread nD τ), s) 0) d 1)
        ∗ atPos ER (crCell c d) 0 ∅ 0 ∗ reached ER (crCell c d) 0) ⊢ (dir c d : sProp 𝕄) := by
  unfold dir0 dir
  iintro ⟨⟨HCS, Hcr, Ht, Hc0, Hc1⟩, ⟨Ha0, Ha1⟩, ⟨Hr0, Hr1⟩, Ha, Hr⟩
  isplitl [HCS]; · iexact HCS
  isplitl [Ha Hcr]
  · iapply (cw_open d); isplitl [Ha]; · iexact Ha
    iexact Hcr
  isplitl [Hr]; · iexact Hr
  isplitl [Ht]; · iexact Ht
  isplitl [Hc0 Ha0 Hr0]
  · iapply (chan_open d 0); iframe
  iapply (chan_open d 1); iframe

/-- The kernel's own cells opened at its entry. -/
theorem enter_open (c : Dev nD) : iprop(carry ch c ∗ Pipeline.ownSems0 osem c ∗ levAts L lv) ⊢ (|={Set.univ}=> enter ch c : sProp 𝕄) := by
  unfold carry enter
  iintro ⟨⟨%K, %J, #HR, Hb, Ho, Hd0, Hd1⟩, Hs, #Hlev⟩
  imod (open_all (ch := ch) (K := K) (J := J) (c := c)) $$ [Ho Hs] with ⟨Ha, Hr⟩
  · isplitr; · iexact HR
    isplitl [Ho]; · iexact Ho
    iexact Hs
  unfold perCh
  icases Ha with ⟨⟨Ha0, Ha1⟩, Hac0, Hac1⟩
  icases Hr with ⟨⟨Hr0, Hr1⟩, Hrc0, Hrc1⟩
  imodintro
  iexists K; iexists J
  isplitr; · iexact HR
  isplitr; · iexact Hlev
  isplitl [Hb]; · iexact Hb
  isplitl [Hd0 Ha0 Hr0 Hac0 Hrc0]
  · iapply (dir_open 0); iframe
  iapply (dir_open 1); iframe

end Cert.Proof
-- ==== Proof.Deal.lean ====
/- The launch's tokens, each dealt to the device that spends it. -/
module

public import proofs.«01_k».proof.Proof.Enter

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {c : Dev nD}

/-! ## Families over the devices and the directions -/

/-- One resource per device and direction. -/
def bb (X : Dev nD → Fin 2 → sProp 𝕄) : sProp 𝕄 := bigSep Finset.univ fun c => bigSep Finset.univ fun d => X c d

theorem bb_sep (X Y : Dev nD → Fin 2 → sProp 𝕄) : bb (fun c d => iprop(X c d ∗ Y c d)) = iprop(bb X ∗ bb Y) := by
  unfold bb; rw [← bigSep_sep']; exact bigSep_congr fun c _ => bigSep_sep' _ _ _
theorem bb_mono {X Y : Dev nD → Fin 2 → sProp 𝕄} (h : ∀ c d, X c d ⊢ Y c d) : bb X ⊢ bb Y := bigSep_mono fun c _ => bigSep_mono fun d _ => h c d
/-- Handed along the ring: each device is given its neighbour's. -/
theorem bb_nb (X : Dev nD → Fin 2 → sProp 𝕄) : bb X = bb fun c d => X (nb d c) d := by
  unfold bb
  rw [bigSep_univ_comm, bigSep_univ_comm (fun c d => X (nb d c) d)]
  exact bigSep_congr fun d _ => bigSep_univ_equiv (step d) _
theorem bb_pv (X : Dev nD → Fin 2 → sProp 𝕄) : bb X = bb fun c d => X (pv d c) d := by
  unfold bb
  rw [bigSep_univ_comm, bigSep_univ_comm (fun c d => X (pv d c) d)]
  exact bigSep_congr fun d _ => bigSep_univ_equiv (step d).symm _

/-! ## The tokens -/

/-- Which payments: of a direction, the copies' landings, the credit units, the barrier's. -/
abbrev Tok : Type := Fin 2 × ((Fin 2 × Fin 2 × Fin 16) ⊕ Fin 13 ⊕ Unit)
def tokAt : Tok → SemLoc sig × ℕ × ℕ
  | (d, .inl (hf, k, t)) => (.dma (chSem d hf k (sl (t.val + k.val))), t.val / 4, 0)
  | (d, .inr (.inl u)) => (.reg (crS d), 0, u.val)
  | (d, .inr (.inr _)) => (.reg barS, 0, (1 - d).val)

theorem chSem_inj {d hf k d' hf' k' : Fin 2} {j j' : Fin 4} (h : (SemLoc.dma (chSem d hf k j) : SemLoc sig) = .dma (chSem d' hf' k' j')) :
    d = d' ∧ hf = hf' ∧ k = k' ∧ j = j' := by
  have h1 := congrArg chOf (SemLoc.dma.inj h)
  rw [chOf_chSem, chOf_chSem] at h1
  injection h1 with h1
  injection h1 with h1 h2
  injection h2 with h2 h3
  injection h3 with h3 h4
  exact ⟨h1, h2, h3, h4⟩

theorem crS_inj {d d' : Fin 2} (h : (SemLoc.reg (crS d) : SemLoc sig) = .reg (crS d')) : d = d' := by revert d d'; decide
theorem flip_inj {d d' : Fin 2} (h : (1 - d).val = (1 - d').val) : d = d' := by revert d d'; decide

theorem tokAt_inj : Function.Injective tokAt := by
  rintro ⟨d, ⟨hf, k, t⟩ | u | u⟩ ⟨d', ⟨hf', k', t'⟩ | u' | u'⟩ h
  · have h1 := congrArg Prod.fst h
    have h2 := congrArg (fun x => x.2.1) h
    obtain ⟨rfl, rfl, rfl, h3⟩ := chSem_inj h1
    have h4 : (t.val + k.val) % 4 = (t'.val + k.val) % 4 := congrArg Fin.val h3
    have h5 : t.val / 4 = t'.val / 4 := h2
    have h6 : t = t' := Fin.ext (by omega)
    rw [h6]
  · exact absurd (congrArg Prod.fst h) (by simp [tokAt])
  · exact absurd (congrArg Prod.fst h) (by simp [tokAt])
  · exact absurd (congrArg Prod.fst h) (by simp [tokAt])
  · have h1 := crS_inj (congrArg Prod.fst h)
    have h2 : u.val = u'.val := congrArg (fun x => x.2.2) h
    rw [h1, Fin.ext h2]
  · exact absurd (SemLoc.reg.inj (congrArg Prod.fst h)) (crS_ne_barS d)
  · exact absurd (congrArg Prod.fst h) (by simp [tokAt])
  · exact absurd (SemLoc.reg.inj (congrArg Prod.fst h)).symm (crS_ne_barS d')
  · have h2 := flip_inj (congrArg (fun x : SemLoc sig × ℕ × ℕ => x.2.2) h)
    rw [h2]

def tokEmb : Dev nD × Tok ↪ GSem nD τ sig × ℕ × ℕ := ⟨fun x => (((x.1 : Thread nD τ), (tokAt x.2).1), (tokAt x.2).2), fun a b h =>
  Prod.ext (congrArg (fun g : GSem nD τ sig × ℕ × ℕ => g.1.1.1) h)
    (tokAt_inj (Prod.ext (congrArg (fun g : GSem nD τ sig × ℕ × ℕ => g.1.2) h) (congrArg (fun g : GSem nD τ sig × ℕ × ℕ => g.2) h)))⟩
def toks : Finset (GSem nD τ sig × ℕ × ℕ) := Finset.univ.map tokEmb

def sendT (c : Dev nD) (d hf : Fin 2) (t : ℕ) : sProp 𝕄 := dutyTok ER (sendCell c d hf (sl t)) (t / 4) 0
def recvT (c : Dev nD) (d hf : Fin 2) (t : ℕ) : sProp 𝕄 := dutyTok ER (recvCell c d hf (sl (t + 1))) (t / 4) 0
def crT (c : Dev nD) (d : Fin 2) (u : ℕ) : sProp 𝕄 := dutyTok ER (crCell c d) 0 u
def barT (c : Dev nD) (d : Fin 2) : sProp 𝕄 := dutyTok ER (barCell c) 0 (1 - d).val
/-- The first n of a family. -/
def fst_ (n : ℕ) (Φ : ℕ → sProp 𝕄) : sProp 𝕄 := bigSep Finset.univ fun t : Fin n => Φ t.val

theorem fst_ico {n m : ℕ} (h : m ≤ n) (Φ : ℕ → sProp 𝕄) : fst_ n Φ ⊢ bigSep (Finset.Ico 0 m) Φ := by
  have e : fst_ n Φ = bigSep (Finset.range n) Φ := by
    unfold fst_
    rw [show Finset.range n = Finset.univ.map (Fin.valEmbedding (n := n)) by ext x; simp [Fin.exists_iff], bigSep_map]
    rfl
  rw [e]
  exact bigSep_subset (fun x hx => by simp only [Finset.mem_Ico, Finset.mem_range] at *; omega)

theorem toks_eq : bigSep toks (fun x => (dutyTok ER x.1 x.2.1 x.2.2 : sProp 𝕄))
    = iprop((bb fun c d => iprop(fst_ 16 (sendT c d 0) ∗ fst_ 16 (sendT c d 1))) ∗ (bb fun c d => iprop(fst_ 16 (recvT c d 0) ∗ fst_ 16 (recvT c d 1)))
      ∗ (bb fun c d => fst_ 13 (crT c d)) ∗ bb barT) := by
  rw [← bb_sep, ← bb_sep, ← bb_sep]
  unfold toks bb
  rw [bigSep_map, bigSep_univ_prod]
  refine bigSep_congr fun c _ => ?_
  rw [bigSep_univ_prod]
  refine bigSep_congr fun d _ => ?_
  rw [bigSep_univ_sum, bigSep_univ_sum, bigSep_univ_prod, BI.bigSep_fin_two, bigSep_univ_prod, bigSep_univ_prod, BI.bigSep_fin_two, BI.bigSep_fin_two,
    bigSep_univ_of_subsingleton (I := Unit) ⟨⟩]
  show (iprop(((fst_ 16 (sendT c d 0) ∗ fst_ 16 (recvT c d 0)) ∗ (fst_ 16 (sendT c d 1) ∗ fst_ 16 (recvT c d 1))) ∗ fst_ 13 (crT c d) ∗ barT c d) : sProp 𝕄) = _
  refine BI.Entails.antisymm (show _ ⊢ (iprop((fst_ 16 (sendT c d 0) ∗ fst_ 16 (sendT c d 1)) ∗ (fst_ 16 (recvT c d 0) ∗ fst_ 16 (recvT c d 1)) ∗ fst_ 13 (crT c d) ∗ barT c d) : sProp 𝕄) from ?_)
    (show (iprop((fst_ 16 (sendT c d 0) ∗ fst_ 16 (sendT c d 1)) ∗ (fst_ 16 (recvT c d 0) ∗ fst_ 16 (recvT c d 1)) ∗ fst_ 13 (crT c d) ∗ barT c d) : sProp 𝕄) ⊢ _ from ?_)
  · iintro ⟨⟨⟨H1, H2⟩, H3, H4⟩, H5, H6⟩; iframe
  · iintro ⟨⟨H1, H2⟩, ⟨H3, H4⟩, H5, H6⟩; iframe

/-! ## The slots' counts -/

theorem bigSep_times {I J : Type} [DecidableEq I] [DecidableEq J] (s : Finset I) (t : Finset J) (Φ : I × J → sProp 𝕄) :
    bigSep (s ×ˢ t) Φ = bigSep s fun a => bigSep t fun b => Φ (a, b) := by
  induction s using Finset.induction_on with
  | empty => rw [Finset.empty_product]; rfl
  | insert a s ha ih =>
    have hd : Disjoint (t.map ⟨Prod.mk a, Prod.mk_right_injective a⟩) (s ×ˢ t) := by
      rw [Finset.disjoint_left]
      intro x h1 h2
      obtain ⟨b, -, rfl⟩ := Finset.mem_map.mp h1
      exact ha (Finset.mem_product.mp h2).1
    have he : insert a s ×ˢ t = t.map ⟨Prod.mk a, Prod.mk_right_injective a⟩ ∪ s ×ˢ t := by
      ext ⟨x, y⟩
      simp only [Finset.mem_product, Finset.mem_insert, Finset.mem_union, Finset.mem_map, Function.Embedding.coeFn_mk, Prod.mk.injEq]
      constructor
      · rintro ⟨rfl | h, hy⟩
        · exact .inl ⟨y, hy, rfl, rfl⟩
        · exact .inr ⟨h, hy⟩
      · rintro (⟨b, hb, rfl, rfl⟩ | ⟨h, hy⟩)
        · exact ⟨.inl rfl, hb⟩
        · exact ⟨.inr h, hy⟩
    rw [bigSep_insert ha, ← ih, he, bigSep_union hd, bigSep_map]
    rfl

def rdT (c : Dev nD) (d hf : Fin 2) : sProp 𝕄 := bigSep (Finset.range 17) fun q => Release.readerAt ES (c, (d, hf), q) 0
def wrT (c : Dev nD) (d hf : Fin 2) : sProp 𝕄 := bigSep (Finset.range 17) fun q => Release.writeTok ES (c, (d, hf), q) 1

theorem keys_eq (Φ : Key → sProp 𝕄) :
    bigSep keys Φ = bb fun c d => iprop((bigSep (Finset.range 17) fun q => Φ (c, (d, 0), q)) ∗ bigSep (Finset.range 17) fun q => Φ (c, (d, 1), q)) := by
  unfold keys bb
  rw [bigSep_times]
  refine bigSep_congr fun c _ => ?_
  rw [bigSep_times, bigSep_univ_prod]
  exact bigSep_congr fun d _ => BI.bigSep_fin_two _

theorem writes_eq : bigSep (keys ×ˢ Finset.range 1) (fun x => (Release.writeTok ES x.1 (x.2 + 1) : sProp 𝕄)) = bb fun c d => iprop(wrT c d 0 ∗ wrT c d 1) := by
  rw [bigSep_times]
  have h (k : Key) : (bigSep (Finset.range 1) fun t => (Release.writeTok ES k (t + 1) : sProp 𝕄)) = Release.writeTok ES k 1 := by
    rw [Finset.range_one, bigSep_singleton]
  simp only [h]
  exact keys_eq _

theorem wr_shift (c : Dev nD) (d hf : Fin 2) {m : ℕ} (h : m ≤ 16) : wrT c d hf ⊢ (bigSep (Finset.Ico 0 m) fun t => Release.writeTok ES (c, (d, hf), t + 1) 1 : sProp 𝕄) := by
  unfold wrT
  refine BIBase.Entails.trans ?_ (Entails.of_eq (bigSep_map (s := Finset.Ico 0 m) (addRightEmbedding 1) (Φ := fun q => (Release.writeTok ES (c, (d, hf), q) 1 : sProp 𝕄))))
  exact bigSep_subset (fun x hx => by simp only [Finset.mem_map, Finset.mem_Ico, Finset.mem_range, addRightEmbedding_apply] at *; obtain ⟨a, ha, rfl⟩ := hx; omega)

theorem deal_SD (c : Dev nD) (d hf : Fin 2) : iprop(fst_ 16 (sendT c d hf) ∗ fst_ 16 (recvT (nb d c) d hf) ∗ wrT (nb d c) d hf) ⊢ (SD c d hf 0 : sProp 𝕄) := by
  have h := lim_le d
  have e : (SD c d hf 0 : sProp 𝕄) = iprop(bigSep (Finset.Ico 0 (lim d)) (sendT c d hf) ∗ bigSep (Finset.Ico 0 (lim d)) (recvT (nb d c) d hf)
      ∗ bigSep (Finset.Ico 0 (lim d)) fun t => Release.writeTok ES (nb d c, (d, hf), t + 1) 1) := by
    rw [← bigSep_sep', ← bigSep_sep']; rfl
  rw [e]
  iintro ⟨H1, H2, H3⟩
  isplitl [H1]; · iapply (fst_ico h _); iexact H1
  isplitl [H2]; · iapply (fst_ico h _); iexact H2
  iapply (wr_shift _ _ _ h); iexact H3

theorem deal_rd (c : Dev nD) (d hf : Fin 2) : rdT c d hf ⊢ (bigSep (Finset.Ico 1 (lim d + 1)) fun q => Release.readerAt ES (c, (d, hf), q) 0 : sProp 𝕄) :=
  bigSep_subset (fun x hx => by have := lim_le d; simp only [Finset.mem_Ico, Finset.mem_range] at *; omega)

/-- A direction's ghost state without its credits. -/
def ghost (c : Dev nD) (d : Fin 2) : sProp 𝕄 :=
  iprop(CS c d 0 ∗ barT (nb d c) d ∗ (SD c d 0 0 ∗ SD c d 1 0) ∗ (bigSep (Finset.Ico 1 (lim d + 1)) fun q => Release.readerAt ES (c, (d, 0), q) 0)
    ∗ bigSep (Finset.Ico 1 (lim d + 1)) fun q => Release.readerAt ES (c, (d, 1), q) 0)

theorem deal : iprop(bigSep toks (fun x => (dutyTok ER x.1 x.2.1 x.2.2 : sProp 𝕄)) ∗ bigSep keys (fun k => Release.readerAt ES k 0)
      ∗ bigSep (keys ×ˢ Finset.range 1) (fun x => Release.writeTok ES x.1 (x.2 + 1)))
    ⊢ (bb ghost : sProp 𝕄) := by
  have hcr (c : Dev nD) (d : Fin 2) : fst_ 13 (crT (pv d c) d) ⊢ (CS c d 0 : sProp 𝕄) := fst_ico (by revert d; decide) _
  rw [toks_eq, keys_eq, writes_eq, bb_nb (fun c d => iprop(fst_ 16 (recvT c d 0) ∗ fst_ 16 (recvT c d 1))), bb_nb barT, bb_nb (fun c d => iprop(wrT c d 0 ∗ wrT c d 1)),
    bb_pv (fun c d => fst_ 13 (crT c d))]
  refine BIBase.Entails.trans (Q := bb fun c d => iprop((fst_ 16 (sendT c d 0) ∗ fst_ 16 (sendT c d 1)) ∗ (fst_ 16 (recvT (nb d c) d 0) ∗ fst_ 16 (recvT (nb d c) d 1)) ∗ fst_ 13 (crT (pv d c) d) ∗ barT (nb d c) d
    ∗ (rdT c d 0 ∗ rdT c d 1) ∗ (wrT (nb d c) d 0 ∗ wrT (nb d c) d 1))) ?_ (bb_mono fun c d => ?_)
  · rw [bb_sep (fun c d => iprop(fst_ 16 (sendT c d 0) ∗ fst_ 16 (sendT c d 1))), bb_sep (fun c d => iprop(fst_ 16 (recvT (nb d c) d 0) ∗ fst_ 16 (recvT (nb d c) d 1))),
      bb_sep (fun c d => fst_ 13 (crT (pv d c) d)), bb_sep (fun c d => barT (nb d c) d), bb_sep (fun c d => iprop(rdT c d 0 ∗ rdT c d 1))]
    iintro ⟨⟨H1, H2, H3, H4⟩, H5, H6⟩
    isplitl [H1]; · iexact H1
    isplitl [H2]; · iexact H2
    isplitl [H3]; · iexact H3
    isplitl [H4]; · iexact H4
    isplitl [H5]; · iexact H5
    iexact H6
  · unfold ghost
    iintro ⟨⟨Hs0, Hs1⟩, ⟨Hr0, Hr1⟩, Hc, Hb, ⟨Hd0, Hd1⟩, Hw0, Hw1⟩
    isplitl [Hc]; · iapply (hcr c d); iexact Hc
    isplitl [Hb]; · iexact Hb
    isplitl [Hs0 Hs1 Hr0 Hr1 Hw0 Hw1]
    · isplitl [Hs0 Hr0 Hw0]
      · iapply (deal_SD c d 0); iframe
      · iapply (deal_SD c d 1); iframe
    isplitl [Hd0]; · iapply (deal_rd c d 0); iexact Hd0
    iapply (deal_rd c d 1); iexact Hd1

end Cert.Proof
-- ==== Proof.Credit.lean ====
/- The launch's credits: what is owed by all is what lands on all. -/
module

public import proofs.«01_k».proof.Proof.Deal

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {c : Dev nD}

/-- What others will land on a device, by direction: the chunks, the credit units. -/
def landS (n : Dev nD) (d hf : Fin 2) : CellTallies nD τ sig ℕ := ∑ x ∈ Finset.Ico 1 (lim d + 1), tallyAt (recvCell n d hf (sl x)) x Ncr
def landC (n : Dev nD) (d : Fin 2) : CellTallies nD τ sig ℕ := ∑ x ∈ Finset.Ico 0 (nCr d), tallyAt (crCell n d) x 1
def landB (n : Dev nD) : CellTallies nD τ sig ℕ := tallyAt (barCell n) 0 1
def land (n : Dev nD) (d : Fin 2) : CellTallies nD τ sig ℕ := (landS n d 0 + landS n d 1) + (landC n d + landB n)

theorem sum_six {A : Type} [AddCommMonoid A] (f : ℕ → A) (n : ℕ) :
    ∑ x ∈ Finset.Ico 0 (6 * n), f x = ∑ h ∈ Finset.range n, (f (6 * h + 0) + f (6 * h + 1) + f (6 * h + 2) + f (6 * h + 3) + f (6 * h + 4) + f (6 * h + 5)) := by
  rw [← Finset.range_eq_Ico]
  induction n with
  | zero => rfl
  | succ n ih =>
    rw [Finset.sum_range_succ _ n, ← ih, show 6 * (n + 1) = 6 * n + 6 by omega, Finset.sum_range_add]
    simp only [Finset.sum_range_succ, Finset.sum_range_zero, zero_add]

theorem sum_under {A : Type} [AddCommMonoid A] (f : ℕ → A) {m n : ℕ} (h : m ≤ n) : (∑ x ∈ Finset.range n, if x < m then f x else 0) = ∑ x ∈ Finset.range m, f x := by
  rw [← Finset.sum_filter]
  refine Finset.sum_congr ?_ fun _ _ => rfl
  ext x; simp only [Finset.mem_filter, Finset.mem_range]; omega

theorem sum_shift {A : Type} [AddCommMonoid A] (f : ℕ → A) (m : ℕ) : ∑ x ∈ Finset.range m, f (x + 1) = ∑ x ∈ Finset.Ico 1 (m + 1), f x := by
  have h : Finset.Ico 1 (m + 1) = (Finset.range m).map (addRightEmbedding 1) := by
    ext x; simp only [Finset.mem_Ico, Finset.mem_map, Finset.mem_range, addRightEmbedding_apply]
    constructor
    · intro h; exact ⟨x - 1, by omega, by omega⟩
    · rintro ⟨y, hy, rfl⟩; omega
  rw [h, Finset.sum_map]; rfl

theorem item_all (c : Dev nD) (d hf : Fin 2) : ∑ h ∈ Finset.range 16, item c (6 * h + (2 * d.val + hf.val)) = landS (nb d c) d hf := by
  unfold landS
  simp only [item_send]
  rw [sum_under (fun h => tallyAt (recvCell (nb d c) d hf (sl (h + 1))) (h + 1) Ncr) (lim_le d), sum_shift (fun x => tallyAt (recvCell (nb d c) d hf (sl x)) x Ncr)]
theorem item_units (c : Dev nD) (d : Fin 2) : ∑ h ∈ Finset.range 16, item c (6 * h + (4 + d.val)) = landC (pv d c) d := by
  unfold landC
  simp only [item_cr]
  rw [sum_under (fun h => tallyAt (crCell (pv d c) d) h 1) (by revert d; decide), Finset.range_eq_Ico]

theorem regroup {A : Type} [AddCommMonoid A] (a b c d e f : A) : a + b + c + d + e + f = (a + c) + (b + d) + (e + f) := by
  simp only [add_assoc, add_left_comm, add_comm]
theorem regroup' {A : Type} [AddCommMonoid A] (a b c d x y : A) : a + b + (c + d) + x + y = (a + (b + x)) + (c + (d + y)) := by
  simp only [add_assoc, add_left_comm, add_comm]

theorem O_all (c : Dev nD) : O c 0 = ∑ d : Fin 2, ((landS (nb d c) d 0 + landS (nb d c) d 1) + landC (pv d c) d) := by
  unfold O
  rw [show 96 = 6 * 16 from rfl, sum_six]
  simp only [Finset.sum_add_distrib]
  have e := fun d hf => item_all c d hf
  have u := fun d => item_units c d
  rw [show ∑ h ∈ Finset.range 16, item c (6 * h + 0) = _ from e 0 0, show ∑ h ∈ Finset.range 16, item c (6 * h + 1) = _ from e 0 1,
    show ∑ h ∈ Finset.range 16, item c (6 * h + 2) = _ from e 1 0, show ∑ h ∈ Finset.range 16, item c (6 * h + 3) = _ from e 1 1,
    show ∑ h ∈ Finset.range 16, item c (6 * h + 4) = _ from u 0, show ∑ h ∈ Finset.range 16, item c (6 * h + 5) = _ from u 1]
  simp only [Fin.sum_univ_two]
  exact regroup (A := CellTallies nD τ sig ℕ) _ _ _ _ _ _

theorem O₀_all (c : Dev nD) : O₀ c = ∑ d : Fin 2, ((landS (nb d c) d 0 + landS (nb d c) d 1) + (landC (pv d c) d + landB (nb d c))) := by
  unfold O₀; rw [O_all]
  rw [Fin.sum_univ_two, Fin.sum_univ_two]
  unfold landB
  exact regroup' (A := CellTallies nD τ sig ℕ) _ _ _ _ _ _

/-- Owed by all, and landed on all. -/
theorem owed_land : ∑ c : Dev nD, O₀ c = ∑ c : Dev nD, ∑ d : Fin 2, land c d := by
  simp only [O₀_all]
  rw [Finset.sum_comm, Finset.sum_comm (f := fun c d => land c d)]
  refine Finset.sum_congr rfl fun d _ => ?_
  unfold land
  simp only [Finset.sum_add_distrib]
  rw [← Equiv.sum_comp (step d) (fun c => landS c d 0), ← Equiv.sum_comp (step d) (fun c => landS c d 1), ← Equiv.sum_comp (step d).symm (fun c => landC c d),
    ← Equiv.sum_comp (step d) (fun c => landB c)]
  rfl

theorem tally_at (c : Dev nD) (sm : SemLoc sig) (ι k : ℕ) {g : GSem nD τ sig} (h : tallyAt ((c : Thread nD τ), sm) ι k g ≠ 0) : g.1 = (c.tc : Thread nD τ) := by
  by_contra hn
  exact h (tallyAt_ne_cell (fun e => hn (congrArg Prod.fst e)) _ _)
theorem add_at {S T : CellTallies nD τ sig ℕ} {P : GSem nD τ sig → Prop} (hS : ∀ g, S g ≠ 0 → P g) (hT : ∀ g, T g ≠ 0 → P g) (g : GSem nD τ sig) (h : (S + T) g ≠ 0) : P g := by
  by_cases h1 : S g = 0
  · exact hT g fun h2 => h (by rw [Pi.add_apply, h1, h2, add_zero])
  · exact hS g h1
theorem sum_at {I : Type} (s : Finset I) (T : I → CellTallies nD τ sig ℕ) {P : GSem nD τ sig → Prop} (hT : ∀ i ∈ s, ∀ g, T i g ≠ 0 → P g) (g : GSem nD τ sig) (h : (∑ i ∈ s, T i) g ≠ 0) : P g := by
  rw [Finset.sum_apply] at h
  obtain ⟨i, hi, hz⟩ := Finset.exists_ne_zero_of_sum_ne_zero h
  exact hT i hi g hz
theorem landS_at (c : Dev nD) (d hf : Fin 2) : ∀ g, landS c d hf g ≠ 0 → g.1 = (c.tc : Thread nD τ) := by
  unfold landS; exact sum_at _ _ fun x _ g h => tally_at c _ _ _ h
theorem landC_at (c : Dev nD) (d : Fin 2) : ∀ g, landC c d g ≠ 0 → g.1 = (c.tc : Thread nD τ) := by
  unfold landC; exact sum_at _ _ fun x _ g h => tally_at c _ _ _ h
theorem landB_at (c : Dev nD) : ∀ g, landB c g ≠ 0 → g.1 = (c.tc : Thread nD τ) := by
  unfold landB; exact fun g h => tally_at c _ _ _ h
theorem land_at (c : Dev nD) : ∀ g, (∑ d : Fin 2, land c d) g ≠ 0 → g.1 = (c.tc : Thread nD τ) :=
  sum_at _ _ fun d _ => add_at (add_at (landS_at c d 0) (landS_at c d 1)) (add_at (landC_at c d) (landB_at c))

theorem cred_sum {I : Type} [DecidableEq I] (s : Finset I) (T : I → CellTallies nD τ sig ℕ) : (cred (∑ i ∈ s, T i) : sProp 𝕄) ⊢ bigSep s fun i => cred (T i) := by
  induction s using Finset.induction_on with
  | empty => rw [Finset.sum_empty, cred_zero, bigSep_empty]; exact .rfl
  | insert i s hi ih =>
    rw [Finset.sum_insert hi, bigSep_insert hi]
    exact (cred_add _ _).1.trans (sep_mono_right ih)

/-- The credits of a direction. -/
def crd (c : Dev nD) (d : Fin 2) : sProp 𝕄 :=
  iprop(((bigSep (Finset.Ico 1 (lim d + 1)) fun x => cred (tallyAt (recvCell c d 0 (sl x)) x Ncr)) ∗ bigSep (Finset.Ico 1 (lim d + 1)) fun x => cred (tallyAt (recvCell c d 1 (sl x)) x Ncr))
    ∗ (bigSep (Finset.Ico 0 (nCr d)) fun x => cred (tallyAt (crCell c d) x 1)) ∗ cred (landB c))

theorem cred_land (d : Fin 2) : (cred (land c d) : sProp 𝕄) ⊢ crd c d := by
  unfold land crd
  refine (cred_add _ _).1.trans (BI.sep_mono ((cred_add _ _).1.trans (BI.sep_mono (cred_sum _ _) (cred_sum _ _))) ((cred_add _ _).1.trans (sep_mono_left (cred_sum _ _))))

/-- What a device is credited at the start: its barrier's two units, and its landings. -/
theorem creds : (Pipeline.launchCred O₀ c : sProp 𝕄) ⊢ iprop(cred (tallyAt (barCell c) 0 2) ∗
    (((bigSep (Finset.Ico 1 (lim 0 + 1)) fun x => cred (tallyAt (recvCell c 0 0 (sl x)) x Ncr)) ∗ bigSep (Finset.Ico 1 (lim 0 + 1)) fun x => cred (tallyAt (recvCell c 0 1 (sl x)) x Ncr))
      ∗ bigSep (Finset.Ico 0 (nCr 0)) fun x => cred (tallyAt (crCell c 0) x 1))
    ∗ (((bigSep (Finset.Ico 1 (lim 1 + 1)) fun x => cred (tallyAt (recvCell c 1 0 (sl x)) x Ncr)) ∗ bigSep (Finset.Ico 1 (lim 1 + 1)) fun x => cred (tallyAt (recvCell c 1 1 (sl x)) x Ncr))
      ∗ bigSep (Finset.Ico 0 (nCr 1)) fun x => cred (tallyAt (crCell c 1) x 1))) := by
  rw [Pipeline.launchCred_of_sum O₀ (fun c => ∑ d : Fin 2, land c d) owed_land land_at c, Fin.sum_univ_two]
  refine (cred_add _ _).1.trans ((BI.sep_mono (cred_land 0) (cred_land 1)).trans (show (iprop(crd c 0 ∗ crd c 1) : sProp 𝕄) ⊢ _ from ?_))
  rw [show tallyAt (barCell c) 0 2 = landB c + landB c from (tallyAt_add _ _ 1 1).symm]
  unfold crd
  iintro ⟨⟨⟨H1, H2⟩, H3, H4⟩, ⟨H5, H6⟩, H7, H8⟩
  isplitl [H4 H8]; · iapply (cred_add _ _).2; iframe
  isplitl [H1 H2 H3]
  · isplitl [H1 H2]
    · isplitl [H1]; · iexact H1
      iexact H2
    iexact H3
  isplitl [H5 H6]
  · isplitl [H5]; · iexact H5
    iexact H6
  iexact H7

end Cert.Proof
-- ==== Proof.Region.lean ====
/- The kernel's region: its data, what the body does with them, and its record over the thread state. -/
module

public import proofs.«01_k».proof.Proof.Credit
public import proofs.«01_k».proof.Proof.Gen.KernelIdeal.Points
public import proofs.«01_k».proof.Proof.Gen.KernelIdeal.Regions

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

open Idealize.ShloMosaic.Pipeline (Dat BodyObligation)

variable (V : Dev nD → Valuation τ sig (Elt F)) (c : Dev nD)

/-! ## What the arrays hold -/

abbrev xs : Vec F S256x512 .bf16 := V c main_v5
abbrev cs : Vec F S512x512 .bf16 := V c main_v7
abbrev ks : Vec F S256x128x64 .bf16 := V c main_v18
abbrev vs : Vec F S256x128x64 .bf16 := V c main_v20
/-- Every device's chunk, by half. -/
def chs : Chunks F := fun hf n => halfC (cs V n) hf
/-- The device's result. -/
def res : Vec F S256x512 .f32 := fin (chs V) (xs V c) (ks V c) (vs V c) c

/-! ## The region's data -/

/-- What the body is given besides the staged arrays. -/
def P₀ : sProp 𝕄 := iprop(Pipeline.scopedRest (Ix := ℕ) (Name := ℕ) (U := UU) (Lvl := ℕ) (Val := Elt F) spec0 c ∗ (∃ r, prngReg c r) ∗ enter (chs V) c)
/-- What it leaves. -/
def P₁ : sProp 𝕄 := iprop(Pipeline.scopedRest (Ix := ℕ) (Name := ℕ) (U := UU) (Lvl := ℕ) (Val := Elt F) spec0 c ∗ (∃ r, prngReg c r) ∗ zeros c ∗ semVal (barCell c) 0)

def dat : Dat τ (Elt F) ℕ ℕ UU ℕ cfg0 c where
  A w := V c (Pipeline.arrRef spec0 w)
  after w _ := match w with
    | ⟨0, _⟩ => xs V c
    | ⟨1, _⟩ => cs V c
    | ⟨2, _⟩ => ks V c
    | ⟨3, _⟩ => vs V c
    | ⟨4, _⟩ => metaT c
    | ⟨5, _⟩ => res V c
  Φ t := if t.val = 0 then P₀ V c else P₁ c
  q _ := fullShare
  owed t := if t.val = 0 then O₀ c else 0

abbrev datas : (p : Fin 1) → (c : Dev nD) → Dat τ (Elt F) ℕ ℕ UU ℕ (cfgs p) c := fun _ c => dat V c

/-! ### The staged arrays -/

theorem read0 (f : main_v5.ty.Contents (Elt F)) : ((cfg0.win 0).blk Gen.t0_0).view.read (Elt F) f = f :=
  Memref.read_access_unit_zero (Elt F) main_v5 (funext fun a => by fin_cases a <;> rfl) (fun a => by fin_cases a <;> decide) f
theorem read1 (f : main_v7.ty.Contents (Elt F)) : ((cfg0.win 1).blk Gen.t0_0).view.read (Elt F) f = f :=
  Memref.read_access_unit_zero (Elt F) main_v7 (funext fun a => by fin_cases a <;> rfl) (fun a => by fin_cases a <;> decide) f
theorem read2 (f : main_v18.ty.Contents (Elt F)) : ((cfg0.win 2).blk Gen.t0_0).view.read (Elt F) f = f :=
  Memref.read_access_unit_zero (Elt F) main_v18 (funext fun a => by fin_cases a <;> rfl) (fun a => by fin_cases a <;> decide) f
theorem read3 (f : main_v20.ty.Contents (Elt F)) : ((cfg0.win 3).blk Gen.t0_0).view.read (Elt F) f = f :=
  Memref.read_access_unit_zero (Elt F) main_v20 (funext fun a => by fin_cases a <;> rfl) (fun a => by fin_cases a <;> decide) f
theorem read4 (f : main_v64.ty.Contents (Elt F)) : ((cfg0.win 4).blk Gen.t0_0).view.read (Elt F) f = f :=
  Memref.read_access_unit_zero (Elt F) main_v64 (funext fun a => by fin_cases a; rfl) (fun a => by fin_cases a; decide) f
theorem read5 (f : main_v65.ty.Contents (Elt F)) : ((cfg0.win 5).blk Gen.t0_0).view.read (Elt F) f = f :=
  Memref.read_access_unit_zero (Elt F) main_v65 (funext fun a => by fin_cases a <;> rfl) (fun a => by fin_cases a <;> decide) f

theorem before0 (d) : (dat V c).before 0 Gen.t0_0 d = xs V c := by
  unfold Dat.before; rw [if_pos (by decide)]; exact read0 (xs V c)
theorem before1 (d) : (dat V c).before 1 Gen.t0_0 d = cs V c := by
  unfold Dat.before; rw [if_pos (by decide)]; exact read1 (cs V c)
theorem before2 (d) : (dat V c).before 2 Gen.t0_0 d = ks V c := by
  unfold Dat.before; rw [if_pos (by decide)]; exact read2 (ks V c)
theorem before3 (d) : (dat V c).before 3 Gen.t0_0 d = vs V c := by
  unfold Dat.before; rw [if_pos (by decide)]; exact read3 (vs V c)
theorem before4 (d) : (dat V c).before 4 Gen.t0_0 d = V c main_v64 := by
  unfold Dat.before; rw [if_pos (by decide)]; exact read4 (V c main_v64)

/-! ### The body -/

theorem owes_in (t : Fin (cfg0.N + 1)) (X : CellTallies nD τ sig ℕ) (h0 : (dat V c).owed t = X) (W : Waits sig ℕ) :
    owes (c : Thread nD τ) X W ⊢ ((dat V c).owesAt 0 t : sProp 𝕄) := by
  unfold Dat.owesAt Pipeline.owesWithin Dat.bound; rw [h0, show (dat V c).recorded t = Set.univ from rfl]
  iintro HO; iexists W; isplitr; · ipureintro; exact fun _ _ => Or.inl trivial
  iexact HO
theorem owes_out (t : Fin (cfg0.N + 1)) (X : CellTallies nD τ sig ℕ) (h0 : (dat V c).owed t = X) :
    ((dat V c).owesAt 0 t : sProp 𝕄) ⊢ iprop(∃ W, owes (c : Thread nD τ) X W) := by
  unfold Dat.owesAt Pipeline.owesWithin; rw [h0]
  iintro ⟨%W, -, HO⟩; iexists W; iexact HO

theorem body_ob (hm : V c main_v64 = metaT c) : BodyObligation (dat V c) (defs₀ (F := F)) 𝒱₀ 0 Set.univ := fun t => by
  obtain rfl := Gen.fin_N0 t
  rw [Gen.bigSep_W0, Gen.bigSep_W0]
  simp only [owns_whole_eq]
  rw [show (dat V c).Φ Gen.t0_0.castSucc = P₀ V c from rfl, show (dat V c).Φ Gen.t0_0.succ = P₁ c from rfl]
  unfold P₀ P₁
  rw [Gen.scopedRest0_eq]
  iintro ⟨⟨⟨Hr, Hl, Hs, Hw, Hz⟩, Hp, HE⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, -, H5⟩⟩
  rw [before0] at e0; rw [before1] at e1; rw [before2] at e2; rw [before3] at e3; rw [before4, hm] at e4
  subst e0 e1 e2 e3 e4
  ihave HO' := (owes_out V c Gen.t0_0.castSucc (O₀ c) rfl) $$ HO
  icases HO' with ⟨%W, HO⟩
  iapply (run_body (ch := chs V) (c := c) (C := cs V c) (x := xs V c) (Kt := ks V c) (Vt := vs V c) (W := W) fun _ => rfl) $$ [Hr Hl Hs Hw Hz HE HO H0 H1 H2 H3 H4 H5]
  · unfold comm INs scr
    isplitl [HE]; · iexact HE
    isplitl [Hr Hl]
    · isplitl [Hr]; · iexact Hr
      iexact Hl
    isplitl [HO]; · iexact HO
    isplitl [H0 H2 H3 Hs Hw]
    · isplitl [H0]; · iexact H0
      isplitl [H2]; · iexact H2
      isplitl [H3]; · iexact H3
      isplitl [Hs]; · iexact Hs
      iexact Hw
    isplitl [H4]; · iexact H4
    isplitl [Hz]; · iexact Hz
    isplitl [H1]; · iexact H1
    iexists f5; iexact H5
  unfold Fin_ comm INs scr OW
  rw [O_end]
  iintro ⟨H1, Hb, Hzs, ⟨%W', HO⟩, Hr, Hl, ⟨H0, H2, H3, Hs, Hw⟩, H4, Hz, H5⟩
  isplitl [Hr Hl Hs Hw Hz Hp Hzs Hb]
  · isplitl [Hr Hl Hs Hw Hz]
    · isplitl [Hr]; · iexact Hr
      isplitl [Hl]; · iexact Hl
      isplitl [Hs]; · iexact Hs
      isplitl [Hw]; · iexact Hw
      iexact Hz
    isplitl [Hp]; · iexact Hp
    isplitl [Hzs]; · iexact Hzs
    iexact Hb
  isplitl [HO]; · iapply (owes_in V c Gen.t0_0.succ 0 rfl W'); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ### The region -/

theorem cut (t : Fin (cfg0.N + 1)) (g : GSem nD τ sig) (i : ℕ) (h : 0 < (dat V c).owed t g i) : i ∈ L g ∧ (0 : ℕ) < lv g i := by
  have e : (dat V c).owed t = if t.val = 0 then O₀ c else 0 := rfl
  rw [e] at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · exact ⟨(O_pos h).1, by have := (O_pos h).2; omega⟩
      · obtain ⟨rfl, rfl⟩ := of_tallyAt_pos h
        exact ⟨by rw [L_tc]; decide, by rw [lv_bar]; decide⟩
    · obtain ⟨rfl, rfl⟩ := of_tallyAt_pos h
      exact ⟨by rw [L_tc]; decide, by rw [lv_bar]; decide⟩
  · exact absurd h (Nat.lt_irrefl 0)

theorem launch_facts : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

/-- The contents after the region. -/
def V' : Valuation τ sig (Elt F) := Function.update (V c) main_v65 (res V c)

theorem arr_end (w : Fin 6) : (dat V c).arrAt w cfg0.N = V' V c (Pipeline.arrRef spec0 w) := by
  have hin (w : Fin 6) (h : (cfg0.win w).isOut = false) (hne : (Proc.devRef .tc (Pipeline.arrRef spec0 w) : DevRef τ sig) ≠ Proc.devRef .tc main_v65) :
      (dat V c).arrAt w cfg0.N = V' V c (Pipeline.arrRef spec0 w) :=
    ((dat V c).arrAt_in w h _).trans (Function.update_of_ne hne _ _).symm
  by_cases hw : w = 5
  · subst hw
    have e : (dat V c).arrAt 5 cfg0.N = (dat V c).arrAt 5 (Gen.t0_0.val + 1) := rfl
    have h1 := ((dat V c).arrAt_succ 5 Gen.t0_0).trans (if_pos (Gen.flush0_5 Gen.t0_0))
    have h2 := (congrArg (((cfg0.win 5).blk Gen.t0_0).view.read (Elt F)) h1).trans (View.read_write_univ _ _)
    refine e.trans (((read5 _).symm.trans h2).trans ?_)
    exact (Function.update_self (f := V c) (Proc.devRef .tc main_v65) (res V c)).symm
  · refine hin w ?_ ?_ <;> (revert hw; revert w; decide)

theorem stg_lv (w : Fin 6) (s : Fin (cfg0.win w).nbuf) : lv ((c : Thread nD τ), .dma ((cfg0.win w).sem s)) 0 = 0 := by
  have h : ∀ (w : Fin 6) (s : Fin (cfg0.win w).nbuf), chOf ((cfg0.win w).sem s) = none := by decide
  dsimp only [lv]; rw [h w s]

theorem cut_all : Pipeline.LevelCutOwed (pcfgs (F := F)) Gen.adm (datas V) 0 L lv 0 (fun _ => 0) :=
  ⟨fun c w s => (by rw [L_tc]; decide), fun c w s => Nat.le_of_eq (stg_lv c w s), fun c t g i h => cut V c t g i h⟩

/-- The buffers no window stages. -/
abbrev rest : Finset (DevRef τ sig) := Pipeline.ucRefs τ sig \ Pipeline.arrRefs spec0

theorem rest_same (b : DevRef τ sig) (hb : b ∈ rest) : V' V c b = V c b := by
  refine Function.update_of_ne (fun e => (Finset.mem_sdiff.mp hb).2 ?_) _ _
  subst e
  exact Finset.mem_map.mpr ⟨main_v65, Finset.mem_image.mpr ⟨5, Finset.mem_univ _, rfl⟩, rfl⟩

theorem held_none (W : Valuation τ sig (Elt F)) : (StableHlo.held (c.tc : Thread nD τ) ∅ W : sProp 𝕄) = BI.emp := BI.bigSep_empty

theorem hin : iprop(Pipeline.scopedRest (Pipeline.pin (pcfgs (F := F)) Gen.adm 0).spec c ∗ (∃ r, prngReg c r) ∗ StableHlo.held (c.tc : Thread nD τ) ∅ (V c) ∗ enter (chs V) c)
    ⊢ (datas V 0 c).Φ 0 := by
  rw [show (datas V 0 c).Φ 0 = P₀ V c from rfl, held_none]
  unfold P₀
  iintro ⟨H1, H2, -, H3⟩
  isplitl [H1]; · iexact H1
  isplitl [H2]; · iexact H2
  iexact H3

theorem hout : (datas V 0 c).Φ (Fin.last (Pipeline.pin (pcfgs (F := F)) Gen.adm 0).N)
    ⊢ iprop(Pipeline.scopedRest (Pipeline.pin (pcfgs (F := F)) Gen.adm 0).spec c ∗ (∃ r, prngReg c r) ∗ StableHlo.held (c.tc : Thread nD τ) ∅ (V' V c) ∗ Pipeline.ownSems0 osem c ∗ semVal (barCell c) 0) := by
  rw [show (datas V 0 c).Φ (Fin.last _) = P₁ c from rfl, held_none, ownSems_zeros]
  unfold P₁
  iintro ⟨H1, H2, H3, H4⟩
  isplitl [H1]; · iexact H1
  isplitl [H2]; · iexact H2
  isplitr; · iempintro
  isplitl [H3]; · iexact H3
  iexact H4

set_option backward.isDefEq.respectTransparency.types false in
/-- The region's record. -/
def region (hm : ∀ c, V c main_v64 = metaT c) : Pipeline.RegionSeg (pcfgs (F := F)) Gen.adm (datas V) 0 (defs₀ (F := F)) 𝒱₀ L lv 0 :=
  Pipeline.RegionSeg.ofTalk (pcfgs (F := F)) Gen.adm (datas V) 0 defs₀ 𝒱₀ L lv 0 osem (by decide : Pipeline.OwnSemFacts spec0 osem)
    ∅ rest (Finset.empty_subset _) launch_facts rfl (fun c => (body_ob V c (hm c)).loose)
    (fun _ => 0) O₀ (fun c => (show (dat V c).owed 0 = O₀ c from rfl).trans (zero_add _).symm) (fun c => (show (dat V c).owed (Fin.last _) = 0 from rfl)) (fun _ => rfl) (fun c w => by fin_cases w <;> rfl)
    V (V' V) (fun c b hb => rest_same V c b (Finset.mem_sdiff.mp hb).1)
    (carry (chs V)) (fun c => semVal (barCell c) 0) (enter (chs V)) (fun c => semVal (barCell c) 0) (fun c => enter_open c) (hin V) (hout V)
    (fun c => by iintro H; imodintro; iexact H)
    (fun _ => 0) (cut_all V) (fun _ => iprop(emp)) (fun c w => rfl) (fun c w => arr_end V c w)

/-- The thread's state before the region, beside the buffers. -/
def E₀ : sProp 𝕄 := iprop(carry (chs V) c ∗ (∃ r, prngReg c r) ∗ ∃ W, owes (c : Thread nD τ) (O₀ c) W)
/-- And after it. -/
def E₁ : sProp 𝕄 := iprop(semVal (barCell c) 0 ∗ ∃ W, owes (c : Thread nD τ) (0 : CellTallies nD τ sig ℕ) W)

theorem arr_sub : Pipeline.arrRefs (τ := τ) spec0 ⊆ Pipeline.ucRefs τ sig := Pipeline.arrRefs_sub_ucRefs spec0 (by decide)

theorem region_pre (hm : ∀ c, V c main_v64 = metaT c) : iprop(StableHlo.held (c : Thread nD τ) (Pipeline.ucRefs τ sig) (V c) ∗ E₀ V c) ⊢ (region V hm).pre c := by
  show _ ⊢ iprop(StableHlo.held (c.tc : Thread nD τ) (Pipeline.arrRefs (τ := τ) spec0) (V c) ∗ (∃ r, prngReg c r)
    ∗ (StableHlo.held (c.tc : Thread nD τ) rest (V c) ∗ emp) ∗ carry (chs V) c ∗ ∃ Wd, owes (c : Thread nD τ) (0 + O₀ c) Wd)
  rw [StableHlo.held_sub_split _ arr_sub, zero_add]
  unfold E₀
  iintro ⟨⟨H1, H2⟩, H3, H4, H5⟩
  isplitl [H1]; · iexact H1
  isplitl [H4]; · iexact H4
  isplitl [H2]
  · isplitl [H2]; · iexact H2
    iempintro
  isplitl [H3]; · iexact H3
  iexact H5

theorem region_post (hm : ∀ c, V c main_v64 = metaT c) : (region V hm).post c ⊢ iprop(StableHlo.held (c : Thread nD τ) (Pipeline.ucRefs τ sig) (V' V c) ∗ E₁ c) := by
  show iprop(StableHlo.held (c.tc : Thread nD τ) (Pipeline.arrRefs (τ := τ) spec0) (V' V c) ∗ (∃ r, prngReg c r)
    ∗ (StableHlo.held (c.tc : Thread nD τ) rest (V' V c) ∗ emp) ∗ semVal (barCell c) 0 ∗ ∃ Wd, owes (c : Thread nD τ) (0 : CellTallies nD τ sig ℕ) Wd) ⊢ _
  rw [StableHlo.held_sub_split _ arr_sub]
  unfold E₁
  iintro ⟨H1, -, ⟨H2, -⟩, H3, H4⟩
  isplitl [H1 H2]
  · isplitl [H1]; · iexact H1
    iexact H2
  isplitl [H3]; · iexact H3
  iexact H4

end Cert.Proof
-- ==== Proof.Launch.lean ====
/- The launch of the 32 devices, and the whole program's run. -/
module

public import proofs.«01_k».proof.Proof.Region

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

open Idealize.ShloMosaic.Pipeline (Seg)

/-! ## The launch -/

theorem unscoped_eq : ∀ sm : SemLoc sig, sm.isScoped .tc = false → sm = .reg barS := by decide

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem osem_ne_bar : ∀ k : Fin 34, osem k ≠ .reg barS := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element. -/
def u₀ : UU :=
  (initOf (Pipeline.cells (cfgs) Gen.cellOf_inj) (Pipeline.launchToks (cfgs) Gen.cellOf_inj),
    (launchOf barCells scCells toks, Release.initSlots keys 1))

/-- The protocol's share of it. -/
def ghosts : sProp 𝕄 := iprop(BI.own (ER (launchOf barCells scCells toks)) ∗ BI.own (ES (Release.initSlots keys 1)))
/-- A resource held on one device. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  have h (c : Dev nD) (hc : c ∈ Finset.univ.erase c₀) : onDev c₀ X c = (BI.emp : sProp 𝕄) := if_neg (Finset.ne_of_mem_erase hc)
  rw [bigSep_univ_at _ c₀, bigSep_congr h, BI.bigSep_emp_const, show onDev c₀ X c₀ = X from if_pos rfl]
  exact BI.equiv_iff.mp sep_emp

/-- A device's directions without their ghost state. -/
def crd0 (c : Dev nD) (d : Fin 2) : sProp 𝕄 :=
  iprop(((bigSep (Finset.Ico 1 (lim d + 1)) fun x => cred (tallyAt (recvCell c d 0 (sl x)) x Ncr)) ∗ bigSep (Finset.Ico 1 (lim d + 1)) fun x => cred (tallyAt (recvCell c d 1 (sl x)) x Ncr))
    ∗ bigSep (Finset.Ico 0 (nCr d)) fun x => cred (tallyAt (crCell c d) x 1))

theorem dir0_intro (c : Dev nD) (d : Fin 2) : iprop(ghost c d ∗ crd0 c d) ⊢ (dir0 c d : sProp 𝕄) := by
  unfold ghost crd0 dir0 chan0 barT
  iintro ⟨⟨H1, H2, ⟨H3, H4⟩, H5, H6⟩, ⟨H7, H8⟩, H9⟩
  isplitl [H1]; · iexact H1
  isplitl [H9]; · iexact H9
  isplitl [H2]; · iexact H2
  isplitl [H3 H5 H7]
  · isplitl [H3]; · iexact H3
    isplitl [H5]; · iexact H5
    iexact H7
  isplitl [H4]; · iexact H4
  isplitl [H6]; · iexact H6
  iexact H8

/-- What of a device's launch holdings is not the protocol's ghost state. -/
def plain (c : Dev nD) : sProp 𝕄 :=
  iprop((cred (tallyAt (barCell c) 0 2) ∗ crd0 c 0 ∗ crd0 c 1) ∗ (∃ r, prngReg c r) ∗ ∃ W, owes (c : Thread nD τ) (O₀ c) W)
/-- What of it is, the records aside. -/
def own₁ (c : Dev nD) : sProp 𝕄 :=
  iprop(atPos ER (barCell c) 0 ∅ 0 ∗ (bigSep Finset.univ fun i : Fin 34 => openTok ER ((c : Thread nD τ), osem i)) ∗ ghost c 0 ∗ ghost c 1)

variable (V : Dev nD → Valuation τ sig (Elt F))

theorem E₀_intro (K : GSem nD τ sig → ℕ) (J : Key → ℕ) (c : Dev nD) : iprop(recs (chs V) K J ∗ (own₁ c ∗ plain c)) ⊢ E₀ V c := by
  unfold own₁ plain E₀ carry
  iintro ⟨#HR, ⟨H1, H2, H3, H4⟩, ⟨H5, H6, H7⟩, H8, H9⟩
  isplitr [H8 H9]
  · iexists K, J
    isplitr; · iexact HR
    isplitl [H1 H5]
    · isplitl [H5]; · iexact H5
      iexact H1
    isplitl [H2]; · iexact H2
    isplitl [H3 H6]
    · iapply dir0_intro; isplitl [H3]; · iexact H3
      iexact H6
    iapply dir0_intro; isplitl [H4]; · iexact H4
    iexact H7
  isplitl [H8]; · iexact H8
  iexact H9

theorem launch_core (ρ : Dev nD → PrngReg) (c : Dev nD) :
    iprop(unscopedSems0 c ∗ owes (c : Thread nD τ) (O₀ c) ∅ ∗ Pipeline.launchCred O₀ c ∗ prngReg c (ρ c) ∗ onDev 0 ghosts c)
      ⊢ (iprop(plain c ∗ (semVal (barCell c) 0 ∗ onDev 0 ghosts c)) : sProp 𝕄) := by
  rw [unscoped_sems]
  unfold plain
  iintro ⟨Hus, HO, Hcr, Hp, HG⟩
  ihave Hc := (creds (F := F) (c := c)) $$ Hcr
  icases Hc with ⟨H1, H2, H3⟩
  isplitl [H1 H2 H3 HO Hp]
  · isplitl [H1 H2 H3]
    · isplitl [H1]; · iexact H1
      isplitl [H2]; · unfold crd0; iexact H2
      unfold crd0; iexact H3
    isplitl [Hp]; · iexists (ρ c); iexact Hp
    iexists ∅; iexact HO
  isplitl [Hus]; · iexact Hus
  iexact HG

theorem launch_all (ρ : Dev nD → PrngReg) :
    (bigSep Finset.univ fun c : Dev nD => iprop(unscopedSems0 c ∗ owes (c : Thread nD τ) (O₀ c) ∅ ∗ Pipeline.launchCred O₀ c ∗ prngReg c (ρ c) ∗ onDev 0 ghosts c))
      ⊢ (iprop((bigSep Finset.univ fun c => plain c) ∗ (bigSep barCells fun g => semVal g 0) ∗ ghosts) : sProp 𝕄) := by
  refine (bigSep_mono fun c _ => launch_core ρ c).trans ?_
  rw [bigSep_sep', bigSep_sep', onDev_all, bigSep_map]
  exact BI.Entails.refl _

theorem opens_eq : bigSep scCells (fun g => (openTok ER g : sProp 𝕄)) = bigSep Finset.univ fun c : Dev nD => bigSep Finset.univ fun i : Fin 34 => openTok ER ((c : Thread nD τ), osem i) := by
  rw [bigSep_map, bigSep_univ_prod]; rfl
theorem ats_eq : bigSep barCells (fun g => (atPos ER g 0 ∅ 0 : sProp 𝕄)) = bigSep Finset.univ fun c : Dev nD => atPos ER (barCell c) 0 ∅ 0 := bigSep_map _

theorem own_all : iprop((bigSep barCells fun g => (atPos ER g 0 ∅ 0 : sProp 𝕄)) ∗ (bigSep scCells fun g => openTok ER g) ∗ bb ghost) ⊢ (bigSep Finset.univ fun c => own₁ c : sProp 𝕄) := by
  rw [opens_eq, ats_eq, show bb ghost = bigSep Finset.univ fun c : Dev nD => (iprop(ghost c 0 ∗ ghost c 1) : sProp 𝕄) from bigSep_congr fun c _ => BI.bigSep_fin_two _]
  unfold own₁
  exact (sep_mono_right (bigSep_two _ _)).trans (bigSep_two _ _)

/-- Every device's state at the start. -/
theorem launch (ρ : Dev nD → PrngReg) :
    iprop((bigSep Finset.univ fun c : Dev nD => iprop(unscopedSems0 c ∗ owes (c : Thread nD τ) (O₀ c) ∅ ∗ Pipeline.launchCred O₀ c ∗ prngReg c (ρ c) ∗ onDev 0 ghosts c)) ∗ levAts L lv)
      ⊢ (|={Set.univ}=> bigSep Finset.univ (E₀ V) : sProp 𝕄) := by
  iintro ⟨H, -⟩
  ihave H' := (launch_all ρ) $$ H
  icases H' with ⟨HB, Hv, HG⟩
  unfold ghosts
  icases HG with ⟨HR, HS⟩
  imod (Rounds.fund_launch ER (Rd (chs V)) disjoint_cells (fun g _ h => h) toks) $$ [Hv HR] with ⟨%κ, -, #Hinv, #Hr, Hat, Hopen, Htok⟩
  · isplitl [Hv]; · iexact Hv
    iexact HR
  imod (Release.slots_init ES keys 1 keySlot) $$ HS with ⟨%J, -, #Hsl, Hrd, Hwr⟩
  imodintro
  iapply (bigSep_with_persistent (R := recs (chs V) κ J) (Φ := fun c => iprop(own₁ c ∗ plain c)) fun c _ => E₀_intro V κ J c)
  isplitr
  · unfold recs
    isplitr; · iexact Hinv
    isplitr; · iexact Hsl
    iexact Hr
  iapply bigSep_two
  isplitr [HB]
  · iapply own_all
    isplitl [Hat]; · iexact Hat
    isplitl [Hopen]; · iexact Hopen
    iapply deal
    isplitl [Htok]; · iexact Htok
    isplitl [Hrd]; · iexact Hrd
    iexact Hwr
  iexact HB

/-! ## The run -/

variable (m : (ℓ : Loc nD τ sig) → Buf (Elt F) ℓ) (ρ : Dev nD → PrngReg)

/-- What the region leaves. -/
def outs : Gen.Outs (F := F) := fun _ r c => V' (Gen.V9 m) c r

theorem after_region (c : Dev nD) : Gen.V10 m (outs m) c = V' (Gen.V9 m) c := by
  show Function.update (Gen.V9 m c) (Proc.devRef .tc main_v65) (V' (Gen.V9 m) c main_v65) = V' (Gen.V9 m) c
  rw [show V' (Gen.V9 m) c main_v65 = res (Gen.V9 m) c from Function.update_self ..]
  rfl

/-- The state beside the buffers, before and after the region. -/
def E (i : Fin 2) (c : Dev nD) : sProp 𝕄 := if i = 0 then E₀ (Gen.V9 m) c else E₁ c

theorem start (c : Dev nD) : (unscopedBufs c (fun b => m ((c.tc : Thread nD τ).loc b)) : sProp 𝕄) = StableHlo.held (c : Thread nD τ) (Pipeline.ucRefs τ sig) (Gen.V0 m c) :=
  Pipeline.unscopedBufs_held c (Gen.V0 m c)

theorem start_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ onDev 0 ghosts c)) ∗ levAts L lv)
      ⊢ (|={Set.univ}=> bigSep Finset.univ fun c : Dev nD => iprop(StableHlo.held (c : Thread nD τ) (Pipeline.ucRefs τ sig) (Gen.V0 m c) ∗ E m 0 c) : sProp 𝕄) := by
  rw [bigSep_sep', bigSep_congr fun c _ => start m c]
  iintro ⟨⟨Hh, H⟩, Hl⟩
  imod (launch (Gen.V9 m) ρ) $$ [H Hl] with HE
  · isplitl [H]; · iexact H
    iexact Hl
  imodintro
  iapply bigSep_two
  isplitl [Hh]; · iexact Hh
  iexact HE

set_option backward.isDefEq.respectTransparency.types false in
/-- From any memory with zero counters every weakly fair run of the program on the 32 devices ends, every unscoped buffer at
    the value its operations give it and every counter at zero. -/
theorem run_main (hm : ∀ c, Gen.V9 m c main_v64 = metaT c) : θ_run defs (onTc (τ := τ) (main (F := F))) ⟨m, fun _ => 0, ρ⟩ (fun r =>
    (∀ c : Dev nD, ∀ b : Ref sig .tc, b.isScoped = false → r.2.mem ((c.tc : Thread nD τ).loc b) = Gen.V11 m (outs m) c b) ∧ r.2.sem = fun _ => 0) :=
  Pipeline.θ_run_regions_kit_dev_sems (pcfgs (F := F)) Gen.adm (datas (Gen.V9 m)) 0 Gen.cellOf_inj EP defs₀ 𝒱₀ L lv m ρ main
    (Gen.segs m (outs m) 𝒱₀ L lv (E m) 0 (datas (Gen.V9 m)) (region (Gen.V9 m) hm))
    (fun c Q => by
      rewrite [Gen.main_chain c, Seg.run_eq_chain,
        show (Gen.segs m (outs m) 𝒱₀ L lv (E m) 0 (datas (Gen.V9 m)) (region (Gen.V9 m) hm) c).map Seg.prog = [
          StableHlo.seq (Gen.hostOps0 c),
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          Prog.lift (.customCall (Pipeline.entry 0) ()),
          StableHlo.seq Gen.hostOps1 ] from rfl]
      dsimp (config := { failIfUnchanged := false }) only
      exact .rfl)
    (fun c => by simp only [Gen.segs, Seg.pipes_host, Seg.pipes_region, Seg.pipes_nil]; decide)
    (O₀ := O₀) (hL := L_of_ne) (G := onDev 0 ghosts) (u₀ := u₀)
    (hu₀ := by
      unfold u₀
      iintro Hu
      ihave H := (ownU_pair _ _) $$ Hu
      icases H with ⟨HP, HX⟩
      imodintro
      isplitl [HP]; · iexact HP
      rw [onDev_all]
      unfold ghosts
      iapply (own_pair_emb embR _ _) $$ HX)
    (T₀ := fun c => iprop(StableHlo.held (c : Thread nD τ) (Pipeline.ucRefs τ sig) (Gen.V0 m c) ∗ E m 0 c))
    (Tₙ := fun c => iprop(StableHlo.held (c : Thread nD τ) (Pipeline.ucRefs τ sig) (Gen.V11 m (outs m) c) ∗ semVal (barCell c) 0))
    (hch := fun c => ⟨.rfl, .rfl, .rfl, .rfl, .rfl, .rfl, .rfl, .rfl, .rfl, region_pre (Gen.V9 m) c hm,
      (region_post (Gen.V9 m) c hm).trans (Entails.of_eq (show (iprop(StableHlo.held (c : Thread nD τ) (Pipeline.ucRefs τ sig) (V' (Gen.V9 m) c) ∗ E₁ c) : sProp 𝕄) = iprop(StableHlo.held (c : Thread nD τ) (Pipeline.ucRefs τ sig) (Gen.V10 m (outs m) c) ∗ E₁ c) by rw [after_region])),
      (show (iprop(StableHlo.held (c : Thread nD τ) (Pipeline.ucRefs τ sig) (Gen.V11 m (outs m) c) ∗ E₁ c) : sProp 𝕄) ⊢ _ by
        unfold E₁
        iintro ⟨H1, H2, H3⟩
        isplitr [H3]
        · isplitl [H1]; · iexact H1
          iexact H2
        iexact H3)⟩)
    (hinit := start_all m ρ)
    (QY := fun c s => (∀ b : Ref sig .tc, b.isScoped = false → s.mem ((c.tc : Thread nD τ).loc b) = Gen.V11 m (outs m) c b) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (Gen.V11 m (outs m) c) s') $$ [Hh HSI]
      · isplitl [Hh]; · iexact Hh
        iexact HSI
      icases Hr with ⟨%h, HSI⟩
      imodintro
      isplitr
      · ipureintro
        exact ⟨fun b hs => h (Proc.devRef .tc b) (Finset.mem_filter.mpr ⟨StableHlo.devRef_mem_tcRefs b, fun h' => Bool.false_ne_true (hs.symm.trans h')⟩), by simpa using hb⟩
      iexact HSI)
    (hQ := fun s h hs => ⟨fun c => (h c).1, sem_eq_zero hs fun c sm hsm => by
      obtain rfl := unscoped_eq sm hsm
      exact (h c).2⟩)

end Cert.Proof
-- ==== Proof.Host.lean ====
/- The table of words the host prepares: each device's neighbours along the ring and the owners of the chunks it will hold. -/
module

public import proofs.«01_k».proof.Proof.Launch
public import Idealize.ShloMosaic.Lib.StableHlo.ReadAt
public import Idealize.ShloMosaic.Lib.DynamicIndex
public import Idealize.ShloMosaic.Lib.Routing.OpsSet

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (c : Dev nD)

/-- A remainder with the sign of the divisor, and the correction of a negative index, as the host computes them. -/
def remW (a n : BitVec 32) : BitVec 32 :=
  let d := Scalar.select (IntOp.cmpi .eq n 0#32) 1#32 n
  let r := IntOp.remsi ArithUnit.host a d
  Scalar.select (IntOp.andi (IntOp.cmpi .ne (IntOp.cmpi .slt r 0#32) (IntOp.cmpi .slt d 0#32)) (IntOp.cmpi .ne r 0#32)) (IntOp.addi r d) r
def fixW (a n : BitVec 32) : BitVec 32 := Scalar.select (IntOp.cmpi .slt a 0#32) (IntOp.addi a n) a

theorem word_slice (tab : S32.Idx → BitVec 32) (st : Fin 1 → Int) (h) (n : Fin 32) (hn : ∀ k, st k = n.val) (j : S1.Idx) :
    Host.dynamicSlice S1 tab st h j = tab (ix1 n) := by
  rw [Host.dynamicSlice_apply]
  congr 1
  funext a
  fin_cases a
  apply Fin.ext
  show Host.clampedStart S32 S1 _ st 0 + (j 0).val = n.val
  have hj : (j 0).val = 0 := by have := (j 0).isLt; change (j 0).val < 1 at this; omega
  rw [hj, Host.clampedStart_of_le _ _ _ n.val (hn 0) (by show n.val + 1 ≤ 32; omega)]
  rfl

theorem up_word (p : Fin 32) : fixW (remW (BitVec.ofNat 32 p.val + 1#32) 32#32) 32#32 = BitVec.ofNat 32 ((p.val + 1) % 32) := by
  revert p; decide +kernel
theorem down_word (p : Fin 32) : fixW (remW (BitVec.ofNat 32 p.val - 1#32) 32#32) 32#32 = BitVec.ofNat 32 ((p.val + 31) % 32) := by
  revert p; decide +kernel
theorem ups_word (p : Fin 32) (q : Fin 17) : fixW (remW (BitVec.ofNat 32 p.val - BitVec.ofNat 32 q.val) 32#32) 32#32 = BitVec.ofNat 32 ((p.val + 31 * q.val) % 32) := by
  revert p q; decide +kernel
theorem downs_word (p : Fin 32) (q : Fin 16) : fixW (remW (BitVec.ofNat 32 p.val + BitVec.ofNat 32 q.val) 32#32) 32#32 = BitVec.ofNat 32 ((p.val + q.val) % 32) := by
  revert p q; decide +kernel
theorem ring_words (n : Fin 32) : lit0 (S32.rowMajor (ix1 n)) = Dev.word (ringTab n) := by revert n; decide +kernel
theorem pos_words (n : Fin 32) : lit1 (S32.rowMajor (ix1 n)) = BitVec.ofNat 32 (posTab n).val := by revert n; decide +kernel
theorem dev_words (n : Fin 32) : fixW (Host.remui (Host.divui (fun _ : S_.Idx => Dev.word n) (fun _ => 1#32)) (fun _ => 32#32) (Shape.Idx.first Gen.h_S_)) 32#32 = BitVec.ofNat 32 n.val := by revert n; decide +kernel

theorem pos_at (j) : Gen.V1 m c main_v25 j = BitVec.ofNat 32 (pos c) := by
  show StableHlo.after (Gen.hostOps0 c) (Gen.V0 m c) (Proc.devRef .tc main_v25) j = _
  after_reads_simp
  refine Eq.trans (word_slice _ _ _ c (fun k => ?_) _) (pos_words c)
  fin_cases k
  show BitVec.toInt (StableHlo.upto (Gen.hostOps0 c) (Gen.V0 m c) 40 (Proc.devRef .tc main_v23) (Shape.Idx.first Gen.h_S_)) = _
  after_reads_simp
  exact Eq.trans (congrArg BitVec.toInt (dev_words c)) (toInt_ofNat_of_lt (by omega))
theorem pos_up (j) : Gen.V1 m c main_v26 j = BitVec.ofNat 32 (pos c) + 1#32 := by
  rw [← pos_at m c j]
  show (_ : BitVec 32) = _
  show StableHlo.after (Gen.hostOps0 c) (Gen.V0 m c) (Proc.devRef .tc main_v26) j = IntOp.addi (StableHlo.after (Gen.hostOps0 c) (Gen.V0 m c) (Proc.devRef .tc main_v25) j) 1#32
  after_reads_simp
  rfl
theorem ring_of : Gen.V1 m c main_c = fun i => lit0 (S32.rowMajor i) := by
  show StableHlo.after (Gen.hostOps0 c) (Gen.V0 m c) (Proc.devRef .tc main_c) = _
  after_reads_simp
  rfl
theorem rem0 (W : Valuation τ sig (Elt F)) (j) : StableHlo.after (Gen.hostOps0_1) W (Proc.devRef .tc main_v27) j = remW (W main_v26 j) (W main_c_17 j) := by
  after_reads_at
  rfl
theorem rem2 (W : Valuation τ sig (Elt F)) (j) : StableHlo.after (Gen.hostOps0_5) W (Proc.devRef .tc main_v43) j = remW (W main_v42 j) (W main_c_24 ix0) := by
  after_reads_at
  rfl
theorem rem3 (W : Valuation τ sig (Elt F)) (j) : StableHlo.after (Gen.hostOps0_7) W (Proc.devRef .tc main_v54) j = remW (W main_v53 j) (W main_c_27 ix0) := by
  after_reads_at
  rfl
theorem rem1 (W : Valuation τ sig (Elt F)) (j) : StableHlo.after (Gen.hostOps0_3) W (Proc.devRef .tc main_v34) j = remW (W main_v33 j) (W main_c_21 j) := by
  after_reads_at
  rfl
theorem right_of (W : Valuation τ sig (Elt F)) (n : Fin 32) (hn : ∀ i, fixW (W main_v27 i) 32#32 = BitVec.ofNat 32 n.val) (j) :
    StableHlo.after (Gen.hostOps0_2) W (Proc.devRef .tc main_v32) j = (W main_c : S32.Idx → BitVec 32) (ix1 n) := by
  after_reads_simp
  refine word_slice _ _ _ n (fun k => ?_) _
  fin_cases k
  show BitVec.toInt (StableHlo.upto Gen.hostOps0_2 W 5 (Proc.devRef .tc main_v30) (Shape.Idx.first Gen.h_S_)) = _
  after_reads_simp
  refine Eq.trans (congrArg BitVec.toInt (hn _)) (toInt_ofNat_of_lt (by omega))
theorem left_of (W : Valuation τ sig (Elt F)) (n : Fin 32) (hn : ∀ i, fixW (W main_v34 i) 32#32 = BitVec.ofNat 32 n.val) (j) :
    StableHlo.after (Gen.hostOps0_4) W (Proc.devRef .tc main_v39) j = (W main_c : S32.Idx → BitVec 32) (ix1 n) := by
  after_reads_simp
  refine word_slice _ _ _ n (fun k => ?_) _
  fin_cases k
  show BitVec.toInt (StableHlo.upto Gen.hostOps0_4 W 5 (Proc.devRef .tc main_v37) (Shape.Idx.first Gen.h_S_)) = _
  after_reads_simp
  refine Eq.trans (congrArg BitVec.toInt (hn _)) (toInt_ofNat_of_lt (by omega))
theorem org_ups (W : Valuation τ sig (Elt F)) (q : Fin 17) (n : Fin 32) (hn : fixW (W main_v43 (ix1 q)) 32#32 = BitVec.ofNat 32 n.val) :
    StableHlo.after (Gen.hostOps0_6) W (Proc.devRef .tc main_v50) (ix1 q) = W main_c (ix1 n) := by
  after_reads_simp
  exact Routing.gather_take1 _ rfl rfl rfl rfl _ _ q n (by pointwise; exact hn) (by decide)
theorem org_downs (W : Valuation τ sig (Elt F)) (q : Fin 16) (n : Fin 32) (hn : fixW (W main_v54 (ix1 q)) 32#32 = BitVec.ofNat 32 n.val) :
    StableHlo.after (Gen.hostOps0_8) W (Proc.devRef .tc main_v61) (ix1 q) = W main_c (ix1 n) := by
  after_reads_simp
  exact Routing.gather_take1 _ rfl rfl rfl rfl _ _ q n (by pointwise; exact hn) (by decide)
theorem diff_of (W : Valuation τ sig (Elt F)) (q : Fin 17) :
    StableHlo.after (Gen.hostOps0_4) W (Proc.devRef .tc main_v42) (ix1 q) = IntOp.subi (W main_v25 ix0) (BitVec.ofNat 32 q.val) := by
  after_reads_at
theorem sum_of (W : Valuation τ sig (Elt F)) (q : Fin 16) :
    StableHlo.after (Gen.hostOps0_6) W (Proc.devRef .tc main_v53) (ix1 q) = IntOp.addi (W main_v25 ix0) (BitVec.ofNat 32 q.val) := by
  after_reads_at
theorem minus_of (W : Valuation τ sig (Elt F)) (j) :
    StableHlo.after (Gen.hostOps0_2) W (Proc.devRef .tc main_v33) j = IntOp.subi (W main_v25 j) 1#32 := by
  after_reads_simp
  rfl

theorem cat_at {α : Type} (p0 p1 : S1.Idx → α) (p2 : S17.Idx → α) (p3 : S16.Idx → α) (h) (i : Fin 35) :
    concatenate S35 0 [⟨S1, p0⟩, ⟨S1, p1⟩, ⟨S17, p2⟩, ⟨S16, p3⟩] h (ix1 i)
      = if i.val = 0 then p0 (ix1 0) else if i.val = 1 then p1 (ix1 0) else
        if h : i.val < 19 then p2 (ix1 ⟨i.val - 2, by omega⟩) else p3 (ix1 ⟨i.val - 19, by omega⟩) := by
  rw [concatenate_apply]
  pointwise
  by_cases h0 : i.val = 0
  · rw [dif_pos (show i.val < 1 by omega), if_pos h0]
    exact congrArg p0 (congrArg ix1 (Subsingleton.elim _ _))
  · rw [dif_neg (show ¬ i.val < 1 by omega), if_neg h0]
    by_cases h1 : i.val = 1
    · rw [dif_pos (show i.val - 1 < 1 by omega), if_pos h1]
      exact congrArg p1 (congrArg ix1 (Subsingleton.elim _ _))
    · rw [dif_neg (show ¬ i.val - 1 < 1 by omega), if_neg h1]
      by_cases h2 : i.val < 19
      · rw [dif_pos (show i.val - 1 - 1 < 17 by omega), dif_pos h2]
        exact congrArg p2 (congrArg ix1 (Fin.ext (by show i.val - 1 - 1 = i.val - 2; omega)))
      · rw [dif_neg (show ¬ i.val - 1 - 1 < 17 by omega), dif_neg h2]
        exact congrArg p3 (congrArg ix1 (Fin.ext (by show i.val - 1 - 1 - 17 = i.val - 19; omega)))

theorem cat_congr {α : Type} {p0 q0 p1 q1 : S1.Idx → α} {p2 q2 : S17.Idx → α} {p3 q3 : S16.Idx → α} (h) (e0 : p0 = q0) (e1 : p1 = q1)
    (e2 : p2 = q2) (e3 : p3 = q3) : concatenate S35 0 [⟨S1, p0⟩, ⟨S1, p1⟩, ⟨S17, p2⟩, ⟨S16, p3⟩] h
      = concatenate S35 0 [⟨S1, q0⟩, ⟨S1, q1⟩, ⟨S17, q2⟩, ⟨S16, q3⟩] Gen.concatenates_S1_S1_S17_S16_S35_d0 := by
  subst e0 e1 e2 e3; rfl

theorem cat_of (W : Valuation τ sig (Elt F)) : StableHlo.after (Gen.hostOps0_8) W (Proc.devRef .tc main_v64) =
    concatenate S35 0 [⟨S1, StableHlo.after (Gen.hostOps0_8) W (Proc.devRef .tc main_v62)⟩, ⟨S1, StableHlo.after (Gen.hostOps0_8) W (Proc.devRef .tc main_v63)⟩,
      ⟨S17, StableHlo.after (Gen.hostOps0_8) W (Proc.devRef .tc main_v50)⟩, ⟨S16, StableHlo.after (Gen.hostOps0_8) W (Proc.devRef .tc main_v61)⟩] Gen.concatenates_S1_S1_S17_S16_S35_d0 := by
  have e0 : StableHlo.upto (Gen.hostOps0_8) W 11 (Proc.devRef .tc main_v62) = StableHlo.after (Gen.hostOps0_8) W (Proc.devRef .tc main_v62) := by after_reads_simp
  have e1 : StableHlo.upto (Gen.hostOps0_8) W 11 (Proc.devRef .tc main_v63) = StableHlo.after (Gen.hostOps0_8) W (Proc.devRef .tc main_v63) := by after_reads_simp
  have e2 : StableHlo.upto (Gen.hostOps0_8) W 11 (Proc.devRef .tc main_v50) = StableHlo.after (Gen.hostOps0_8) W (Proc.devRef .tc main_v50) := by after_reads_simp
  have e3 : StableHlo.upto (Gen.hostOps0_8) W 11 (Proc.devRef .tc main_v61) = StableHlo.after (Gen.hostOps0_8) W (Proc.devRef .tc main_v61) := by after_reads_simp
  refine Eq.trans ?_ (cat_congr Gen.concatenates_S1_S1_S17_S16_S35_d0 e0 e1 e2 e3)
  have e : StableHlo.after (Gen.hostOps0_8) W (Proc.devRef .tc main_v64) = concatenate S35 0
      [⟨S1, StableHlo.upto (Gen.hostOps0_8) W 11 (Proc.devRef .tc (![main_v62, main_v63, main_v50, main_v61] 0))⟩,
        ⟨S1, StableHlo.upto (Gen.hostOps0_8) W 11 (Proc.devRef .tc (![main_v62, main_v63, main_v50, main_v61] 1))⟩,
        ⟨S17, StableHlo.upto (Gen.hostOps0_8) W 11 (Proc.devRef .tc (![main_v62, main_v63, main_v50, main_v61] 2))⟩,
        ⟨S16, StableHlo.upto (Gen.hostOps0_8) W 11 (Proc.devRef .tc (![main_v62, main_v63, main_v50, main_v61] 3))⟩]
      Gen.concatenates_S1_S1_S17_S16_S35_d0 := by after_reads_simp; rfl
  exact e

theorem v25_4 (j) : Gen.V4 m c main_v25 j = BitVec.ofNat 32 (pos c) := by
  rw [Gen.V4_of m c main_v25 (by decide), Gen.V3_of m c main_v25 (by decide), Gen.V2_of m c main_v25 (by decide), pos_at]
theorem v25_6 (j) : Gen.V6 m c main_v25 j = BitVec.ofNat 32 (pos c) := by
  rw [Gen.V6_of m c main_v25 (by decide), Gen.V5_of m c main_v25 (by decide), v25_4]
theorem ring_2 (n : Fin 32) : (Gen.V2 m c main_c : S32.Idx → BitVec 32) (ix1 n) = Dev.word (ringTab n) := by
  rw [Gen.V2_of m c main_c (by decide), ring_of]; exact ring_words n
theorem ring_4 (n : Fin 32) : (Gen.V4 m c main_c : S32.Idx → BitVec 32) (ix1 n) = Dev.word (ringTab n) := by
  rw [Gen.V4_of m c main_c (by decide), Gen.V3_of m c main_c (by decide)]; exact ring_2 m c n
theorem ring_6 (n : Fin 32) : (Gen.V6 m c main_c : S32.Idx → BitVec 32) (ix1 n) = Dev.word (ringTab n) := by
  rw [Gen.V6_of m c main_c (by decide), Gen.V5_of m c main_c (by decide)]; exact ring_4 m c n
theorem ring_8 (n : Fin 32) : (Gen.V8 m c main_c : S32.Idx → BitVec 32) (ix1 n) = Dev.word (ringTab n) := by
  rw [Gen.V8_of m c main_c (by decide), Gen.V7_of m c main_c (by decide)]; exact ring_6 m c n
theorem n17 (j) : (Gen.V1 m c main_c_17) j = 32#32 := by
  show StableHlo.after (Gen.hostOps0 c) (Gen.V0 m c) (Proc.devRef .tc main_c_17) j = _
  after_reads_simp; rfl
theorem n21 (j) : (Gen.V3 m c main_c_21) j = 32#32 := by
  show StableHlo.after Gen.hostOps0_2 _ (Proc.devRef .tc main_c_21) j = _
  after_reads_simp; rfl
theorem n24 (j) : (Gen.V5 m c main_c_24) j = 32#32 := by
  show StableHlo.after Gen.hostOps0_4 _ (Proc.devRef .tc main_c_24) j = _
  after_reads_simp; rfl
theorem n27 (j) : (Gen.V7 m c main_c_27) j = 32#32 := by
  show StableHlo.after Gen.hostOps0_6 _ (Proc.devRef .tc main_c_27) j = _
  after_reads_simp; rfl
theorem right_at (j) : Gen.V8 m c main_v32 j = Dev.word (nb 0 c) := by
  rw [Gen.V8_of m c main_v32 (by decide), Gen.V7_of m c main_v32 (by decide), Gen.V6_of m c main_v32 (by decide), Gen.V5_of m c main_v32 (by decide),
    Gen.V4_of m c main_v32 (by decide)]
  refine (right_of (Gen.V2 m c) ⟨(pos c + 1) % 32, Nat.mod_lt _ (by decide)⟩ (fun i => ?_) j).trans (ring_2 m c _)
  refine (congrArg (fixW · 32#32) ((rem0 (Gen.V1 m c) i).trans ?_)).trans (up_word (posTab c))
  rw [pos_up, n17]; rfl
theorem left_at (j) : Gen.V8 m c main_v39 j = Dev.word (nb 1 c) := by
  rw [Gen.V8_of m c main_v39 (by decide), Gen.V7_of m c main_v39 (by decide), Gen.V6_of m c main_v39 (by decide)]
  refine (left_of (Gen.V4 m c) ⟨(pos c + 31) % 32, Nat.mod_lt _ (by decide)⟩ (fun i => ?_) j).trans (ring_4 m c _)
  refine (congrArg (fixW · 32#32) ((rem1 (Gen.V3 m c) i).trans ?_)).trans (down_word (posTab c))
  rw [n21]
  refine congrArg (remW · 32#32) ((minus_of (Gen.V2 m c) i).trans ?_)
  rw [Gen.V2_of m c main_v25 (by decide), pos_at]; rfl
theorem ups_at (q : Fin 17) : Gen.V9 m c main_v50 (ix1 q) = Dev.word (org 0 c q.val) := by
  rw [Gen.V9_of m c main_v50 (by decide), Gen.V8_of m c main_v50 (by decide)]
  refine (org_ups (Gen.V6 m c) q ⟨(pos c + 31 * q.val) % 32, Nat.mod_lt _ (by decide)⟩ ?_).trans (ring_6 m c _)
  refine (congrArg (fixW · 32#32) ((rem2 (Gen.V5 m c) (ix1 q)).trans ?_)).trans (ups_word (posTab c) q)
  rw [n24]
  refine congrArg (remW · 32#32) ((diff_of (Gen.V4 m c) q).trans ?_)
  rw [v25_4]; rfl
theorem downs_at (q : Fin 16) : Gen.V9 m c main_v61 (ix1 q) = Dev.word (org 1 c q.val) := by
  refine (org_downs (Gen.V8 m c) q ⟨(pos c + q.val) % 32, Nat.mod_lt _ (by decide)⟩ ?_).trans (ring_8 m c _)
  refine (congrArg (fixW · 32#32) ((rem3 (Gen.V7 m c) (ix1 q)).trans ?_)).trans (downs_word (posTab c) q)
  rw [n27]
  refine congrArg (remW · 32#32) ((sum_of (Gen.V6 m c) q).trans ?_)
  rw [v25_6]; rfl
theorem first_of (W : Valuation τ sig (Elt F)) (j) : StableHlo.after Gen.hostOps0_8 W (Proc.devRef .tc main_v62) j = W main_v32 ix0 := by
  after_reads_at
theorem second_of (W : Valuation τ sig (Elt F)) (j) : StableHlo.after Gen.hostOps0_8 W (Proc.devRef .tc main_v63) j = W main_v39 ix0 := by
  after_reads_at

/-- The table the host hands the kernel names the neighbours and the owners of the chunks. -/
theorem meta_ok : Gen.V9 m c main_v64 = metaT c := by
  funext x
  obtain ⟨i, rfl⟩ : ∃ i : Fin 35, x = ix1 i := ⟨x 0, funext fun a => by fin_cases a; rfl⟩
  refine (congrFun (cat_of (Gen.V8 m c)) (ix1 i)).trans ?_
  refine (cat_at _ _ _ _ _ i).trans ?_
  show _ = metaW c i.val
  unfold metaW
  by_cases h0 : i.val = 0
  · rw [if_pos h0, if_pos h0]; exact (first_of (Gen.V8 m c) _).trans (right_at m c _)
  · rw [if_neg h0, if_neg h0]
    by_cases h1 : i.val = 1
    · rw [if_pos h1, if_pos h1]; exact (second_of (Gen.V8 m c) _).trans (left_at m c _)
    · rw [if_neg h1, if_neg h1]
      by_cases h2 : i.val < 19
      · rw [dif_pos h2, if_pos h2]; exact ups_at m c _
      · rw [dif_neg h2, if_neg h2]; exact downs_at m c _

end Cert.Proof
-- ==== Proof.Frames.lean ====
/- The frames of the two kernel programs and of the reference. -/
module

public import proofs.«01_k».proof.Proof.Host
public import proofs.«01_k».proof.Defs
public import proofs.«01_k».proof.Proof.Gen.Kernel
public import proofs.«01_k».proof.Proof.Gen.ReferenceIdeal
public import Idealize.ShloMosaic.Lib.Claim

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- The run of the kernel's program at either instance: each argument ends as it began, every counter ends at zero. -/
theorem run_frame : θ_run defs (onTc (τ := τ) (main (F := F))) ⟨m, fun _ => 0, ρ⟩ (fun r =>
    (∀ c : Dev nD, r.2.mem ((c.tc : Thread nD τ).loc main_v66) = Gen.V11 m (outs m) c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨h.1 c main_v66 (by decide),
    (h.1 c main_arg0 (by decide)).trans (Gen.V11_main_arg0 m (outs m) c),
    (h.1 c main_arg1 (by decide)).trans (Gen.V11_main_arg1 m (outs m) c),
    (h.1 c main_arg2 (by decide)).trans (Gen.V11_main_arg2 m (outs m) c),
    (h.1 c main_arg3 (by decide)).trans (Gen.V11_main_arg3 m (outs m) c),
    (h.1 c main_arg4 (by decide)).trans (Gen.V11_main_arg4 m (outs m) c)⟩, h.2⟩) (run_main m ρ (meta_ok m))

/-- The same without the result. -/
theorem run_args : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_frame m ρ)

theorem frame_ideal : Cert.quiescent_KernelIdeal := fun m ρ _ => run_args (F := Ideal) m ρ

end Cert.Proof
-- ==== Proof.Same.lean ====
/- The kernel as printed and the kernel as idealized are one program, so the run of one is the run of the other. -/
module

public import proofs.«01_k».proof.Proof.Frames

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

set_option maxHeartbeats 400000
/-- The two kernel bodies are the same program. -/
theorem call_eq : (Cert.Kernel.cc0__body (F := Bits) : type_of% (Cert.KernelIdeal.cc0__body (F := Bits))) = Cert.KernelIdeal.cc0__body (F := Bits) := (rfl)
theorem defs0_eq : (Cert.Kernel.defs₀ (F := Bits)) = Cert.KernelIdeal.defs₀ (F := Bits) := by
  unfold Cert.Kernel.defs₀ Cert.KernelIdeal.defs₀
  refine congrArg Defs.onTc (funext fun l => funext fun a => ?_)
  obtain ⟨i, hi⟩ := l
  obtain _ | i := i
  · obtain ⟨t, s⟩ := a
    dsimp only
    rw [← call_eq]
  · exact absurd hi (Nat.not_lt.2 (Nat.le_add_left _ _))
theorem pc_eq : (Cert.Kernel.pcfgs (F := Bits)) = Cert.KernelIdeal.pcfgs (F := Bits) := (rfl)
theorem def_eq : (Cert.Kernel.defs (F := Bits)) = Cert.KernelIdeal.defs (F := Bits) := by
  unfold Cert.Kernel.defs Cert.KernelIdeal.defs
  exact congrArg (Pipeline.defs Cert.KernelIdeal.pcfgs) defs0_eq
set_option maxHeartbeats 4000000 in
theorem part1_eq (d) : (Cert.Kernel.main_part1 (F := Bits) d) = Cert.KernelIdeal.main_part1 (F := Bits) d := by
  unfold Cert.Kernel.main_part1 Cert.KernelIdeal.main_part1
  repeat (refine congr (congrArg _ ?_) (funext fun _ => ?_); · rfl)
  rfl
set_option maxHeartbeats 4000000 in
theorem part0_eq (d) : (Cert.Kernel.main_part0 (F := Bits) d) = Cert.KernelIdeal.main_part0 (F := Bits) d := by
  unfold Cert.Kernel.main_part0 Cert.KernelIdeal.main_part0
  repeat (refine congr (congrArg _ ?_) (funext fun _ => ?_); · rfl)
  rfl
theorem main_eq : (Cert.Kernel.main (F := Bits)) = Cert.KernelIdeal.main (F := Bits) := by
  funext d
  unfold Cert.Kernel.main Cert.KernelIdeal.main
  rw [part0_eq, part1_eq]
theorem frame_kernel : Cert.quiescent_Kernel := fun m ρ _ => by
  rw [def_eq, main_eq]
  exact run_args (F := Bits) m ρ
end Cert.Proof
-- ==== Proof.RefRun.lean ====
/- The run of the reference: a straight line of array operations on one device. -/
module

public import proofs.«01_k».proof.Defs
public import proofs.«01_k».proof.Proof.Gen.ReferenceIdeal
public import Idealize.ShloMosaic.Lib.Quiescent
public import Idealize.ShloMosaic.Lib.Claim
public import Idealize.ShloMosaic.Lib.StableHlo.ReadAt

@[expose] public section

set_option maxRecDepth 16384

noncomputable section

namespace Cert.Proof.Ref

open Cert.ReferenceIdeal Cert.ReferenceIdeal.Facts₀
open Idealize.ShloMosaic Idealize.ShloMosaic.TcCoe Idealize.ShloMosaic.Tactic Idealize.SL.Sem

variable {F : FTy → Type} [FloatOps F]

/-- The mask: which pairs of rows may attend. -/
def ops1 : List (HloOp τ sig (Elt F)) :=
  [ StableHlo.binary main_arg0 main_arg1 main_v0 ((fun l r => Host.dotGeneral dot_S64x128x512_S512x8192_S64x128x8192_2_0_01_1_n_n none l r) : (⟨S64x128x512, .bf16⟩ : BufTy).Contents (Elt F) → (⟨S512x8192, .bf16⟩ : BufTy).Contents (Elt F) → (⟨S64x128x8192, .f32⟩ : BufTy).Contents (Elt F)),
    StableHlo.unary main_v0 main_v1 ((truncf .bf16 · bitsLt_bf16_f32) : (⟨S64x128x8192, .f32⟩ : BufTy).Contents (Elt F) → (⟨S64x128x8192, .bf16⟩ : BufTy).Contents (Elt F)),
    StableHlo.reshape main_v1 main_v2 (rfl : (.bf16 : EltTy) = .bf16) shapeCasts_S64x128x8192_S64x128x128x64,
    StableHlo.nullary main_v3 (iotaInDim S128 32 0),
    StableHlo.unary main_v3 main_v4 (broadcastInDim S128x1 ![0] bcast_S128_S128x1_0 : (⟨S128, .i32⟩ : BufTy).Contents (Elt F) → (⟨S128x1, .i32⟩ : BufTy).Contents (Elt F)),
    StableHlo.nullary main_v5 (iotaInDim S128 32 0),
    StableHlo.unary main_v5 main_v6 (broadcastInDim S1x128 ![1] bcast_S128_S1x128_1 : (⟨S128, .i32⟩ : BufTy).Contents (Elt F) → (⟨S1x128, .i32⟩ : BufTy).Contents (Elt F)),
    StableHlo.unary main_v4 main_v7 (broadcastInDim S128x128 ![0, 1] bcast_S128x1_S128x128_0_1 : (⟨S128x1, .i32⟩ : BufTy).Contents (Elt F) → (⟨S128x128, .i32⟩ : BufTy).Contents (Elt F)),
    StableHlo.unary main_v6 main_v8 (broadcastInDim S128x128 ![0, 1] bcast_S1x128_S128x128_0_1 : (⟨S1x128, .i32⟩ : BufTy).Contents (Elt F) → (⟨S128x128, .i32⟩ : BufTy).Contents (Elt F)),
    StableHlo.binary main_v7 main_v8 main_v9 (subi : (⟨S128x128, .i32⟩ : BufTy).Contents (Elt F) → (⟨S128x128, .i32⟩ : BufTy).Contents (Elt F) → (⟨S128x128, .i32⟩ : BufTy).Contents (Elt F)),
    StableHlo.unary main_v9 main_v10 (absi : (⟨S128x128, .i32⟩ : BufTy).Contents (Elt F) → (⟨S128x128, .i32⟩ : BufTy).Contents (Elt F)),
    StableHlo.nullary main_c (constantI S_ 32 128#32),
    StableHlo.unary main_c main_v11 (broadcastInDim S128x128 ![] bcast_S_S128x128 : (⟨S_, .i32⟩ : BufTy).Contents (Elt F) → (⟨S128x128, .i32⟩ : BufTy).Contents (Elt F)),
    StableHlo.binary main_v10 main_v11 main_v12 (cmpi .sle : (⟨S128x128, .i32⟩ : BufTy).Contents (Elt F) → (⟨S128x128, .i32⟩ : BufTy).Contents (Elt F) → (⟨S128x128, .i1⟩ : BufTy).Contents (Elt F)),
    StableHlo.nullary main_c_0 (constantI S_ 32 32#32),
    StableHlo.unary main_c_0 main_v13 (broadcastInDim S1x128 ![] bcast_S_S1x128 : (⟨S_, .i32⟩ : BufTy).Contents (Elt F) → (⟨S1x128, .i32⟩ : BufTy).Contents (Elt F)),
    StableHlo.binary main_v6 main_v13 main_v14 (cmpi .slt : (⟨S1x128, .i32⟩ : BufTy).Contents (Elt F) → (⟨S1x128, .i32⟩ : BufTy).Contents (Elt F) → (⟨S1x128, .i1⟩ : BufTy).Contents (Elt F)),
    StableHlo.nullary main_c_1 (constantI S_ 32 32#32),
    StableHlo.unary main_c_1 main_v15 (broadcastInDim S128x1 ![] bcast_S_S128x1 : (⟨S_, .i32⟩ : BufTy).Contents (Elt F) → (⟨S128x1, .i32⟩ : BufTy).Contents (Elt F)),
    StableHlo.binary main_v4 main_v15 main_v16 (cmpi .slt : (⟨S128x1, .i32⟩ : BufTy).Contents (Elt F) → (⟨S128x1, .i32⟩ : BufTy).Contents (Elt F) → (⟨S128x1, .i1⟩ : BufTy).Contents (Elt F)),
    StableHlo.unary main_v14 main_v17 (broadcastInDim S128x128 ![0, 1] bcast_S1x128_S128x128_0_1 : (⟨S1x128, .i1⟩ : BufTy).Contents (Elt F) → (⟨S128x128, .i1⟩ : BufTy).Contents (Elt F)),
    StableHlo.unary main_v16 main_v18 (broadcastInDim S128x128 ![0, 1] bcast_S128x1_S128x128_0_1 : (⟨S128x1, .i1⟩ : BufTy).Contents (Elt F) → (⟨S128x128, .i1⟩ : BufTy).Contents (Elt F)),
    StableHlo.binary main_v17 main_v18 main_v19 (ori : (⟨S128x128, .i1⟩ : BufTy).Contents (Elt F) → (⟨S128x128, .i1⟩ : BufTy).Contents (Elt F) → (⟨S128x128, .i1⟩ : BufTy).Contents (Elt F)),
    StableHlo.binary main_v12 main_v19 main_v20 (ori : (⟨S128x128, .i1⟩ : BufTy).Contents (Elt F) → (⟨S128x128, .i1⟩ : BufTy).Contents (Elt F) → (⟨S128x128, .i1⟩ : BufTy).Contents (Elt F)) ]

/-- The masked scores. -/
def ops2 : List (HloOp τ sig (Elt F)) :=
  [ StableHlo.binary main_v2 main_arg2 main_v21 ((fun l r => Host.dotGeneral dot_S64x128x128x64_S64x128x128x64_S64x128x128x128_3_3_1_1_02_02 none l r) : (⟨S64x128x128x64, .bf16⟩ : BufTy).Contents (Elt F) → (⟨S64x128x128x64, .bf16⟩ : BufTy).Contents (Elt F) → (⟨S64x128x128x128, .f32⟩ : BufTy).Contents (Elt F)),
    StableHlo.unary main_v21 main_v22 ((truncf .bf16 · bitsLt_bf16_f32) : (⟨S64x128x128x128, .f32⟩ : BufTy).Contents (Elt F) → (⟨S64x128x128x128, .bf16⟩ : BufTy).Contents (Elt F)),
    StableHlo.unary main_v22 main_v23 ((extf .f32 · bitsLt_bf16_f32) : (⟨S64x128x128x128, .bf16⟩ : BufTy).Contents (Elt F) → (⟨S64x128x128x128, .f32⟩ : BufTy).Contents (Elt F)),
    StableHlo.nullary main_cst (constant S_ .f32 0x3E000000#32),
    StableHlo.unary main_cst main_v24 (broadcastInDim S64x128x128x128 ![] bcast_S_S64x128x128x128 : (⟨S_, .f32⟩ : BufTy).Contents (Elt F) → (⟨S64x128x128x128, .f32⟩ : BufTy).Contents (Elt F)),
    StableHlo.binary main_v23 main_v24 main_v25 (mulf : (⟨S64x128x128x128, .f32⟩ : BufTy).Contents (Elt F) → (⟨S64x128x128x128, .f32⟩ : BufTy).Contents (Elt F) → (⟨S64x128x128x128, .f32⟩ : BufTy).Contents (Elt F)),
    StableHlo.unary main_v20 main_v26 (broadcastInDim S1x1x128x128 ![2, 3] bcast_S128x128_S1x1x128x128_2_3 : (⟨S128x128, .i1⟩ : BufTy).Contents (Elt F) → (⟨S1x1x128x128, .i1⟩ : BufTy).Contents (Elt F)),
    StableHlo.nullary main_cst_2 (constant S_ .f32 0xCE6E6B28#32),
    StableHlo.unary main_cst_2 main_call0_v0 (id : (⟨S_, .f32⟩ : BufTy).Contents (Elt F) → (⟨S_, .f32⟩ : BufTy).Contents (Elt F)),
    StableHlo.unary main_v26 main_call0_v1 (broadcastInDim S64x128x128x128 ![0, 1, 2, 3] bcast_S1x1x128x128_S64x128x128x128_0_1_2_3 : (⟨S1x1x128x128, .i1⟩ : BufTy).Contents (Elt F) → (⟨S64x128x128x128, .i1⟩ : BufTy).Contents (Elt F)),
    StableHlo.unary main_call0_v0 main_call0_v2 (broadcastInDim S64x128x128x128 ![] bcast_S_S64x128x128x128 : (⟨S_, .f32⟩ : BufTy).Contents (Elt F) → (⟨S64x128x128x128, .f32⟩ : BufTy).Contents (Elt F)),
    StableHlo.ternary main_call0_v1 main_v25 main_call0_v2 main_v27 (select : (⟨S64x128x128x128, .i1⟩ : BufTy).Contents (Elt F) → (⟨S64x128x128x128, .f32⟩ : BufTy).Contents (Elt F) → (⟨S64x128x128x128, .f32⟩ : BufTy).Contents (Elt F) → (⟨S64x128x128x128, .f32⟩ : BufTy).Contents (Elt F)) ]

/-- The exponentials of the scores below their row's largest. -/
def ops3 : List (HloOp τ sig (Elt F)) :=
  [ StableHlo.nullary main_cst_3 (constant S_ .f32 0xFF800000#32),
    StableHlo.binary main_v27 main_cst_3 main_v28 ((fun x v => Host.reduce FloatOps.maximumf x v reducesTo_S64x128x128x128_S64x128x128_d3 h_S_) : (⟨S64x128x128x128, .f32⟩ : BufTy).Contents (Elt F) → (⟨S_, .f32⟩ : BufTy).Contents (Elt F) → (⟨S64x128x128, .f32⟩ : BufTy).Contents (Elt F)),
    StableHlo.unary main_v28 main_v29 (broadcastInDim S64x128x128x1 ![0, 1, 2] bcast_S64x128x128_S64x128x128x1_0_1_2 : (⟨S64x128x128, .f32⟩ : BufTy).Contents (Elt F) → (⟨S64x128x128x1, .f32⟩ : BufTy).Contents (Elt F)),
    StableHlo.unary main_v29 main_v30 (broadcastInDim S64x128x128x128 ![0, 1, 2, 3] bcast_S64x128x128x1_S64x128x128x128_0_1_2_3 : (⟨S64x128x128x1, .f32⟩ : BufTy).Contents (Elt F) → (⟨S64x128x128x128, .f32⟩ : BufTy).Contents (Elt F)),
    StableHlo.binary main_v27 main_v30 main_v31 (subf : (⟨S64x128x128x128, .f32⟩ : BufTy).Contents (Elt F) → (⟨S64x128x128x128, .f32⟩ : BufTy).Contents (Elt F) → (⟨S64x128x128x128, .f32⟩ : BufTy).Contents (Elt F)),
    StableHlo.unary main_v31 main_v32 (Host.exp : (⟨S64x128x128x128, .f32⟩ : BufTy).Contents (Elt F) → (⟨S64x128x128x128, .f32⟩ : BufTy).Contents (Elt F)) ]

/-- The weights. -/
def ops4 : List (HloOp τ sig (Elt F)) :=
  [ StableHlo.nullary main_c_4 (constantI S_ 1 0#1),
    StableHlo.binary main_v20 main_c_4 main_v33 ((fun x v => Host.reduce IntOp.ori x v reducesTo_S128x128_S128_d1 h_S_) : (⟨S128x128, .i1⟩ : BufTy).Contents (Elt F) → (⟨S_, .i1⟩ : BufTy).Contents (Elt F) → (⟨S128, .i1⟩ : BufTy).Contents (Elt F)),
    StableHlo.unary main_v33 main_v34 (broadcastInDim S1x1x128x1 ![2] bcast_S128_S1x1x128x1_2 : (⟨S128, .i1⟩ : BufTy).Contents (Elt F) → (⟨S1x1x128x1, .i1⟩ : BufTy).Contents (Elt F)),
    StableHlo.nullary main_cst_5 (constant S_ .f32 0x00000000#32),
    StableHlo.binary main_v32 main_cst_5 main_v35 ((fun x v => Host.reduceAdd x v reducesTo_S64x128x128x128_S64x128x128_d3 h_S_) : (⟨S64x128x128x128, .f32⟩ : BufTy).Contents (Elt F) → (⟨S_, .f32⟩ : BufTy).Contents (Elt F) → (⟨S64x128x128, .f32⟩ : BufTy).Contents (Elt F)),
    StableHlo.unary main_v35 main_v36 (broadcastInDim S64x128x128x1 ![0, 1, 2] bcast_S64x128x128_S64x128x128x1_0_1_2 : (⟨S64x128x128, .f32⟩ : BufTy).Contents (Elt F) → (⟨S64x128x128x1, .f32⟩ : BufTy).Contents (Elt F)),
    StableHlo.nullary main_cst_6 (constant S_ .f32 0x3F800000#32),
    StableHlo.unary main_cst_6 main_call1_v0 (id : (⟨S_, .f32⟩ : BufTy).Contents (Elt F) → (⟨S_, .f32⟩ : BufTy).Contents (Elt F)),
    StableHlo.unary main_v34 main_call1_v1 (broadcastInDim S64x128x128x1 ![0, 1, 2, 3] bcast_S1x1x128x1_S64x128x128x1_0_1_2_3 : (⟨S1x1x128x1, .i1⟩ : BufTy).Contents (Elt F) → (⟨S64x128x128x1, .i1⟩ : BufTy).Contents (Elt F)),
    StableHlo.unary main_call1_v0 main_call1_v2 (broadcastInDim S64x128x128x1 ![] bcast_S_S64x128x128x1 : (⟨S_, .f32⟩ : BufTy).Contents (Elt F) → (⟨S64x128x128x1, .f32⟩ : BufTy).Contents (Elt F)),
    StableHlo.ternary main_call1_v1 main_v36 main_call1_v2 main_v37 (select : (⟨S64x128x128x1, .i1⟩ : BufTy).Contents (Elt F) → (⟨S64x128x128x1, .f32⟩ : BufTy).Contents (Elt F) → (⟨S64x128x128x1, .f32⟩ : BufTy).Contents (Elt F) → (⟨S64x128x128x1, .f32⟩ : BufTy).Contents (Elt F)),
    StableHlo.unary main_v37 main_v38 (broadcastInDim S64x128x128x128 ![0, 1, 2, 3] bcast_S64x128x128x1_S64x128x128x128_0_1_2_3 : (⟨S64x128x128x1, .f32⟩ : BufTy).Contents (Elt F) → (⟨S64x128x128x128, .f32⟩ : BufTy).Contents (Elt F)),
    StableHlo.binary main_v32 main_v38 main_v39 (Host.divf : (⟨S64x128x128x128, .f32⟩ : BufTy).Contents (Elt F) → (⟨S64x128x128x128, .f32⟩ : BufTy).Contents (Elt F) → (⟨S64x128x128x128, .f32⟩ : BufTy).Contents (Elt F)),
    StableHlo.unary main_v33 main_v40 (broadcastInDim S1x1x128x1 ![2] bcast_S128_S1x1x128x1_2 : (⟨S128, .i1⟩ : BufTy).Contents (Elt F) → (⟨S1x1x128x1, .i1⟩ : BufTy).Contents (Elt F)),
    StableHlo.nullary main_cst_7 (constant S_ .f32 0x00000000#32),
    StableHlo.unary main_cst_7 main_call2_v0 (id : (⟨S_, .f32⟩ : BufTy).Contents (Elt F) → (⟨S_, .f32⟩ : BufTy).Contents (Elt F)),
    StableHlo.unary main_v40 main_call2_v1 (broadcastInDim S64x128x128x128 ![0, 1, 2, 3] bcast_S1x1x128x1_S64x128x128x128_0_1_2_3 : (⟨S1x1x128x1, .i1⟩ : BufTy).Contents (Elt F) → (⟨S64x128x128x128, .i1⟩ : BufTy).Contents (Elt F)),
    StableHlo.unary main_call2_v0 main_call2_v2 (broadcastInDim S64x128x128x128 ![] bcast_S_S64x128x128x128 : (⟨S_, .f32⟩ : BufTy).Contents (Elt F) → (⟨S64x128x128x128, .f32⟩ : BufTy).Contents (Elt F)),
    StableHlo.ternary main_call2_v1 main_v39 main_call2_v2 main_v41 (select : (⟨S64x128x128x128, .i1⟩ : BufTy).Contents (Elt F) → (⟨S64x128x128x128, .f32⟩ : BufTy).Contents (Elt F) → (⟨S64x128x128x128, .f32⟩ : BufTy).Contents (Elt F) → (⟨S64x128x128x128, .f32⟩ : BufTy).Contents (Elt F)) ]

/-- The weighted values and their projection. -/
def ops5 : List (HloOp τ sig (Elt F)) :=
  [ StableHlo.unary main_arg3 main_v42 ((extf .f32 · bitsLt_bf16_f32) : (⟨S64x128x128x64, .bf16⟩ : BufTy).Contents (Elt F) → (⟨S64x128x128x64, .f32⟩ : BufTy).Contents (Elt F)),
    StableHlo.binary main_v42 main_v41 main_v43 ((fun l r => Host.dotGeneral dot_S64x128x128x64_S64x128x128x128_S64x128x64x128_1_3_3_2_02_01 none l r) : (⟨S64x128x128x64, .f32⟩ : BufTy).Contents (Elt F) → (⟨S64x128x128x128, .f32⟩ : BufTy).Contents (Elt F) → (⟨S64x128x64x128, .f32⟩ : BufTy).Contents (Elt F)),
    StableHlo.unary main_v43 main_v44 ((transpose S64x128x128x64 [0, 3, 1, 2] · transposes_S64x128x64x128_S64x128x128x64_0_3_1_2) : (⟨S64x128x64x128, .f32⟩ : BufTy).Contents (Elt F) → (⟨S64x128x128x64, .f32⟩ : BufTy).Contents (Elt F)),
    StableHlo.reshape main_v44 main_v45 (rfl : (.f32 : EltTy) = .f32) shapeCasts_S64x128x128x64_S64x128x8192,
    StableHlo.unary main_arg4 main_v46 ((extf .f32 · bitsLt_bf16_f32) : (⟨S8192x512, .bf16⟩ : BufTy).Contents (Elt F) → (⟨S8192x512, .f32⟩ : BufTy).Contents (Elt F)),
    StableHlo.binary main_v45 main_v46 main_v47 ((fun l r => Host.dotGeneral dot_S64x128x8192_S8192x512_S64x128x512_2_0_01_1_n_n none l r) : (⟨S64x128x8192, .f32⟩ : BufTy).Contents (Elt F) → (⟨S8192x512, .f32⟩ : BufTy).Contents (Elt F) → (⟨S64x128x512, .f32⟩ : BufTy).Contents (Elt F)) ]

/-- All the reference's operations, in order. -/
def ops : List (HloOp τ sig (Elt F)) := ops1 ++ (ops2 ++ (ops3 ++ (ops4 ++ ops5)))

theorem main_seq (d : Dev nD) : main (F := F) d = StableHlo.seq ops := (rfl)

theorem scoped_refs : (Finset.univ.filter fun b : Ref sig .tc => b.isScoped) = ∅ := by decide
theorem scoped_sems : (Finset.univ.filter fun sm : SemLoc sig => sm.isScoped .tc) = ∅ := by decide

theorem ops1_bufs : (ops1 (F := F)).Forall fun op => op.bufs ⊆ StableHlo.tcRefs τ sig := by unfold ops1; simp
theorem ops2_bufs : (ops2 (F := F)).Forall fun op => op.bufs ⊆ StableHlo.tcRefs τ sig := by unfold ops2; simp
theorem ops3_bufs : (ops3 (F := F)).Forall fun op => op.bufs ⊆ StableHlo.tcRefs τ sig := by unfold ops3; simp
theorem ops4_bufs : (ops4 (F := F)).Forall fun op => op.bufs ⊆ StableHlo.tcRefs τ sig := by unfold ops4; simp
theorem ops5_bufs : (ops5 (F := F)).Forall fun op => op.bufs ⊆ StableHlo.tcRefs τ sig := by unfold ops5; simp

theorem ops_bufs : (ops (F := F)).Forall fun op => op.bufs ⊆ StableHlo.tcRefs τ sig :=
  List.forall_append.2 ⟨ops1_bufs, List.forall_append.2 ⟨ops2_bufs, List.forall_append.2 ⟨ops3_bufs, List.forall_append.2 ⟨ops4_bufs, ops5_bufs⟩⟩⟩⟩

theorem ops1_fresh : (ops1 (F := F)).Forall fun op => op.fresh = ∅ := by
  unfold ops1
  repeat' (first | exact rfl | refine ⟨rfl, ?_⟩)
theorem ops2_fresh : (ops2 (F := F)).Forall fun op => op.fresh = ∅ := by
  unfold ops2
  repeat' (first | exact rfl | refine ⟨rfl, ?_⟩)
theorem ops3_fresh : (ops3 (F := F)).Forall fun op => op.fresh = ∅ := by
  unfold ops3
  repeat' (first | exact rfl | refine ⟨rfl, ?_⟩)
theorem ops4_fresh : (ops4 (F := F)).Forall fun op => op.fresh = ∅ := by
  unfold ops4
  repeat' (first | exact rfl | refine ⟨rfl, ?_⟩)
theorem ops5_fresh : (ops5 (F := F)).Forall fun op => op.fresh = ∅ := by
  unfold ops5
  repeat' (first | exact rfl | refine ⟨rfl, ?_⟩)

theorem ops_fresh : ∀ op ∈ ops (F := F), op.fresh = ∅ :=
  List.forall_iff_forall_mem.1 (List.forall_append.2 ⟨ops1_fresh, List.forall_append.2 ⟨ops2_fresh, List.forall_append.2 ⟨ops3_fresh, List.forall_append.2 ⟨ops4_fresh, ops5_fresh⟩⟩⟩⟩)

/-- The reference's run: each buffer ends at the operations' results. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scoped_refs scoped_sems defs main (fun _ => ops) main_seq (fun _ => ops_bufs) m ρ (fun _ => ops_fresh)

theorem after_two (l k : List (HloOp τ sig (Elt F))) (V : Valuation τ sig (Elt F)) :
    StableHlo.after (l ++ k) V = StableHlo.after k (StableHlo.after l V) := by
  induction l generalizing V with
  | nil => rfl
  | cons op l ih => exact ih _

/-- The contents after each stage. -/
def U1 (V : Valuation τ sig (Elt F)) : Valuation τ sig (Elt F) := StableHlo.after ops1 V
def U2 (V : Valuation τ sig (Elt F)) : Valuation τ sig (Elt F) := StableHlo.after ops2 (U1 V)
def U3 (V : Valuation τ sig (Elt F)) : Valuation τ sig (Elt F) := StableHlo.after ops3 (U2 V)
def U4 (V : Valuation τ sig (Elt F)) : Valuation τ sig (Elt F) := StableHlo.after ops4 (U3 V)
def U5 (V : Valuation τ sig (Elt F)) : Valuation τ sig (Elt F) := StableHlo.after ops5 (U4 V)

theorem after_ops (V : Valuation τ sig (Elt F)) : StableHlo.after ops V = U5 V := by
  unfold ops U5 U4 U3 U2 U1
  rw [after_two, after_two, after_two, after_two]

abbrev argRefs : Fin 5 → Ref sig .tc := ![main_arg0, main_arg1, main_arg2, main_arg3, main_arg4]

theorem kept1 (V : Valuation τ sig (Elt F)) (k : Fin 5) : U1 V (Proc.devRef .tc (argRefs k)) = V (Proc.devRef .tc (argRefs k)) := by
  unfold U1 ops1
  fin_cases k <;> (dsimp only [argRefs]; after_reads_simp)
theorem kept2 (V : Valuation τ sig (Elt F)) (k : Fin 5) : U2 V (Proc.devRef .tc (argRefs k)) = V (Proc.devRef .tc (argRefs k)) := by
  rw [← kept1 V k]; unfold U2 ops2
  fin_cases k <;> (dsimp only [argRefs]; after_reads_simp)
theorem kept3 (V : Valuation τ sig (Elt F)) (k : Fin 5) : U3 V (Proc.devRef .tc (argRefs k)) = V (Proc.devRef .tc (argRefs k)) := by
  rw [← kept2 V k]; unfold U3 ops3
  fin_cases k <;> (dsimp only [argRefs]; after_reads_simp)
theorem kept4 (V : Valuation τ sig (Elt F)) (k : Fin 5) : U4 V (Proc.devRef .tc (argRefs k)) = V (Proc.devRef .tc (argRefs k)) := by
  rw [← kept3 V k]; unfold U4 ops4
  fin_cases k <;> (dsimp only [argRefs]; after_reads_simp)
theorem kept5 (V : Valuation τ sig (Elt F)) (k : Fin 5) : U5 V (Proc.devRef .tc (argRefs k)) = V (Proc.devRef .tc (argRefs k)) := by
  rw [← kept4 V k]; unfold U5 ops5
  fin_cases k <;> (dsimp only [argRefs]; after_reads_simp)

/-- The reference ends with its result at the last stage's and its arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = U5 (StableHlo.launchContents m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (run m ρ) fun r h c => by
    have k (b : Ref sig .tc) := (h c b).trans (congrFun (after_ops _) _)
    exact ⟨k _, (k _).trans (kept5 _ 0), (k _).trans (kept5 _ 1), (k _).trans (kept5 _ 2), (k _).trans (kept5 _ 3), (k _).trans (kept5 _ 4)⟩

theorem frame_reference : Cert.quiescent_ReferenceIdeal := fun m ρ _ =>
  θ_run_mono (run_value m ρ) fun _ h => ⟨fun c => (h c).2, sem_eq_zero_of_no_sems rfl _⟩

end Cert.Proof.Ref
-- ==== Proof.Attn.lean ====
/- Attention over the whole arrays, entry by entry: what both programs compute. -/
module

public import Idealize.ShloMosaic.Lib.Pointwise

@[expose] public section

noncomputable section

namespace Cert.Proof

open Idealize.ShloMosaic

/-- The five arrays. -/
structure Arrays where
  X : (⟨3, ![64, 128, 512]⟩ : Shape).Idx → EReal
  Wq : (⟨2, ![512, 8192]⟩ : Shape).Idx → EReal
  K : (⟨4, ![64, 128, 128, 64]⟩ : Shape).Idx → EReal
  V : (⟨4, ![64, 128, 128, 64]⟩ : Shape).Idx → EReal
  Wo : (⟨2, ![8192, 512]⟩ : Shape).Idx → EReal

namespace Arrays

/-- The column of head H's entry d. -/
def col (H : Fin 128) (d : Fin 64) : Fin 8192 := ⟨H.val * 64 + d.val, by omega⟩
/-- The head and the entry of a column. -/
def headOf (m : Fin 8192) : Fin 128 := ⟨m.val / 64, by omega⟩
def entryOf (m : Fin 8192) : Fin 64 := ⟨m.val % 64, by omega⟩

variable (A : Arrays)

/-- The queries. -/
def query (B : Fin 64) (i : Fin 128) (m : Fin 8192) : EReal := ∑ k : Fin 512, A.X (ix3 B i k) * A.Wq (ix2 k m)
/-- The scores, scaled by one eighth. -/
def score (B : Fin 64) (H i j : Fin 128) : EReal :=
  (∑ d : Fin 64, A.query B i (col H d) * A.K (ix4 B j H d)) * Ideal.ofBits .f32 0x3E000000#32
/-- A row's largest score. -/
def top (B : Fin 64) (H i : Fin 128) : EReal :=
  Finset.fold max (Ideal.ofBits .f32 0xFF800000#32) (fun j : Fin 128 => A.score B H i j) Finset.univ
def expo (B : Fin 64) (H i j : Fin 128) : EReal := Ideal.exp (A.score B H i j - A.top B H i)
/-- The weights. -/
def weight (B : Fin 64) (H i j : Fin 128) : EReal := Ideal.div (A.expo B H i j) (∑ j' : Fin 128, A.expo B H i j')
/-- The contexts. -/
def context (B : Fin 64) (H i : Fin 128) (d : Fin 64) : EReal := ∑ j : Fin 128, A.weight B H i j * A.V (ix4 B j H d)
/-- The result. -/
def result (B : Fin 64) (i : Fin 128) (e : Fin 512) : EReal :=
  ∑ m : Fin 8192, A.context B (headOf m) i (entryOf m) * A.Wo (ix2 m e)

end Arrays

end Cert.Proof
-- ==== Proof.Values.lean ====
/- The result's value at Ideal: attention, entry by entry, one chunk's heads after another. -/
module

public import proofs.«01_k».proof.Proof.Region
public import proofs.«01_k».proof.Proof.Attn
public import Idealize.ShloMosaic.Lib.Pipeline.ValueKit.Acc

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The body's arithmetic, entry by entry -/

theorem pay49_at (b : Vec Ideal S1x256x512 .bf16) (z : Vec Ideal S256x256 .bf16) (r : Vec Ideal S256x512 .f32) (p : Fin 256) (e : Fin 512) :
    Gen.k0_pay49 b z r (ix2 p e) = r (ix2 p e) + ∑ t : Fin 256, z (ix2 p t) * b (ix3 0 t e) := by
  unfold Gen.k0_pay49
  pointwise
theorem pay26_at (a : Vec Ideal S1x256x512 .bf16) (x : Vec Ideal S256x512 .bf16) (p : Fin 256) (t : Fin 256) :
    Gen.k0_pay26 a x (ix2 p t) = (∑ k : Fin 512, x (ix2 p k) * a (ix3 0 t k)) * Ideal.ofBits .f32 0x3E000000#32 := by
  unfold Gen.k0_pay26
  pointwise
theorem pay38_at (s : Vec Ideal S1024x128 .f32) (p : Fin 1024) (j : Fin 128) :
    Gen.k0_pay38 s (ix2 p j) = Ideal.div (Ideal.exp (s (ix2 p j) - Finset.fold max (Ideal.ofBits .f32 0xFF800000#32) (fun x : Fin 128 => s (ix2 p x)) Finset.univ))
      (∑ x : Fin 128, Ideal.exp (s (ix2 p x) - Finset.fold max (Ideal.ofBits .f32 0xFF800000#32) (fun x : Fin 128 => s (ix2 p x)) Finset.univ)) := by
  unfold Gen.k0_pay38
  pointwise
theorem pay39_at (v : Vec Ideal S1x128x64 .bf16) (w : Vec Ideal S128x128 .bf16) (i : Fin 128) (d : Fin 64) :
    Gen.k0_pay39 v w (ix2 i d) = ∑ j : Fin 128, w (ix2 i j) * v (ix3 0 j d) := by
  unfold Gen.k0_pay39
  pointwise
theorem sB_at (q : FVec Ideal S256x256 .bf16) (k : Vec Ideal S1x128x64 .bf16) (b : Fin 2) (h : Fin 4) (i j : Fin 128) :
    sB q k b h (ix2 i j) = ∑ d : Fin 64, q (ix2 ⟨128 * b.val + i.val, by omega⟩ ⟨64 * h.val + d.val, by omega⟩) * k (ix3 0 j d) := by
  unfold sB
  pointwise
theorem up_at (a : Vec Ideal S256x512 .bf16) (t : Fin 256) (k : Fin 512) : up a (ix3 0 t k) = a (ix2 t k) := by
  unfold up
  pointwise

/-- A factor one eighth comes out of a sum. -/
theorem eighth_out {n : ℕ} (f g : Fin n → EReal) :
    ∑ d, f d * Ideal.ofBits .f32 0x3E000000#32 * g d = (∑ d, f d * g d) * Ideal.ofBits .f32 0x3E000000#32 := by
  have e : Ideal.ofBits .f32 0x3E000000#32 = (((1 : ℝ) / 8 : ℝ) : EReal) := by
    simp [Ideal.ofBits, Ideal.ieee, -EReal.coe_mul]; norm_num
  have h0 : (0 : EReal) ≤ (((1 : ℝ) / 8 : ℝ) : EReal) := by
    rw [← EReal.coe_zero]; exact EReal.coe_le_coe_iff.2 (by norm_num)
  rw [e]
  have key (s : Finset (Fin n)) : ∑ d ∈ s, f d * (((1 : ℝ) / 8 : ℝ) : EReal) * g d = (∑ d ∈ s, f d * g d) * (((1 : ℝ) / 8 : ℝ) : EReal) := by
    induction s using Finset.induction_on with
    | empty => simp
    | insert a s ha ih =>
      rw [Finset.sum_insert ha, Finset.sum_insert ha, ih, EReal.right_distrib_of_nonneg_of_ne_top h0 (EReal.coe_ne_top _), mul_right_comm]
  exact key _

/-! ## The places -/

/-- The row of sequence b's entry i, its place in the batch, and the head and the column of device n's. -/
def row (b : Fin 2) (i : Fin 128) : Fin 256 := ⟨128 * b.val + i.val, by omega⟩
def seqOf (c : Dev nD) (b : Fin 2) : Fin 64 := ⟨2 * c.val + b.val, by have : c.val < 32 := c.isLt; omega⟩
def head (n : Dev nD) (h : Fin 4) : Fin 128 := ⟨4 * n.val + h.val, by have : n.val < 32 := n.isLt; omega⟩
def mcol (n : Dev nD) (t : Fin 256) : Fin 8192 := ⟨n.val * 256 + t.val, by have : n.val < 32 := n.isLt; omega⟩
def tcol (h : Fin 4) (d : Fin 64) : Fin 256 := ⟨64 * h.val + d.val, by omega⟩

theorem mcol_tcol (n : Dev nD) (h : Fin 4) (d : Fin 64) : mcol n (tcol h d) = Arrays.col (head n h) d := by
  refine Fin.ext ?_
  show n.val * 256 + (64 * h.val + d.val) = (4 * n.val + h.val) * 64 + d.val
  omega

/-- Device c's data are its parts of the arrays A. -/
structure Local (A : Arrays) (c : Dev nD) (ch : Chunks Ideal) (x : Vec Ideal S256x512 .bf16) (Kt Vt : Vec Ideal S256x128x64 .bf16) : Prop where
  xAt : ∀ b i k, x (ix2 (row b i) k) = A.X (ix3 (seqOf c b) i k)
  qAt : ∀ n t k, ch 0 n (ix2 t k) = A.Wq (ix2 k (mcol n t))
  oAt : ∀ n t e, ch 1 n (ix2 t e) = A.Wo (ix2 (mcol n t) e)
  kAt : ∀ b H j d, Kt (ix3 (row b H) j d) = A.K (ix4 (seqOf c b) j H d)
  vAt : ∀ b H j d, Vt (ix3 (row b H) j d) = A.V (ix4 (seqOf c b) j H d)

theorem kTab_at (T : Vec Ideal S256x128x64 .bf16) (n : Dev nD) (b : Fin 2) (h : Fin 4) (j : Fin 128) (d : Fin 64) :
    kTab T n b h (ix3 0 j d) = T (ix3 (row b (head n h)) j d) := by
  refine congrArg T (funext fun a => Fin.ext ?_)
  fin_cases a
  · show 128 * b.val + 4 * n.val + h.val + 1 * 0 = 128 * b.val + (4 * n.val + h.val); omega
  · show 0 + 1 * j.val = j.val; omega
  · show 0 + 1 * d.val = d.val; omega

/-- The chunks met on the way are all the devices', once each. -/
theorem sum_ring (f : Dev nD → EReal) (c : Dev nD) :
    (∑ q ∈ Finset.range 16, (f (org 0 c q) + if 1 ≤ q then f (org 1 c q) else 0)) + f (org 0 c 16) = ∑ n : Dev nD, f n := by
  have e0 (i : ℕ) : org 0 c i = ringAt (pos c + 31 * i) := rfl
  have e1 (i : ℕ) : org 1 c i = ringAt (pos c + i) := rfl
  have s : ∑ n : Dev nD, f n = ∑ k : Fin 32, f (ringAt (pos c + k.val)) := by
    refine (Function.Bijective.sum_comp (e := fun k : Fin 32 => ringAt (pos c + k.val)) ?_ f).symm
    clear e0 e1; revert c; decide +kernel
  rw [s, Fin.sum_univ_eq_sum_range (fun k => f (ringAt (pos c + k))) 32]
  have up' : ∑ q ∈ Finset.range 16, (if 1 ≤ q then f (org 1 c q) else 0) = ∑ q ∈ Finset.range 15, f (ringAt (pos c + (q + 1))) := by
    rw [Finset.sum_range_succ']; simp [e1]
  have down : ∑ q ∈ Finset.range 16, f (org 0 c (q + 1)) = ∑ q ∈ Finset.range 16, f (ringAt (pos c + (q + 16))) := by
    rw [← Finset.sum_range_reflect]
    refine Finset.sum_congr rfl fun q hq => ?_
    have hq := Finset.mem_range.1 hq
    rw [e0]
    exact congrArg f (ringAt_congr (by omega))
  have all0 : (∑ q ∈ Finset.range 16, f (org 0 c q)) + f (org 0 c 16) = f (org 0 c 0) + ∑ q ∈ Finset.range 16, f (org 0 c (q + 1)) := by
    rw [← Finset.sum_range_succ, Finset.sum_range_succ', add_comm]
  rw [Finset.sum_add_distrib, add_right_comm, all0, up', down, show (32 : ℕ) = 16 + 16 from rfl, Finset.sum_range_add, Finset.sum_range_succ' (fun q => f (ringAt (pos c + q))) 15,
    show org 0 c 0 = ringAt (pos c + 0) from rfl]
  have e : ∑ q ∈ Finset.range 16, f (ringAt (pos c + (q + 16))) = ∑ q ∈ Finset.range 16, f (ringAt (pos c + (16 + q))) :=
    Finset.sum_congr rfl fun q _ => by rw [Nat.add_comm q 16]
  rw [e]
  abel

/-- The row of the stacked scores. -/
def srow (b : Fin 2) (h : Fin 4) (i : Fin 128) : Fin 1024 := ⟨128 * (4 * b.val + h.val) + i.val, by omega⟩

theorem window_row (w : Vec Ideal S1024x128 .bf16) (b : Fin 2) (h : Fin 4) (i j : Fin 128) :
    VecWindow.window w ![128 * (4 * b.val + h.val), 0] S128x128.size (inb_S b h) (ix2 i j) = w (ix2 (srow b h i) j) := by
  refine congrArg w (funext fun a => Fin.ext ?_)
  fin_cases a
  · show 128 * (4 * b.val + h.val) + 1 * i.val = 128 * (4 * b.val + h.val) + i.val; omega
  · show 0 + 1 * j.val = j.val; omega

theorem zAll_at (w : Vec Ideal S1024x128 .bf16) (vv : Fin 2 → Fin 4 → Vec Ideal S1x128x64 .bf16) (b : Fin 2) (h : Fin 4) (i : Fin 128) (d : Fin 64) :
    zAll w vv (ix2 (row b i) (tcol h d)) = ∑ j : Fin 128, w (ix2 (srow b h i) j) * vv b h (ix3 0 j d) := by
  have e : tileOf (ix2 (row b i) (tcol h d)) = 4 * b.val + h.val := by
    show 4 * ((128 * b.val + i.val) / 128) + (64 * h.val + d.val) / 64 = _; omega
  have e' : tileIn (ix2 (row b i) (tcol h d)) = ix2 i d := by
    refine funext fun a => Fin.ext ?_
    fin_cases a
    · show (128 * b.val + i.val) % 128 = i.val; omega
    · show (64 * h.val + d.val) % 64 = d.val; omega
  unfold zAll
  rw [e, e', nB_eq, nH_eq]
  unfold wB
  rw [pay39_at]
  exact Finset.sum_congr rfl fun j _ => congrArg (· * _) (window_row w b h i j)

section Local
variable {A : Arrays} {c : Dev nD} {ch : Chunks Ideal} {x : Vec Ideal S256x512 .bf16} {Kt Vt : Vec Ideal S256x128x64 .bf16} (L : Local A c ch x Kt Vt)
include L

theorem query_row (n : Dev nD) (b : Fin 2) (i : Fin 128) (t : Fin 256) :
    Gen.k0_pay26 (up (ch 0 n)) x (ix2 (row b i) t) = A.query (seqOf c b) i (mcol n t) * Ideal.ofBits .f32 0x3E000000#32 := by
  rw [pay26_at]
  refine congrArg (· * _) (Finset.sum_congr rfl fun k _ => ?_)
  rw [L.xAt, up_at, L.qAt]

theorem score_row (n : Dev nD) (b : Fin 2) (h : Fin 4) (i j : Fin 128) :
    sAll (Gen.k0_pay26 (up (ch 0 n)) x) (kTab Kt n) (ix2 (srow b h i) j) = A.score (seqOf c b) (head n h) i j := by
  have e : (srow b h i).val / 128 = 4 * b.val + h.val := by show (128 * (4 * b.val + h.val) + i.val) / 128 = _; omega
  have e' : rowIn (ix2 (srow b h i) j) = ix2 i j := by
    refine funext fun a => Fin.ext ?_
    fin_cases a
    · show (128 * (4 * b.val + h.val) + i.val) % 128 = i.val; omega
    · show j.val % 128 = j.val; omega
  show sB _ (kTab Kt n (nB ((srow b h i).val / 128)) (nH ((srow b h i).val / 128))) (nB ((srow b h i).val / 128)) (nH ((srow b h i).val / 128)) (rowIn (ix2 (srow b h i) j)) = _
  rw [e, e', nB_eq, nH_eq, sB_at]
  unfold Arrays.score
  rw [← eighth_out]
  refine Finset.sum_congr rfl fun d _ => ?_
  rw [kTab_at, L.kAt, ← mcol_tcol]
  exact congrArg (· * _) (query_row L n b i (tcol h d))

theorem weight_row (n : Dev nD) (b : Fin 2) (h : Fin 4) (i j : Fin 128) :
    Gen.k0_pay38 (sAll (Gen.k0_pay26 (up (ch 0 n)) x) (kTab Kt n)) (ix2 (srow b h i) j) = A.weight (seqOf c b) (head n h) i j := by
  rw [pay38_at]
  simp only [score_row L n b h i]
  rfl

theorem context_row (n : Dev nD) (b : Fin 2) (h : Fin 4) (i : Fin 128) (d : Fin 64) :
    zPart ch x Kt Vt n (ix2 (row b i) (tcol h d)) = A.context (seqOf c b) (head n h) i d := by
  unfold zPart
  rw [zAll_at]
  refine Finset.sum_congr rfl fun j _ => ?_
  rw [kTab_at, L.vAt, weight_row L]

/-- One chunk's part of the result. -/
def term (A : Arrays) (B : Fin 64) (i : Fin 128) (e : Fin 512) (n : Dev nD) : EReal :=
  ∑ t : Fin 256, A.context B (Arrays.headOf (mcol n t)) i (Arrays.entryOf (mcol n t)) * A.Wo (ix2 (mcol n t) e)

theorem part_row (n : Dev nD) (r : Vec Ideal S256x512 .f32) (b : Fin 2) (i : Fin 128) (e : Fin 512) :
    part ch x Kt Vt n r (ix2 (row b i) e) = r (ix2 (row b i) e) + term A (seqOf c b) i e n := by
  unfold part
  rw [pay49_at]
  refine congrArg (_ + ·) (Finset.sum_congr rfl fun t _ => ?_)
  rw [up_at, L.oAt]
  refine congrArg (· * _) ?_
  have et : t = tcol ⟨t.val / 64, by omega⟩ ⟨t.val % 64, by omega⟩ := Fin.ext (show t.val = 64 * (t.val / 64) + t.val % 64 by omega)
  rw [et, context_row L, ← et]
  have h1 : head n ⟨t.val / 64, by omega⟩ = Arrays.headOf (mcol n t) := Fin.ext (show 4 * n.val + t.val / 64 = (n.val * 256 + t.val) / 64 by omega)
  have h2 : (⟨t.val % 64, by omega⟩ : Fin 64) = Arrays.entryOf (mcol n t) := Fin.ext (show t.val % 64 = (n.val * 256 + t.val) % 64 by omega)
  rw [h1, h2]

/-! ## All the parts -/

theorem acc_row (b : Fin 2) (i : Fin 128) (e : Fin 512) (h : ℕ) :
    acc ch x Kt Vt c h (ix2 (row b i) e) = ∑ q ∈ Finset.range h, (term A (seqOf c b) i e (org 0 c q) + if 1 ≤ q then term A (seqOf c b) i e (org 1 c q) else 0) := by
  induction h with
  | zero =>
    show Ideal.ofBits .f32 0x00000000#32 = _
    simp
  | succ h ih =>
    rw [Finset.sum_range_succ, ← ih]
    show accStep ch x Kt Vt c h (acc ch x Kt Vt c h) _ = _
    unfold accStep
    by_cases h1 : 1 ≤ h
    · rw [if_pos h1, if_pos h1, part_row L, part_row L, add_assoc]
    · rw [if_neg h1, if_neg h1, part_row L, add_zero]

/-- The result, entry by entry. -/
theorem fin_row (b : Fin 2) (i : Fin 128) (e : Fin 512) : fin ch x Kt Vt c (ix2 (row b i) e) = A.result (seqOf c b) i e := by
  unfold fin
  rw [part_row L, acc_row L, sum_ring]
  exact Fin.sum_mul_add_fin 32 256 (fun m : Fin 8192 => A.context (seqOf c b) (Arrays.headOf m) i (Arrays.entryOf m) * A.Wo (ix2 m e)) rfl

end Local

end Cert.Proof
-- ==== Proof.Reads.lean ====
/- What the host's operations around the call hand over and take back. -/
module

public import proofs.«01_k».proof.Proof.Frames
public import proofs.«01_k».proof.Proof.Values

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (c : Dev nD) (m : (ℓ : Loc nD τ sig) → Buf (Elt F) ℓ)

theorem at_entry (r : Ref sig .tc) (h1 : r ∉ Gen.hostOps0_1_W) (h2 : r ∉ Gen.hostOps0_2_W) (h3 : r ∉ Gen.hostOps0_3_W) (h4 : r ∉ Gen.hostOps0_4_W)
    (h5 : r ∉ Gen.hostOps0_5_W) (h6 : r ∉ Gen.hostOps0_6_W) (h7 : r ∉ Gen.hostOps0_7_W) (h8 : r ∉ Gen.hostOps0_8_W) : Gen.V9 m c r = Gen.V1 m c r :=
  (Gen.V9_of m c r h8).trans <| (Gen.V8_of m c r h7).trans <| (Gen.V7_of m c r h6).trans <| (Gen.V6_of m c r h5).trans <| (Gen.V5_of m c r h4).trans <|
    (Gen.V4_of m c r h3).trans <| (Gen.V3_of m c r h2).trans (Gen.V2_of m c r h1)

theorem row_div (b : Fin 2) (i : Fin 128) : (row b i).val / 128 = b.val := by show (128 * b.val + i.val) / 128 = b.val; omega
theorem row_mod (b : Fin 2) (i : Fin 128) : (row b i).val % 128 = i.val := by show (128 * b.val + i.val) % 128 = i.val; omega

theorem x_read (b : Fin 2) (i : Fin 128) (k : Fin 512) :
    Gen.V1 m c main_v5 (ix2 (row b i) k) = m ((c.tc : Thread nD τ).loc main_arg0) (ix3 b i k) := by
  show StableHlo.after (Gen.hostOps0 c) (Gen.V0 m c) (Proc.devRef .tc main_v5) (ix2 (row b i) k) = _
  after_reads_at
  refine congrArg (m ((c.tc : Thread nD τ).loc main_arg0)) (funext fun a => Fin.ext ?_)
  fin_cases a
  · exact row_div b i
  · exact row_mod b i
  · rfl

theorem q_read (t : Fin 256) (k : Fin 512) :
    Gen.V1 m c main_v7 (ix2 (⟨t.val, by omega⟩ : Fin 512) k) = m ((c.tc : Thread nD τ).loc main_arg1) (ix2 k t) := by
  show StableHlo.after (Gen.hostOps0 c) (Gen.V0 m c) (Proc.devRef .tc main_v7) (ix2 (⟨t.val, by omega⟩ : Fin 512) k) = _
  after_reads_simp
  rw [concatenate_apply]
  pointwise
  done

theorem o_read (t : Fin 256) (k : Fin 512) :
    Gen.V1 m c main_v7 (ix2 (⟨256 + t.val, by omega⟩ : Fin 512) k) = m ((c.tc : Thread nD τ).loc main_arg4) (ix2 t k) := by
  show StableHlo.after (Gen.hostOps0 c) (Gen.V0 m c) (Proc.devRef .tc main_v7) (ix2 (⟨256 + t.val, by omega⟩ : Fin 512) k) = _
  after_reads_simp
  rw [concatenate_apply]
  pointwise
  done

theorem slice_row {α : Type} (T : S64x128x128x64.Idx → α) (st : Fin 4 → Int) (hs) (h0 : st 0 = ((2 * c.val : ℕ) : Int)) (h1 : st 1 = ((0 : ℕ) : Int)) (h2 : st 2 = ((0 : ℕ) : Int)) (h3 : st 3 = ((0 : ℕ) : Int))
    (b : Fin 2) (j H : Fin 128) (d : Fin 64) : Host.dynamicSlice S2x128x128x64 T st hs (ix4 b j H d) = T (ix4 (seqOf c b) j H d) := by
  have hc : c.val < 32 := c.isLt
  rw [Host.dynamicSlice_apply]
  refine congrArg T (funext fun a => Fin.ext ?_)
  fin_cases a
  · exact congrArg (· + b.val) (Host.clampedStart_of_le _ _ 0 (2 * c.val) h0 (by show 2 * c.val + 2 ≤ 64; omega))
  · exact (congrArg (· + j.val) (Host.clampedStart_of_le _ _ 1 0 h1 (by show 0 + 128 ≤ 128; omega))).trans (Nat.zero_add _)
  · exact (congrArg (· + H.val) (Host.clampedStart_of_le _ _ 2 0 h2 (by show 0 + 128 ≤ 128; omega))).trans (Nat.zero_add _)
  · exact (congrArg (· + d.val) (Host.clampedStart_of_le _ _ 3 0 h3 (by show 0 + 64 ≤ 64; omega))).trans (Nat.zero_add _)

/-- Rows of heads: the rows of a table, transposed. -/
theorem heads_at {α : Type} (T : S2x128x128x64.Idx → α) (h) (h') (b : Fin 2) (H j : Fin 128) (d : Fin 64) :
    shapeCast S256x128x64 (transpose S2x128x128x64 [0, 2, 1, 3] T h) h' (ix3 (row b H) j d) = T (ix4 b j H d) := by
  pointwise
  refine congrArg T (funext fun a => Fin.ext ?_)
  fin_cases a
  · exact row_div b H
  · rfl
  · exact row_mod b H
  · rfl

/-- The first of a device's sequences, as the host computes it. -/
def baseW (d : BitVec 32) : S_.Idx → BitVec 32 :=
  muli (id (Host.remui (Host.divui (constantI S_ 32 d) (constantI S_ 32 1#32)) (constantI S_ 32 32#32))) (constantI S_ 32 2#32)
theorem base_words (n : Fin 32) :
    select (cmpi .slt (baseW (Dev.word n)) (constantI S_ 32 0#32)) (addi (baseW (Dev.word n)) (constantI S_ 32 64#32)) (baseW (Dev.word n)) (Shape.Idx.first Gen.h_S_)
      = BitVec.ofNat 32 (2 * n.val) := by revert n; decide +kernel

theorem k_read (b : Fin 2) (H j : Fin 128) (d : Fin 64) :
    Gen.V1 m c main_v18 (ix3 (row b H) j d) = m ((c.tc : Thread nD τ).loc main_arg2) (ix4 (seqOf c b) j H d) := by
  show StableHlo.after (Gen.hostOps0 c) (Gen.V0 m c) (Proc.devRef .tc main_v18) (ix3 (row b H) j d) = _
  after_reads_simp
  refine (heads_at _ _ _ b H j d).trans (slice_row c _ _ _ ?_ ?_ ?_ ?_ b j H d)
  · show BitVec.toInt (StableHlo.upto (Gen.hostOps0 c) (Gen.V0 m c) 21 (Proc.devRef .tc main_v11) (Shape.Idx.first Gen.h_S_)) = _
    after_reads_simp
    exact Eq.trans (congrArg BitVec.toInt (base_words c)) (toInt_ofNat_of_lt (by have : c.val < 32 := c.isLt; omega))
  · show BitVec.toInt (StableHlo.upto (Gen.hostOps0 c) (Gen.V0 m c) 21 (Proc.devRef .tc main_c_6) (Shape.Idx.first Gen.h_S_)) = _
    after_reads_simp
    rfl
  · show BitVec.toInt (StableHlo.upto (Gen.hostOps0 c) (Gen.V0 m c) 21 (Proc.devRef .tc main_c_7) (Shape.Idx.first Gen.h_S_)) = _
    after_reads_simp
    rfl
  · show BitVec.toInt (StableHlo.upto (Gen.hostOps0 c) (Gen.V0 m c) 21 (Proc.devRef .tc main_c_8) (Shape.Idx.first Gen.h_S_)) = _
    after_reads_simp
    rfl

theorem v_read (b : Fin 2) (H j : Fin 128) (d : Fin 64) :
    Gen.V1 m c main_v20 (ix3 (row b H) j d) = m ((c.tc : Thread nD τ).loc main_arg3) (ix4 (seqOf c b) j H d) := by
  show StableHlo.after (Gen.hostOps0 c) (Gen.V0 m c) (Proc.devRef .tc main_v20) (ix3 (row b H) j d) = _
  after_reads_simp
  refine (heads_at _ _ _ b H j d).trans (slice_row c _ _ _ ?_ ?_ ?_ ?_ b j H d)
  · show BitVec.toInt (StableHlo.upto (Gen.hostOps0 c) (Gen.V0 m c) 30 (Proc.devRef .tc main_v15) (Shape.Idx.first Gen.h_S_)) = _
    after_reads_simp
    exact Eq.trans (congrArg BitVec.toInt (base_words c)) (toInt_ofNat_of_lt (by have : c.val < 32 := c.isLt; omega))
  · show BitVec.toInt (StableHlo.upto (Gen.hostOps0 c) (Gen.V0 m c) 30 (Proc.devRef .tc main_c_11) (Shape.Idx.first Gen.h_S_)) = _
    after_reads_simp
    rfl
  · show BitVec.toInt (StableHlo.upto (Gen.hostOps0 c) (Gen.V0 m c) 30 (Proc.devRef .tc main_c_12) (Shape.Idx.first Gen.h_S_)) = _
    after_reads_simp
    rfl
  · show BitVec.toInt (StableHlo.upto (Gen.hostOps0 c) (Gen.V0 m c) 30 (Proc.devRef .tc main_c_13) (Shape.Idx.first Gen.h_S_)) = _
    after_reads_simp
    rfl

theorem out_read (b : Fin 2) (i : Fin 128) (e : Fin 512) :
    Gen.V11 m (outs m) c main_v66 (ix3 b i e) = res (Gen.V9 m) c (ix2 (row b i) e) := by
  have h : Gen.V10 m (outs m) c main_v65 = res (Gen.V9 m) c := (congrFun (after_region m c) _).trans (Function.update_self _ _ _)
  rw [← h]
  show StableHlo.after Gen.hostOps1 (Gen.V10 m (outs m) c) (Proc.devRef .tc main_v66) (ix3 b i e) = _
  after_reads_at
  exact congrArg (Gen.V10 m (outs m) c (Proc.devRef .tc main_v65)) (congrArg (fun k : Fin 256 => ix2 k e) (Fin.ext (show b.val * 128 + i.val = 128 * b.val + i.val by omega)))

end Cert.Proof
-- ==== Proof.RefValue.lean ====
/- The reference's value at Ideal: attention, entry by entry. -/
module

public import proofs.«01_k».proof.Proof.RefRun
public import proofs.«01_k».proof.Proof.Attn

@[expose] public section

set_option maxRecDepth 16384

noncomputable section

namespace Cert.Proof.Ref

open Cert.ReferenceIdeal Cert.ReferenceIdeal.Facts₀
open Idealize.ShloMosaic Idealize.ShloMosaic.TcCoe Idealize.ShloMosaic.Tactic Idealize.SL.Sem

abbrev Con : Type := Valuation τ sig (Elt Ideal)

/-- The arrays that the reference finds in its arguments. -/
def arrays (V : Con) : Arrays where
  X := V main_arg0
  Wq := V main_arg1
  K := V main_arg2
  V := V main_arg3
  Wo := V main_arg4

variable (V : Con)

theorem mask_true (i j : Fin 128) : (U1 V main_v20 : S128x128.Idx → BitVec 1) (ix2 i j) = 1#1 := by
  unfold U1 ops1
  after_reads_at
  revert i j
  decide +kernel

theorem query_at (B : Fin 64) (i H : Fin 128) (d : Fin 64) :
    (U1 V main_v2 : S64x128x128x64.Idx → EReal) (ix4 B i H d) = (arrays V).query B i (Arrays.col H d) := by
  unfold U1 ops1
  after_reads_at
  rfl

theorem score_at (B : Fin 64) (H i j : Fin 128) : (U2 V main_v27 : S64x128x128x128.Idx → EReal) (ix4 B H i j) = (arrays V).score B H i j := by
  have hk : U1 V main_arg2 = V main_arg2 := kept1 V 2
  have hm := mask_true V i j
  have hq := query_at V B i H
  unfold U2 ops2
  after_reads_at
  rw [hm, hk]
  simp only [hq]
  rfl

theorem mask2 : U2 V main_v20 = U1 V main_v20 := by
  unfold U2 ops2
  after_reads_simp

theorem mask3 : U3 V main_v20 = U1 V main_v20 := by
  rw [← mask2]
  unfold U3 ops3
  after_reads_simp

theorem expo_at (B : Fin 64) (H i j : Fin 128) : (U3 V main_v32 : S64x128x128x128.Idx → EReal) (ix4 B H i j) = (arrays V).expo B H i j := by
  have hs := score_at V B H i
  unfold U3 ops3
  after_reads_at
  simp only [hs]
  rfl

theorem any_true (i : Fin 128) : Finset.fold IntOp.ori 0#1 (fun j : Fin 128 => (U3 V main_v20 : S128x128.Idx → BitVec 1) (ix2 i j)) Finset.univ = 1#1 := by
  rw [mask3]
  rw [show (fun j : Fin 128 => (U1 V main_v20 : S128x128.Idx → BitVec 1) (ix2 i j)) = fun _ => 1#1 from funext fun j => mask_true V i j]
  decide +kernel

theorem weight_at (B : Fin 64) (H i j : Fin 128) : (U4 V main_v41 : S64x128x128x128.Idx → EReal) (ix4 B H i j) = (arrays V).weight B H i j := by
  have he := expo_at V B H i
  have ha := any_true V i
  unfold U4 ops4
  after_reads_at
  rw [ha]
  simp only [he]
  rfl

set_option maxHeartbeats 4000000 in
theorem result_at (B : Fin 64) (i : Fin 128) (e : Fin 512) : (U5 V main_v47 : S64x128x512.Idx → EReal) (ix3 B i e) = (arrays V).result B i e := by
  have h3 : U4 V main_arg3 = V main_arg3 := kept4 V 3
  have h4 : U4 V main_arg4 = V main_arg4 := kept4 V 4
  have hw := fun H => weight_at V B H i
  unfold U5 ops5
  after_reads_at
  rw [h3, h4]
  simp only [hw]
  refine Finset.sum_congr rfl fun m _ => congrArg (· * _) (Finset.sum_congr rfl fun j _ => mul_comm _ _)

end Cert.Proof.Ref
-- ==== Proof.Equal.lean ====
/- The kernel's result is the reference's. -/
module

public import proofs.«01_k».proof.Proof.Reads
public import proofs.«01_k».proof.Proof.RefValue

@[expose] public section

set_option maxRecDepth 16384

noncomputable section

namespace Cert.Proof

open Cert.KernelIdeal Cert.KernelIdeal.Facts₀
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (c : Dev nD)

/-! ## Blocks of the whole arrays, read at an index -/

theorem block_three (v : (⟨3, ![64, 128, 512]⟩ : Shape).Idx → EReal) (b : Fin 2) (i : Fin 128) (e : Fin 512) :
    Layout.block ⟨3, ![2, 128, 512]⟩ ⟨3, ![64, 128, 512]⟩ 0 32 c v (by decide) (ix3 b i e) = v (ix3 (seqOf c b) i e) := by
  refine congrArg v (funext fun a => Fin.ext ?_)
  rw [Layout.Tiles.idx_val]
  fin_cases a
  · show c.val * 2 + b.val = 2 * c.val + b.val; omega
  · rfl
  · rfl
theorem block_cols (v : (⟨2, ![512, 8192]⟩ : Shape).Idx → EReal) (k : Fin 512) (t : Fin 256) :
    Layout.block ⟨2, ![512, 256]⟩ ⟨2, ![512, 8192]⟩ 1 32 c v (by decide) (ix2 k t) = v (ix2 k (mcol c t)) := by
  refine congrArg v (funext fun a => Fin.ext ?_)
  rw [Layout.Tiles.idx_val]
  fin_cases a
  · rfl
  · rfl
theorem block_rows (v : (⟨2, ![8192, 512]⟩ : Shape).Idx → EReal) (t : Fin 256) (e : Fin 512) :
    Layout.block ⟨2, ![256, 512]⟩ ⟨2, ![8192, 512]⟩ 0 32 c v (by decide) (ix2 t e) = v (ix2 (mcol c t) e) := by
  refine congrArg v (funext fun a => Fin.ext ?_)
  rw [Layout.Tiles.idx_val]
  fin_cases a
  · rfl
  · rfl

variable (m : (ℓ : Loc nD τ sig) → Buf (Elt Ideal) ℓ)

/-! ## What the call is given -/

theorem half_at (V : Dev nD → Valuation τ sig (Elt Ideal)) (hf : Fin 2) (n : Dev nD) (t : Fin 256) (k : Fin 512) :
    chs V hf n (ix2 t k) = cs V n (ix2 ⟨256 * hf.val + t.val, by omega⟩ k) := by
  refine congrArg (cs V n) (funext fun a => Fin.ext ?_)
  fin_cases a
  · rfl
  · exact Nat.zero_add _

theorem local_of {A : Arrays}
    (hX : ∀ c : Dev nD, m ((c.tc : Thread nD τ).loc main_arg0) = Layout.block ⟨3, ![2, 128, 512]⟩ ⟨3, ![64, 128, 512]⟩ 0 32 c A.X (by decide))
    (hQ : ∀ c : Dev nD, m ((c.tc : Thread nD τ).loc main_arg1) = Layout.block ⟨2, ![512, 256]⟩ ⟨2, ![512, 8192]⟩ 1 32 c A.Wq (by decide))
    (hK : ∀ c : Dev nD, m ((c.tc : Thread nD τ).loc main_arg2) = A.K) (hV : ∀ c : Dev nD, m ((c.tc : Thread nD τ).loc main_arg3) = A.V)
    (hO : ∀ c : Dev nD, m ((c.tc : Thread nD τ).loc main_arg4) = Layout.block ⟨2, ![256, 512]⟩ ⟨2, ![8192, 512]⟩ 0 32 c A.Wo (by decide)) :
    Local A c (chs (Gen.V9 m)) (xs (Gen.V9 m) c) (ks (Gen.V9 m) c) (vs (Gen.V9 m) c) where
  xAt b i k := by
    refine (congrFun (at_entry c m main_v5 (by decide) (by decide) (by decide) (by decide) (by decide) (by decide) (by decide) (by decide)) _).trans ?_
    refine (x_read c m b i k).trans ?_
    rw [hX]; exact block_three c A.X b i k
  qAt n t k := by
    refine (half_at _ 0 n t k).trans ?_
    refine (congrFun (at_entry n m main_v7 (by decide) (by decide) (by decide) (by decide) (by decide) (by decide) (by decide) (by decide)) _).trans ?_
    refine Eq.trans (congrArg (Gen.V1 m n main_v7) (congrArg (fun p : Fin 512 => ix2 p k) (Fin.ext (show 256 * 0 + t.val = t.val by omega)))) ((q_read n m t k).trans ?_)
    rw [hQ]; exact block_cols n A.Wq k t
  oAt n t e := by
    refine (half_at _ 1 n t e).trans ?_
    refine (congrFun (at_entry n m main_v7 (by decide) (by decide) (by decide) (by decide) (by decide) (by decide) (by decide) (by decide)) _).trans ?_
    refine Eq.trans (congrArg (Gen.V1 m n main_v7) (congrArg (fun p : Fin 512 => ix2 p e) (Fin.ext (show 256 * 1 + t.val = 256 + t.val by omega)))) ((o_read n m t e).trans ?_)
    rw [hO]; exact block_rows n A.Wo t e
  kAt b H j d := by
    refine (congrFun (at_entry c m main_v18 (by decide) (by decide) (by decide) (by decide) (by decide) (by decide) (by decide) (by decide)) _).trans ?_
    refine (k_read c m b H j d).trans ?_
    rw [hK]
  vAt b H j d := by
    refine (congrFun (at_entry c m main_v20 (by decide) (by decide) (by decide) (by decide) (by decide) (by decide) (by decide) (by decide)) _).trans ?_
    refine (v_read c m b H j d).trans ?_
    rw [hV]

/-- Both programs compute the same array over the reals with infinities: the kernel leaves each device its block of the reference's result. -/
theorem algebraic : Cert.algebraic_KernelIdeal_ReferenceIdeal := by
  intro m g m' g' _ hag
  refine ⟨Ref.U5 (StableHlo.launchContents m' 0) (Proc.devRef .tc Cert.ReferenceIdeal.main_v47), ?_, ?_⟩
  · refine θ_run_mono (run_frame m g) fun r h c => ⟨(h.1 c).1.trans ?_, (h.1 c).2⟩
    have L := local_of c m (A := Ref.arrays (StableHlo.launchContents m' 0)) (fun c => (hag c).1) (fun c => (hag c).2.1) (fun c => (hag c).2.2.1) (fun c => (hag c).2.2.2.1) (fun c => (hag c).2.2.2.2)
    funext x
    obtain ⟨b, i, e, rfl⟩ : ∃ (b : Fin 2) (i : Fin 128) (e : Fin 512), x = ix3 b i e := ⟨x 0, x 1, x 2, funext fun a => by fin_cases a <;> rfl⟩
    refine (out_read c m b i e).trans ?_
    refine (fin_row L b i e).trans ?_
    refine (Ref.result_at _ (seqOf c b) i e).symm.trans ?_
    exact (block_three c _ b i e).symm
  · exact θ_run_mono (Ref.run_value m' g') fun r h => h 0

end Cert.Proof
-- ==== Proof.lean ====
/- The proof of the certificate's claims, from the modules of Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.RefRun
public import proofs.«01_k».proof.Proof.Equal

@[expose] public section

noncomputable section

theorem Cert.Proof.claim : Cert.Claim :=
  ⟨Cert.Kernel.Gen.facts, Cert.KernelIdeal.Gen.facts, Cert.ReferenceIdeal.Gen.facts,
    Cert.Proof.frame_kernel, Cert.Proof.frame_ideal, Cert.Proof.Ref.frame_reference, trivial, Cert.Proof.algebraic⟩

end
